-- ==== Defs.lean ====
def Pre_Sort (m : (ℓ : Loc Cert.Sort.nD Cert.Sort.τ Cert.Sort.sig) → Buf (Elt Bits) ℓ) : Prop :=
  True

def Pre_Sort_probs_range [hPre_probs_range : Cert.Pre_probs_range.Facts] (m : (ℓ : Loc Cert.Sort.nD Cert.Sort.τ Cert.Sort.sig) → Buf (Elt Bits) ℓ) : Prop :=
  ∀ c : Dev Cert.Sort.nD,
    (Cert.Pre_probs_range.fn (F := Bits) (m ((c.tc : Thread Cert.Sort.nD Cert.Sort.τ).loc Cert.Sort.main_arg0))) = (fun _ => 1#1)

def Pre_SortRef [hPre_probs_range : Cert.Pre_probs_range.Facts] (m : (ℓ : Loc Cert.SortRef.nD Cert.SortRef.τ Cert.SortRef.sig) → Buf (Elt Bits) ℓ) : Prop :=
  ∀ c : Dev Cert.SortRef.nD,
    (Cert.Pre_probs_range.fn (F := Bits) (m ((c.tc : Thread Cert.SortRef.nD Cert.SortRef.τ).loc Cert.SortRef.main_arg0))) = (fun _ => 1#1)

def Pre_Score (m : (ℓ : Loc Cert.Score.nD Cert.Score.τ Cert.Score.sig) → Buf (Elt Bits) ℓ) : Prop :=
  True

def Pre_ScoreIdeal (m : (ℓ : Loc Cert.ScoreIdeal.nD Cert.ScoreIdeal.τ Cert.ScoreIdeal.sig) → Buf (Elt Ideal) ℓ) : Prop :=
  True

def Pre_ScoreRefIdeal (m : (ℓ : Loc Cert.ScoreRefIdeal.nD Cert.ScoreRefIdeal.τ Cert.ScoreRefIdeal.sig) → Buf (Elt Ideal) ℓ) : Prop :=
  True

def quiescent_Sort [hSort : Cert.Sort.Facts] : Prop :=
  ∀ (m : (ℓ : Loc Cert.Sort.nD Cert.Sort.τ Cert.Sort.sig) → Buf (Elt Bits) ℓ) (g : Dev Cert.Sort.nD → PrngReg), Pre_Sort m →
    θ_run (Cert.Sort.defs (F := Bits)) (Cert.Sort.threads (F := Bits)) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0))
      ∧ r.2.sem = fun _ => 0)

def quiescent_Sort_pre_probs_range [hSort : Cert.Sort.Facts] [hPre_probs_range : Cert.Pre_probs_range.Facts] : Prop :=
  ∀ (m : (ℓ : Loc Cert.Sort.nD Cert.Sort.τ Cert.Sort.sig) → Buf (Elt Bits) ℓ) (g : Dev Cert.Sort.nD → PrngReg), Pre_Sort_probs_range m →
    θ_run (Cert.Sort.defs (F := Bits)) (Cert.Sort.threads (F := Bits)) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0))
      ∧ r.2.sem = fun _ => 0)

def quiescent_SortRef [hSortRef : Cert.SortRef.Facts] [hPre_probs_range : Cert.Pre_probs_range.Facts] : Prop :=
  ∀ (m : (ℓ : Loc Cert.SortRef.nD Cert.SortRef.τ Cert.SortRef.sig) → Buf (Elt Bits) ℓ) (g : Dev Cert.SortRef.nD → PrngReg), Pre_SortRef m →
    θ_run (Cert.SortRef.defs (F := Bits)) (onTc (τ := Cert.SortRef.τ) (Cert.SortRef.main (F := Bits))) ⟨m, fun _ => 0, g⟩ (fun r => (∀ c : Dev Cert.SortRef.nD,
      r.2.mem ((c.tc : Thread Cert.SortRef.nD Cert.SortRef.τ).loc Cert.SortRef.main_arg0) = m ((c.tc : Thread Cert.SortRef.nD Cert.SortRef.τ).loc Cert.SortRef.main_arg0))
      ∧ r.2.sem = fun _ => 0)

def quiescent_Score [hScore : Cert.Score.Facts] : Prop :=
  ∀ (m : (ℓ : Loc Cert.Score.nD Cert.Score.τ Cert.Score.sig) → Buf (Elt Bits) ℓ) (g : Dev Cert.Score.nD → PrngReg), Pre_Score m →
    θ_run (Cert.Score.defs (F := Bits)) (onTc (τ := Cert.Score.τ) (Cert.Score.main (F := Bits))) ⟨m, fun _ => 0, g⟩ (fun r => (∀ c : Dev Cert.Score.nD,
      r.2.mem ((c.tc : Thread Cert.Score.nD Cert.Score.τ).loc Cert.Score.main_arg0) = m ((c.tc : Thread Cert.Score.nD Cert.Score.τ).loc Cert.Score.main_arg0)
      ∧ r.2.mem ((c.tc : Thread Cert.Score.nD Cert.Score.τ).loc Cert.Score.main_arg1) = m ((c.tc : Thread Cert.Score.nD Cert.Score.τ).loc Cert.Score.main_arg1))
      ∧ r.2.sem = fun _ => 0)

def quiescent_ScoreIdeal [hScoreIdeal : Cert.ScoreIdeal.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1))
      ∧ r.2.sem = fun _ => 0)

def quiescent_ScoreRefIdeal [hScoreRefIdeal : Cert.ScoreRefIdeal.Facts] : Prop :=
  ∀ (m : (ℓ : Loc Cert.ScoreRefIdeal.nD Cert.ScoreRefIdeal.τ Cert.ScoreRefIdeal.sig) → Buf (Elt Ideal) ℓ) (g : Dev Cert.ScoreRefIdeal.nD → PrngReg), Pre_ScoreRefIdeal m →
    θ_run (Cert.ScoreRefIdeal.defs (F := Ideal)) (onTc (τ := Cert.ScoreRefIdeal.τ) (Cert.ScoreRefIdeal.main (F := Ideal))) ⟨m, fun _ => 0, g⟩ (fun r => (∀ c : Dev Cert.ScoreRefIdeal.nD,
      r.2.mem ((c.tc : Thread Cert.ScoreRefIdeal.nD Cert.ScoreRefIdeal.τ).loc Cert.ScoreRefIdeal.main_arg0) = m ((c.tc : Thread Cert.ScoreRefIdeal.nD Cert.ScoreRefIdeal.τ).loc Cert.ScoreRefIdeal.main_arg0)
      ∧ r.2.mem ((c.tc : Thread Cert.ScoreRefIdeal.nD Cert.ScoreRefIdeal.τ).loc Cert.ScoreRefIdeal.main_arg1) = m ((c.tc : Thread Cert.ScoreRefIdeal.nD Cert.ScoreRefIdeal.τ).loc Cert.ScoreRefIdeal.main_arg1))
      ∧ r.2.sem = fun _ => 0)

def bitexact_Sort_SortRef_pre_probs_range [hSort : Cert.Sort.Facts] [hSortRef : Cert.SortRef.Facts] [hPre_probs_range : Cert.Pre_probs_range.Facts] : Prop :=
  ∀ (m : (ℓ : Loc Cert.Sort.nD Cert.Sort.τ Cert.Sort.sig) → Buf (Elt Bits) ℓ) (g : Dev Cert.Sort.nD → PrngReg)
    (m' : (ℓ : Loc Cert.SortRef.nD Cert.SortRef.τ Cert.SortRef.sig) → Buf (Elt Bits) ℓ) (g' : Dev Cert.SortRef.nD → PrngReg), Pre_Sort_probs_range m →
    (∀ c : Dev Cert.Sort.nD,
      m' ((c.tc : Thread Cert.SortRef.nD Cert.SortRef.τ).loc Cert.SortRef.main_arg0) = m ((c.tc : Thread Cert.Sort.nD Cert.Sort.τ).loc Cert.Sort.main_arg0)) →
    ∃ (v0 : (c : Dev Cert.Sort.nD) → Buf (Elt Bits) ((c.tc : Thread Cert.Sort.nD Cert.Sort.τ).loc Cert.Sort.main_v2)) (v1 : (c : Dev Cert.Sort.nD) → Buf (Elt Bits) ((c.tc : Thread Cert.Sort.nD Cert.Sort.τ).loc Cert.Sort.main_v4)) (v2 : (c : Dev Cert.Sort.nD) → Buf (Elt Bits) ((c.tc : Thread Cert.Sort.nD Cert.Sort.τ).loc Cert.Sort.main_c)),
      θ_run (Cert.Sort.defs (F := Bits)) (Cert.Sort.threads (F := Bits)) ⟨m, fun _ => 0, g⟩ (fun r => ∀ c : Dev Cert.Sort.nD,
          r.2.mem ((c.tc : Thread Cert.Sort.nD Cert.Sort.τ).loc Cert.Sort.main_v2) = v0 c
          ∧ r.2.mem ((c.tc : Thread Cert.Sort.nD Cert.Sort.τ).loc Cert.Sort.main_v4) = v1 c
          ∧ r.2.mem ((c.tc : Thread Cert.Sort.nD Cert.Sort.τ).loc Cert.Sort.main_c) = v2 c
          ∧ r.2.mem ((c.tc : Thread Cert.Sort.nD Cert.Sort.τ).loc Cert.Sort.main_arg0) = m ((c.tc : Thread Cert.Sort.nD Cert.Sort.τ).loc Cert.Sort.main_arg0))
      ∧ θ_run (Cert.SortRef.defs (F := Bits)) (onTc (τ := Cert.SortRef.τ) (Cert.SortRef.main (F := Bits))) ⟨m', fun _ => 0, g'⟩ (fun r => ∀ c : Dev Cert.SortRef.nD,
          r.2.mem ((c.tc : Thread Cert.SortRef.nD Cert.SortRef.τ).loc Cert.SortRef.main_values) = v0 c
          ∧ r.2.mem ((c.tc : Thread Cert.SortRef.nD Cert.SortRef.τ).loc Cert.SortRef.main_indices) = v1 c
          ∧ r.2.mem ((c.tc : Thread Cert.SortRef.nD Cert.SortRef.τ).loc Cert.SortRef.main_c) = v2 c
          ∧ r.2.mem ((c.tc : Thread Cert.SortRef.nD Cert.SortRef.τ).loc Cert.SortRef.main_arg0) = m' ((c.tc : Thread Cert.SortRef.nD Cert.SortRef.τ).loc Cert.SortRef.main_arg0))

def preserves_Score_ScoreIdeal : Prop :=
  True

def algebraic_ScoreIdeal_ScoreRefIdeal [hScoreIdeal : Cert.ScoreIdeal.Facts] [hScoreRefIdeal : Cert.ScoreRefIdeal.Facts] : Prop :=
  ∀ (m : (ℓ : Loc Cert.ScoreIdeal.nD Cert.ScoreIdeal.τ Cert.ScoreIdeal.sig) → Buf (Elt Ideal) ℓ) (g : Dev Cert.ScoreIdeal.nD → PrngReg)
    (m' : (ℓ : Loc Cert.ScoreRefIdeal.nD Cert.ScoreRefIdeal.τ Cert.ScoreRefIdeal.sig) → Buf (Elt Ideal) ℓ) (g' : Dev Cert.ScoreRefIdeal.nD → PrngReg), Pre_ScoreIdeal m →
    (∀ c : Dev Cert.ScoreIdeal.nD,
      m' ((c.tc : Thread Cert.ScoreRefIdeal.nD Cert.ScoreRefIdeal.τ).loc Cert.ScoreRefIdeal.main_arg0) = m ((c.tc : Thread Cert.ScoreIdeal.nD Cert.ScoreIdeal.τ).loc Cert.ScoreIdeal.main_arg0)
      ∧ m' ((c.tc : Thread Cert.ScoreRefIdeal.nD Cert.ScoreRefIdeal.τ).loc Cert.ScoreRefIdeal.main_arg1) = m ((c.tc : Thread Cert.ScoreIdeal.nD Cert.ScoreIdeal.τ).loc Cert.ScoreIdeal.main_arg1)) →
    ∃ (v0 : (c : Dev Cert.ScoreIdeal.nD) → Buf (Elt Ideal) ((c.tc : Thread Cert.ScoreIdeal.nD Cert.ScoreIdeal.τ).loc Cert.ScoreIdeal.main_v1)),
      θ_run (Cert.ScoreIdeal.defs (F := Ideal)) (onTc (τ := Cert.ScoreIdeal.τ) (Cert.ScoreIdeal.main (F := Ideal))) ⟨m, fun _ => 0, g⟩ (fun r => ∀ c : Dev Cert.ScoreIdeal.nD,
          r.2.mem ((c.tc : Thread Cert.ScoreIdeal.nD Cert.ScoreIdeal.τ).loc Cert.ScoreIdeal.main_v1) = v0 c
          ∧ r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
          ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1))
      ∧ θ_run (Cert.ScoreRefIdeal.defs (F := Ideal)) (onTc (τ := Cert.ScoreRefIdeal.τ) (Cert.ScoreRefIdeal.main (F := Ideal))) ⟨m', fun _ => 0, g'⟩ (fun r => ∀ c : Dev Cert.ScoreRefIdeal.nD,
          r.2.mem ((c.tc : Thread Cert.ScoreRefIdeal.nD Cert.ScoreRefIdeal.τ).loc Cert.ScoreRefIdeal.main_v8) = v0 c
          ∧ r.2.mem ((c.tc : Thread Cert.ScoreRefIdeal.nD Cert.ScoreRefIdeal.τ).loc Cert.ScoreRefIdeal.main_arg0) = m' ((c.tc : Thread Cert.ScoreRefIdeal.nD Cert.ScoreRefIdeal.τ).loc Cert.ScoreRefIdeal.main_arg0)
          ∧ r.2.mem ((c.tc : Thread Cert.ScoreRefIdeal.nD Cert.ScoreRefIdeal.τ).loc Cert.ScoreRefIdeal.main_arg1) = m' ((c.tc : Thread Cert.ScoreRefIdeal.nD Cert.ScoreRefIdeal.τ).loc Cert.ScoreRefIdeal.main_arg1))

def Claim : Prop :=
  ∃ (hSort : Cert.Sort.Facts) (hSortRef : Cert.SortRef.Facts) (hScore : Cert.Score.Facts) (hScoreIdeal : Cert.ScoreIdeal.Facts) (hScoreRefIdeal : Cert.ScoreRefIdeal.Facts) (hPre_probs_range : Cert.Pre_probs_range.Facts),
    quiescent_Sort (hSort := hSort)
    ∧ quiescent_Sort_pre_probs_range (hSort := hSort) (hPre_probs_range := hPre_probs_range)
    ∧ quiescent_SortRef (hSortRef := hSortRef) (hPre_probs_range := hPre_probs_range)
    ∧ quiescent_Score (hScore := hScore)
    ∧ quiescent_ScoreIdeal (hScoreIdeal := hScoreIdeal)
    ∧ quiescent_ScoreRefIdeal (hScoreRefIdeal := hScoreRefIdeal)
    ∧ bitexact_Sort_SortRef_pre_probs_range (hSort := hSort) (hSortRef := hSortRef) (hPre_probs_range := hPre_probs_range)
    ∧ preserves_Score_ScoreIdeal
    ∧ algebraic_ScoreIdeal_ScoreRefIdeal (hScoreIdeal := hScoreIdeal) (hScoreRefIdeal := hScoreRefIdeal)
-- ==== Pre_probs_range.lean ====
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [BitOps F] (main_arg0 : FVec F S16384 .f32) : IVec S16384 1 :=
  let main_v0 : IVec S16384 32 := bitcastToInt main_arg0
  let main_c : IVec S_ 32 := constantI S_ 32 0#32
  let main_v1 : IVec S16384 32 := broadcastInDim S16384 ![] bcast_S_S16384 main_c
  let main_v2 : IVec S16384 1 := cmpi .sge main_v0 main_v1
  let main_c_0 : IVec S_ 32 := constantI S_ 32 1073741824#32
  let main_v3 : IVec S16384 32 := broadcastInDim S16384 ![] bcast_S_S16384 main_c_0
  let main_v4 : IVec S16384 1 := cmpi .slt main_v0 main_v3
  let main_v5 : IVec S16384 1 := andi main_v2 main_v4
  main_v5
-- ==== Sort.lean ====
abbrev S16384 : Shape := ⟨1, ![16384]⟩
abbrev S4096 : Shape := ⟨1, ![4096]⟩
abbrev S1024 : Shape := ⟨1, ![1024]⟩
abbrev S_ : Shape := ⟨0, ![]⟩
abbrev S16 : Shape := ⟨1, ![16]⟩
abbrev S4x4096 : Shape := ⟨2, ![4, 4096]⟩
abbrev S4x3276 : Shape := ⟨2, ![4, 3276]⟩

abbrev nBuf : Table → Nat
  | .hbm => 8
  | .local .scVector .vmem => 13
  | _ => 0

abbrev bufTy : (tb : Table) → Fin (nBuf tb) → BufTy
  | .hbm, ⟨0, _⟩ => ⟨S16384, .f32⟩
  | .hbm, ⟨1, _⟩ => ⟨S16384, .f32⟩
  | .hbm, ⟨2, _⟩ => ⟨S16384, .i32⟩
  | .hbm, ⟨3, _⟩ => ⟨S4x4096, .f32⟩
  | .hbm, ⟨4, _⟩ => ⟨S4x3276, .f32⟩
  | .hbm, ⟨5, _⟩ => ⟨S4x4096, .i32⟩
  | .hbm, ⟨6, _⟩ => ⟨S4x3276, .i32⟩
  | .hbm, ⟨7, _⟩ => ⟨S_, .i32⟩
  | .local .scVector .vmem, ⟨0, _⟩ => ⟨S4096, .f32⟩
  | .local .scVector .vmem, ⟨1, _⟩ => ⟨S4096, .i32⟩
  | .local .scVector .vmem, ⟨2, _⟩ => ⟨S4096, .i32⟩
  | .local .scVector .vmem, ⟨3, _⟩ => ⟨S4096, .i32⟩
  | .local .scVector .vmem, ⟨4, _⟩ => ⟨S4096, .i32⟩
  | .local .scVector .vmem, ⟨5, _⟩ => ⟨S1024, .i32⟩
  | .local .scVector .vmem, ⟨6, _⟩ => ⟨S1024, .i32⟩
  | .local .scVector .vmem, ⟨7, _⟩ => ⟨S1024, .i32⟩
  | .local .scVector .vmem, ⟨8, _⟩ => ⟨S1024, .i32⟩
  | .local .scVector .vmem, ⟨9, _⟩ => ⟨S1024, .i32⟩
  | .local .scVector .vmem, ⟨10, _⟩ => ⟨S1024, .i32⟩
  | .local .scVector .vmem, ⟨11, _⟩ => ⟨S1024, .i32⟩
  | .local .scVector .vmem, ⟨12, _⟩ => ⟨S1024, .i32⟩
  | _, _ => ⟨S16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let v3 : BitVec 32 := Scalar.extui v2
  let c0_i32 : BitVec 32 := 0#32
  let v4 : BitVec 1 := Scalar.cmpi .ne v3 c0_i32
  v4

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v5 : BitVec 32 := Scalar.muli v1 c4096_i32
  v5
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v5 : BitVec 32 := Scalar.muli v1 c4096_i32
  let v6 : BitVec 32 := v5
  ![v6.toNat]
@[reducible] def k0_t1_loop : Scf.Loop 32 :=
  let c0_i32_1 : BitVec 32 := 0#32
  let c64_i32 : BitVec 32 := 64#32
  let v7 : BitVec 32 := Scalar.addi c0_i32_1 c64_i32
  let c1_i32 : BitVec 32 := 1#32
  ⟨c0_i32_1, v7, c1_i32⟩
def k0_off2 (k0_t1 : Fin k0_t1_loop.trips) : Fin 1 → Nat :=
  let c0_i32_1 : BitVec 32 := 0#32
  let c1_i32 : BitVec 32 := 1#32
  let arg18 : BitVec 32 := Scf.iv c0_i32_1 c1_i32 k0_t1
  let c16_i32 : BitVec 32 := 16#32
  let v32 : BitVec 32 := Scalar.muli arg18 c16_i32
  let v33 : Index := Scalar.indexCast v32
  ![v33.toNat]
@[reducible] def k0_t2_loop : Scf.Loop 32 :=
  let c0_i32_4 : BitVec 32 := 0#32
  let c32_i32 : BitVec 32 := 32#32
  let v9 : BitVec 32 := Scalar.addi c0_i32_4 c32_i32
  let c1_i32_5 : BitVec 32 := 1#32
  ⟨c0_i32_4, v9, c1_i32_5⟩
def k0_off3 (k0_t2 : Fin k0_t2_loop.trips) : Fin 1 → Nat :=
  let c0_i32_57 : BitVec 32 := 0#32
  let c0_i32_4 : BitVec 32 := 0#32
  let c1_i32_5 : BitVec 32 := 1#32
  let arg18 : BitVec 32 := Scf.iv c0_i32_4 c1_i32_5 k0_t2
  let v31 : BitVec 32 := Scalar.addi c0_i32_57 arg18
  let c16_i32 : BitVec 32 := 16#32
  let v32 : BitVec 32 := Scalar.muli v31 c16_i32
  let v33 : Index := Scalar.indexCast v32
  ![v33.toNat]

def k0_chk1 (i : grid0.Coords) (v46 : IVec S16 32) : Prop :=
  (∀ (k0_h1 : k0_cond1 i = 1#1), ∀ a x, ((![v46] : Fin 1 → IVec S16 32) a x).toNat < S1024.size a)
theorem k0_idx1_inb : ∀ (i : grid0.Coords) (v46 : IVec S16 32) (k0_hw1 : k0_chk1 i v46), ∀ (k0_h1 : k0_cond1 i = 1#1), ∀ a x, ((![v46] : Fin 1 → IVec S16 32) a x).toNat < S1024.size a := fun i v46 k0_hw1 k0_h1 => k0_hw1 k0_h1
def k0_off4 (k0_t2 : Fin k0_t2_loop.trips) : Fin 1 → Nat :=
  let c32_i32_61 : BitVec 32 := 32#32
  let c0_i32_4 : BitVec 32 := 0#32
  let c1_i32_5 : BitVec 32 := 1#32
  let arg18 : BitVec 32 := Scf.iv c0_i32_4 c1_i32_5 k0_t2
  let v48 : BitVec 32 := Scalar.addi c32_i32_61 arg18
  let c16_i32_62 : BitVec 32 := 16#32
  let v49 : BitVec 32 := Scalar.muli v48 c16_i32_62
  let v50 : Index := Scalar.indexCast v49
  ![v50.toNat]

def k0_chk2 (i : grid0.Coords) (v63 : IVec S16 32) : Prop :=
  (∀ (k0_h1 : k0_cond1 i = 1#1), ∀ a x, ((![v63] : Fin 1 → IVec S16 32) a x).toNat < S1024.size a)
theorem k0_idx2_inb : ∀ (i : grid0.Coords) (v63 : IVec S16 32) (k0_hw2 : k0_chk2 i v63), ∀ (k0_h1 : k0_cond1 i = 1#1), ∀ a x, ((![v63] : Fin 1 → IVec S16 32) a x).toNat < S1024.size a := fun i v63 k0_hw2 k0_h1 => k0_hw2 k0_h1
def k0_off5 (k0_t2 : Fin k0_t2_loop.trips) : Fin 1 → Nat :=
  let c64_i32_72 : BitVec 32 := 64#32
  let c0_i32_4 : BitVec 32 := 0#32
  let c1_i32_5 : BitVec 32 := 1#32
  let arg18 : BitVec 32 := Scf.iv c0_i32_4 c1_i32_5 k0_t2
  let v65 : BitVec 32 := Scalar.addi c64_i32_72 arg18
  let c16_i32_73 : BitVec 32 := 16#32
  let v66 : BitVec 32 := Scalar.muli v65 c16_i32_73
  let v67 : Index := Scalar.indexCast v66
  ![v67.toNat]

def k0_chk3 (i : grid0.Coords) (v80 : IVec S16 32) : Prop :=
  (∀ (k0_h1 : k0_cond1 i = 1#1), ∀ a x, ((![v80] : Fin 1 → IVec S16 32) a x).toNat < S1024.size a)
theorem k0_idx3_inb : ∀ (i : grid0.Coords) (v80 : IVec S16 32) (k0_hw3 : k0_chk3 i v80), ∀ (k0_h1 : k0_cond1 i = 1#1), ∀ a x, ((![v80] : Fin 1 → IVec S16 32) a x).toNat < S1024.size a := fun i v80 k0_hw3 k0_h1 => k0_hw3 k0_h1
def k0_off6 (k0_t2 : Fin k0_t2_loop.trips) : Fin 1 → Nat :=
  let c96_i32 : BitVec 32 := 96#32
  let c0_i32_4 : BitVec 32 := 0#32
  let c1_i32_5 : BitVec 32 := 1#32
  let arg18 : BitVec 32 := Scf.iv c0_i32_4 c1_i32_5 k0_t2
  let v82 : BitVec 32 := Scalar.addi c96_i32 arg18
  let c16_i32_83 : BitVec 32 := 16#32
  let v83 : BitVec 32 := Scalar.muli v82 c16_i32_83
  let v84 : Index := Scalar.indexCast v83
  ![v84.toNat]

def k0_chk4 (i : grid0.Coords) (v97 : IVec S16 32) : Prop :=
  (∀ (k0_h1 : k0_cond1 i = 1#1), ∀ a x, ((![v97] : Fin 1 → IVec S16 32) a x).toNat < S1024.size a)
theorem k0_idx4_inb : ∀ (i : grid0.Coords) (v97 : IVec S16 32) (k0_hw4 : k0_chk4 i v97), ∀ (k0_h1 : k0_cond1 i = 1#1), ∀ a x, ((![v97] : Fin 1 → IVec S16 32) a x).toNat < S1024.size a := fun i v97 k0_hw4 k0_h1 => k0_hw4 k0_h1
def k0_off7 (k0_t2 : Fin k0_t2_loop.trips) : Fin 1 → Nat :=
  let c128_i32 : BitVec 32 := 128#32
  let c0_i32_4 : BitVec 32 := 0#32
  let c1_i32_5 : BitVec 32 := 1#32
  let arg18 : BitVec 32 := Scf.iv c0_i32_4 c1_i32_5 k0_t2
  let v99 : BitVec 32 := Scalar.addi c128_i32 arg18
  let c16_i32_93 : BitVec 32 := 16#32
  let v100 : BitVec 32 := Scalar.muli v99 c16_i32_93
  let v101 : Index := Scalar.indexCast v100
  ![v101.toNat]

def k0_chk5 (i : grid0.Coords) (v114 : IVec S16 32) : Prop :=
  (∀ (k0_h1 : k0_cond1 i = 1#1), ∀ a x, ((![v114] : Fin 1 → IVec S16 32) a x).toNat < S1024.size a)
theorem k0_idx5_inb : ∀ (i : grid0.Coords) (v114 : IVec S16 32) (k0_hw5 : k0_chk5 i v114), ∀ (k0_h1 : k0_cond1 i = 1#1), ∀ a x, ((![v114] : Fin 1 → IVec S16 32) a x).toNat < S1024.size a := fun i v114 k0_hw5 k0_h1 => k0_hw5 k0_h1
def k0_off8 (k0_t2 : Fin k0_t2_loop.trips) : Fin 1 → Nat :=
  let c160_i32 : BitVec 32 := 160#32
  let c0_i32_4 : BitVec 32 := 0#32
  let c1_i32_5 : BitVec 32 := 1#32
  let arg18 : BitVec 32 := Scf.iv c0_i32_4 c1_i32_5 k0_t2
  let v116 : BitVec 32 := Scalar.addi c160_i32 arg18
  let c16_i32_103 : BitVec 32 := 16#32
  let v117 : BitVec 32 := Scalar.muli v116 c16_i32_103
  let v118 : Index := Scalar.indexCast v117
  ![v118.toNat]

def k0_chk6 (i : grid0.Coords) (v131 : IVec S16 32) : Prop :=
  (∀ (k0_h1 : k0_cond1 i = 1#1), ∀ a x, ((![v131] : Fin 1 → IVec S16 32) a x).toNat < S1024.size a)
theorem k0_idx6_inb : ∀ (i : grid0.Coords) (v131 : IVec S16 32) (k0_hw6 : k0_chk6 i v131), ∀ (k0_h1 : k0_cond1 i = 1#1), ∀ a x, ((![v131] : Fin 1 → IVec S16 32) a x).toNat < S1024.size a := fun i v131 k0_hw6 k0_h1 => k0_hw6 k0_h1
def k0_off9 (k0_t2 : Fin k0_t2_loop.trips) : Fin 1 → Nat :=
  let c192_i32 : BitVec 32 := 192#32
  let c0_i32_4 : BitVec 32 := 0#32
  let c1_i32_5 : BitVec 32 := 1#32
  let arg18 : BitVec 32 := Scf.iv c0_i32_4 c1_i32_5 k0_t2
  let v133 : BitVec 32 := Scalar.addi c192_i32 arg18
  let c16_i32_113 : BitVec 32 := 16#32
  let v134 : BitVec 32 := Scalar.muli v133 c16_i32_113
  let v135 : Index := Scalar.indexCast v134
  ![v135.toNat]

def k0_chk7 (i : grid0.Coords) (v148 : IVec S16 32) : Prop :=
  (∀ (k0_h1 : k0_cond1 i = 1#1), ∀ a x, ((![v148] : Fin 1 → IVec S16 32) a x).toNat < S1024.size a)
theorem k0_idx7_inb : ∀ (i : grid0.Coords) (v148 : IVec S16 32) (k0_hw7 : k0_chk7 i v148), ∀ (k0_h1 : k0_cond1 i = 1#1), ∀ a x, ((![v148] : Fin 1 → IVec S16 32) a x).toNat < S1024.size a := fun i v148 k0_hw7 k0_h1 => k0_hw7 k0_h1
def k0_off10 (k0_t2 : Fin k0_t2_loop.trips) : Fin 1 → Nat :=
  let c224_i32 : BitVec 32 := 224#32
  let c0_i32_4 : BitVec 32 := 0#32
  let c1_i32_5 : BitVec 32 := 1#32
  let arg18 : BitVec 32 := Scf.iv c0_i32_4 c1_i32_5 k0_t2
  let v150 : BitVec 32 := Scalar.addi c224_i32 arg18
  let c16_i32_123 : BitVec 32 := 16#32
  let v151 : BitVec 32 := Scalar.muli v150 c16_i32_123
  let v152 : Index := Scalar.indexCast v151
  ![v152.toNat]

def k0_chk8 (i : grid0.Coords) (v165 : IVec S16 32) : Prop :=
  (∀ (k0_h1 : k0_cond1 i = 1#1), ∀ a x, ((![v165] : Fin 1 → IVec S16 32) a x).toNat < S1024.size a)
theorem k0_idx8_inb : ∀ (i : grid0.Coords) (v165 : IVec S16 32) (k0_hw8 : k0_chk8 i v165), ∀ (k0_h1 : k0_cond1 i = 1#1), ∀ a x, ((![v165] : Fin 1 → IVec S16 32) a x).toNat < S1024.size a := fun i v165 k0_hw8 k0_h1 => k0_hw8 k0_h1
@[reducible] def k0_t3_loop : Scf.Loop 32 :=
  let c0_i32_8 : BitVec 32 := 0#32
  let c64_i32_9 : BitVec 32 := 64#32
  let v11 : BitVec 32 := Scalar.addi c0_i32_8 c64_i32_9
  let c1_i32_10 : BitVec 32 := 1#32
  ⟨c0_i32_8, v11, c1_i32_10⟩
def k0_off11 (k0_t3 : Fin k0_t3_loop.trips) : Fin 1 → Nat :=
  let c0_i32_8 : BitVec 32 := 0#32
  let c1_i32_10 : BitVec 32 := 1#32
  let arg18 : BitVec 32 := Scf.iv c0_i32_8 c1_i32_10 k0_t3
  let c16_i32 : BitVec 32 := 16#32
  let v31 : BitVec 32 := Scalar.muli arg18 c16_i32
  let v32 : Index := Scalar.indexCast v31
  ![v32.toNat]
@[reducible] def k0_t4_loop : Scf.Loop 32 :=
  let c0_i32_13 : BitVec 32 := 0#32
  let c32_i32_14 : BitVec 32 := 32#32
  let v13 : BitVec 32 := Scalar.addi c0_i32_13 c32_i32_14
  let c1_i32_15 : BitVec 32 := 1#32
  ⟨c0_i32_13, v13, c1_i32_15⟩
def k0_off12 (k0_t4 : Fin k0_t4_loop.trips) : Fin 1 → Nat :=
  let c0_i32_57 : BitVec 32 := 0#32
  let c0_i32_13 : BitVec 32 := 0#32
  let c1_i32_15 : BitVec 32 := 1#32
  let arg18 : BitVec 32 := Scf.iv c0_i32_13 c1_i32_15 k0_t4
  let v31 : BitVec 32 := Scalar.addi c0_i32_57 arg18
  let c16_i32 : BitVec 32 := 16#32
  let v32 : BitVec 32 := Scalar.muli v31 c16_i32
  let v33 : Index := Scalar.indexCast v32
  ![v33.toNat]

def k0_chk10 (i : grid0.Coords) (v54 : IVec S16 32) : Prop :=
  (∀ (k0_h1 : k0_cond1 i = 1#1), ∀ a x, ((![v54] : Fin 1 → IVec S16 32) a x).toNat < S4096.size a) ∧
  (∀ (k0_h1 : k0_cond1 i = 1#1), ∀ a x, ((![v54] : Fin 1 → IVec S16 32) a x).toNat < S4096.size a)
theorem k0_idx10_inb : ∀ (i : grid0.Coords) (v54 : IVec S16 32) (k0_hw10 : k0_chk10 i v54), ∀ (k0_h1 : k0_cond1 i = 1#1), ∀ a x, ((![v54] : Fin 1 → IVec S16 32) a x).toNat < S4096.size a := fun i v54 k0_hw10 k0_h1 => k0_hw10.1 k0_h1
theorem k0_idx11_inb : ∀ (i : grid0.Coords) (v54 : IVec S16 32) (k0_hw10 : k0_chk10 i v54), ∀ (k0_h1 : k0_cond1 i = 1#1), ∀ a x, ((![v54] : Fin 1 → IVec S16 32) a x).toNat < S4096.size a := fun i v54 k0_hw10 k0_h1 => k0_hw10.2 k0_h1

def k0_chk9 (i : grid0.Coords) (v49 : IVec S16 32) : Prop :=
  (∀ (k0_h1 : k0_cond1 i = 1#1), ∀ a x, ((![v49] : Fin 1 → IVec S16 32) a x).toNat < S1024.size a) ∧
  (∀ (k0_h1 : k0_cond1 i = 1#1), ∀ a x, ((![v49] : Fin 1 → IVec S16 32) a x).toNat < S1024.size a)
theorem k0_idx9_inb : ∀ (i : grid0.Coords) (v49 : IVec S16 32) (k0_hw9 : k0_chk9 i v49), ∀ (k0_h1 : k0_cond1 i = 1#1), ∀ a x, ((![v49] : Fin 1 → IVec S16 32) a x).toNat < S1024.size a := fun i v49 k0_hw9 k0_h1 => k0_hw9.1 k0_h1
theorem k0_idx12_inb : ∀ (i : grid0.Coords) (v49 : IVec S16 32) (k0_hw9 : k0_chk9 i v49), ∀ (k0_h1 : k0_cond1 i = 1#1), ∀ a x, ((![v49] : Fin 1 → IVec S16 32) a x).toNat < S1024.size a := fun i v49 k0_hw9 k0_h1 => k0_hw9.2 k0_h1
def k0_off13 (k0_t4 : Fin k0_t4_loop.trips) : Fin 1 → Nat :=
  let c32_i32_62 : BitVec 32 := 32#32
  let c0_i32_13 : BitVec 32 := 0#32
  let c1_i32_15 : BitVec 32 := 1#32
  let arg18 : BitVec 32 := Scf.iv c0_i32_13 c1_i32_15 k0_t4
  let v55 : BitVec 32 := Scalar.addi c32_i32_62 arg18
  let c16_i32_63 : BitVec 32 := 16#32
  let v56 : BitVec 32 := Scalar.muli v55 c16_i32_63
  let v57 : Index := Scalar.indexCast v56
  ![v57.toNat]

def k0_chk12 (i : grid0.Coords) (v78 : IVec S16 32) : Prop :=
  (∀ (k0_h1 : k0_cond1 i = 1#1), ∀ a x, ((![v78] : Fin 1 → IVec S16 32) a x).toNat < S4096.size a) ∧
  (∀ (k0_h1 : k0_cond1 i = 1#1), ∀ a x, ((![v78] : Fin 1 → IVec S16 32) a x).toNat < S4096.size a)
theorem k0_idx14_inb : ∀ (i : grid0.Coords) (v78 : IVec S16 32) (k0_hw12 : k0_chk12 i v78), ∀ (k0_h1 : k0_cond1 i = 1#1), ∀ a x, ((![v78] : Fin 1 → IVec S16 32) a x).toNat < S4096.size a := fun i v78 k0_hw12 k0_h1 => k0_hw12.1 k0_h1
theorem k0_idx15_inb : ∀ (i : grid0.Coords) (v78 : IVec S16 32) (k0_hw12 : k0_chk12 i v78), ∀ (k0_h1 : k0_cond1 i = 1#1), ∀ a x, ((![v78] : Fin 1 → IVec S16 32) a x).toNat < S4096.size a := fun i v78 k0_hw12 k0_h1 => k0_hw12.2 k0_h1

def k0_chk11 (i : grid0.Coords) (v73 : IVec S16 32) : Prop :=
  (∀ (k0_h1 : k0_cond1 i = 1#1), ∀ a x, ((![v73] : Fin 1 → IVec S16 32) a x).toNat < S1024.size a) ∧
  (∀ (k0_h1 : k0_cond1 i = 1#1), ∀ a x, ((![v73] : Fin 1 → IVec S16 32) a x).toNat < S1024.size a)
theorem k0_idx13_inb : ∀ (i : grid0.Coords) (v73 : IVec S16 32) (k0_hw11 : k0_chk11 i v73), ∀ (k0_h1 : k0_cond1 i = 1#1), ∀ a x, ((![v73] : Fin 1 → IVec S16 32) a x).toNat < S1024.size a := fun i v73 k0_hw11 k0_h1 => k0_hw11.1 k0_h1
theorem k0_idx16_inb : ∀ (i : grid0.Coords) (v73 : IVec S16 32) (k0_hw11 : k0_chk11 i v73), ∀ (k0_h1 : k0_cond1 i = 1#1), ∀ a x, ((![v73] : Fin 1 → IVec S16 32) a x).toNat < S1024.size a := fun i v73 k0_hw11 k0_h1 => k0_hw11.2 k0_h1
def k0_off14 (k0_t4 : Fin k0_t4_loop.trips) : Fin 1 → Nat :=
  let c64_i32_74 : BitVec 32 := 64#32
  let c0_i32_13 : BitVec 32 := 0#32
  let c1_i32_15 : BitVec 32 := 1#32
  let arg18 : BitVec 32 := Scf.iv c0_i32_13 c1_i32_15 k0_t4
  let v79 : BitVec 32 := Scalar.addi c64_i32_74 arg18
  let c16_i32_75 : BitVec 32 := 16#32
  let v80 : BitVec 32 := Scalar.muli v79 c16_i32_75
  let v81 : Index := Scalar.indexCast v80
  ![v81.toNat]

def k0_chk14 (i : grid0.Coords) (v102 : IVec S16 32) : Prop :=
  (∀ (k0_h1 : k0_cond1 i = 1#1), ∀ a x, ((![v102] : Fin 1 → IVec S16 32) a x).toNat < S4096.size a) ∧
  (∀ (k0_h1 : k0_cond1 i = 1#1), ∀ a x, ((![v102] : Fin 1 → IVec S16 32) a x).toNat < S4096.size a)
theorem k0_idx18_inb : ∀ (i : grid0.Coords) (v102 : IVec S16 32) (k0_hw14 : k0_chk14 i v102), ∀ (k0_h1 : k0_cond1 i = 1#1), ∀ a x, ((![v102] : Fin 1 → IVec S16 32) a x).toNat < S4096.size a := fun i v102 k0_hw14 k0_h1 => k0_hw14.1 k0_h1
theorem k0_idx19_inb : ∀ (i : grid0.Coords) (v102 : IVec S16 32) (k0_hw14 : k0_chk14 i v102), ∀ (k0_h1 : k0_cond1 i = 1#1), ∀ a x, ((![v102] : Fin 1 → IVec S16 32) a x).toNat < S4096.size a := fun i v102 k0_hw14 k0_h1 => k0_hw14.2 k0_h1

def k0_chk13 (i : grid0.Coords) (v97 : IVec S16 32) : Prop :=
  (∀ (k0_h1 : k0_cond1 i = 1#1), ∀ a x, ((![v97] : Fin 1 → IVec S16 32) a x).toNat < S1024.size a) ∧
  (∀ (k0_h1 : k0_cond1 i = 1#1), ∀ a x, ((![v97] : Fin 1 → IVec S16 32) a x).toNat < S1024.size a)
theorem k0_idx17_inb : ∀ (i : grid0.Coords) (v97 : IVec S16 32) (k0_hw13 : k0_chk13 i v97), ∀ (k0_h1 : k0_cond1 i = 1#1), ∀ a x, ((![v97] : Fin 1 → IVec S16 32) a x).toNat < S1024.size a := fun i v97 k0_hw13 k0_h1 => k0_hw13.1 k0_h1
theorem k0_idx20_inb : ∀ (i : grid0.Coords) (v97 : IVec S16 32) (k0_hw13 : k0_chk13 i v97), ∀ (k0_h1 : k0_cond1 i = 1#1), ∀ a x, ((![v97] : Fin 1 → IVec S16 32) a x).toNat < S1024.size a := fun i v97 k0_hw13 k0_h1 => k0_hw13.2 k0_h1
def k0_off15 (k0_t4 : Fin k0_t4_loop.trips) : Fin 1 → Nat :=
  let c96_i32 : BitVec 32 := 96#32
  let c0_i32_13 : BitVec 32 := 0#32
  let c1_i32_15 : BitVec 32 := 1#32
  let arg18 : BitVec 32 := Scf.iv c0_i32_13 c1_i32_15 k0_t4
  let v103 : BitVec 32 := Scalar.addi c96_i32 arg18
  let c16_i32_86 : BitVec 32 := 16#32
  let v104 : BitVec 32 := Scalar.muli v103 c16_i32_86
  let v105 : Index := Scalar.indexCast v104
  ![v105.toNat]

def k0_chk16 (i : grid0.Coords) (v126 : IVec S16 32) : Prop :=
  (∀ (k0_h1 : k0_cond1 i = 1#1), ∀ a x, ((![v126] : Fin 1 → IVec S16 32) a x).toNat < S4096.size a) ∧
  (∀ (k0_h1 : k0_cond1 i = 1#1), ∀ a x, ((![v126] : Fin 1 → IVec S16 32) a x).toNat < S4096.size a)
theorem k0_idx22_inb : ∀ (i : grid0.Coords) (v126 : IVec S16 32) (k0_hw16 : k0_chk16 i v126), ∀ (k0_h1 : k0_cond1 i = 1#1), ∀ a x, ((![v126] : Fin 1 → IVec S16 32) a x).toNat < S4096.size a := fun i v126 k0_hw16 k0_h1 => k0_hw16.1 k0_h1
theorem k0_idx23_inb : ∀ (i : grid0.Coords) (v126 : IVec S16 32) (k0_hw16 : k0_chk16 i v126), ∀ (k0_h1 : k0_cond1 i = 1#1), ∀ a x, ((![v126] : Fin 1 → IVec S16 32) a x).toNat < S4096.size a := fun i v126 k0_hw16 k0_h1 => k0_hw16.2 k0_h1

def k0_chk15 (i : grid0.Coords) (v121 : IVec S16 32) : Prop :=
  (∀ (k0_h1 : k0_cond1 i = 1#1), ∀ a x, ((![v121] : Fin 1 → IVec S16 32) a x).toNat < S1024.size a) ∧
  (∀ (k0_h1 : k0_cond1 i = 1#1), ∀ a x, ((![v121] : Fin 1 → IVec S16 32) a x).toNat < S1024.size a)
theorem k0_idx21_inb : ∀ (i : grid0.Coords) (v121 : IVec S16 32) (k0_hw15 : k0_chk15 i v121), ∀ (k0_h1 : k0_cond1 i = 1#1), ∀ a x, ((![v121] : Fin 1 → IVec S16 32) a x).toNat < S1024.size a := fun i v121 k0_hw15 k0_h1 => k0_hw15.1 k0_h1
theorem k0_idx24_inb : ∀ (i : grid0.Coords) (v121 : IVec S16 32) (k0_hw15 : k0_chk15 i v121), ∀ (k0_h1 : k0_cond1 i = 1#1), ∀ a x, ((![v121] : Fin 1 → IVec S16 32) a x).toNat < S1024.size a := fun i v121 k0_hw15 k0_h1 => k0_hw15.2 k0_h1
def k0_off16 (k0_t4 : Fin k0_t4_loop.trips) : Fin 1 → Nat :=
  let c128_i32 : BitVec 32 := 128#32
  let c0_i32_13 : BitVec 32 := 0#32
  let c1_i32_15 : BitVec 32 := 1#32
  let arg18 : BitVec 32 := Scf.iv c0_i32_13 c1_i32_15 k0_t4
  let v127 : BitVec 32 := Scalar.addi c128_i32 arg18
  let c16_i32_97 : BitVec 32 := 16#32
  let v128 : BitVec 32 := Scalar.muli v127 c16_i32_97
  let v129 : Index := Scalar.indexCast v128
  ![v129.toNat]

def k0_chk18 (i : grid0.Coords) (v150 : IVec S16 32) : Prop :=
  (∀ (k0_h1 : k0_cond1 i = 1#1), ∀ a x, ((![v150] : Fin 1 → IVec S16 32) a x).toNat < S4096.size a) ∧
  (∀ (k0_h1 : k0_cond1 i = 1#1), ∀ a x, ((![v150] : Fin 1 → IVec S16 32) a x).toNat < S4096.size a)
theorem k0_idx26_inb : ∀ (i : grid0.Coords) (v150 : IVec S16 32) (k0_hw18 : k0_chk18 i v150), ∀ (k0_h1 : k0_cond1 i = 1#1), ∀ a x, ((![v150] : Fin 1 → IVec S16 32) a x).toNat < S4096.size a := fun i v150 k0_hw18 k0_h1 => k0_hw18.1 k0_h1
theorem k0_idx27_inb : ∀ (i : grid0.Coords) (v150 : IVec S16 32) (k0_hw18 : k0_chk18 i v150), ∀ (k0_h1 : k0_cond1 i = 1#1), ∀ a x, ((![v150] : Fin 1 → IVec S16 32) a x).toNat < S4096.size a := fun i v150 k0_hw18 k0_h1 => k0_hw18.2 k0_h1

def k0_chk17 (i : grid0.Coords) (v145 : IVec S16 32) : Prop :=
  (∀ (k0_h1 : k0_cond1 i = 1#1), ∀ a x, ((![v145] : Fin 1 → IVec S16 32) a x).toNat < S1024.size a) ∧
  (∀ (k0_h1 : k0_cond1 i = 1#1), ∀ a x, ((![v145] : Fin 1 → IVec S16 32) a x).toNat < S1024.size a)
theorem k0_idx25_inb : ∀ (i : grid0.Coords) (v145 : IVec S16 32) (k0_hw17 : k0_chk17 i v145), ∀ (k0_h1 : k0_cond1 i = 1#1), ∀ a x, ((![v145] : Fin 1 → IVec S16 32) a x).toNat < S1024.size a := fun i v145 k0_hw17 k0_h1 => k0_hw17.1 k0_h1
theorem k0_idx28_inb : ∀ (i : grid0.Coords) (v145 : IVec S16 32) (k0_hw17 : k0_chk17 i v145), ∀ (k0_h1 : k0_cond1 i = 1#1), ∀ a x, ((![v145] : Fin 1 → IVec S16 32) a x).toNat < S1024.size a := fun i v145 k0_hw17 k0_h1 => k0_hw17.2 k0_h1
def k0_off17 (k0_t4 : Fin k0_t4_loop.trips) : Fin 1 → Nat :=
  let c160_i32 : BitVec 32 := 160#32
  let c0_i32_13 : BitVec 32 := 0#32
  let c1_i32_15 : BitVec 32 := 1#32
  let arg18 : BitVec 32 := Scf.iv c0_i32_13 c1_i32_15 k0_t4
  let v151 : BitVec 32 := Scalar.addi c160_i32 arg18
  let c16_i32_108 : BitVec 32 := 16#32
  let v152 : BitVec 32 := Scalar.muli v151 c16_i32_108
  let v153 : Index := Scalar.indexCast v152
  ![v153.toNat]

def k0_chk20 (i : grid0.Coords) (v174 : IVec S16 32) : Prop :=
  (∀ (k0_h1 : k0_cond1 i = 1#1), ∀ a x, ((![v174] : Fin 1 → IVec S16 32) a x).toNat < S4096.size a) ∧
  (∀ (k0_h1 : k0_cond1 i = 1#1), ∀ a x, ((![v174] : Fin 1 → IVec S16 32) a x).toNat < S4096.size a)
theorem k0_idx30_inb : ∀ (i : grid0.Coords) (v174 : IVec S16 32) (k0_hw20 : k0_chk20 i v174), ∀ (k0_h1 : k0_cond1 i = 1#1), ∀ a x, ((![v174] : Fin 1 → IVec S16 32) a x).toNat < S4096.size a := fun i v174 k0_hw20 k0_h1 => k0_hw20.1 k0_h1
theorem k0_idx31_inb : ∀ (i : grid0.Coords) (v174 : IVec S16 32) (k0_hw20 : k0_chk20 i v174), ∀ (k0_h1 : k0_cond1 i = 1#1), ∀ a x, ((![v174] : Fin 1 → IVec S16 32) a x).toNat < S4096.size a := fun i v174 k0_hw20 k0_h1 => k0_hw20.2 k0_h1

def k0_chk19 (i : grid0.Coords) (v169 : IVec S16 32) : Prop :=
  (∀ (k0_h1 : k0_cond1 i = 1#1), ∀ a x, ((![v169] : Fin 1 → IVec S16 32) a x).toNat < S1024.size a) ∧
  (∀ (k0_h1 : k0_cond1 i = 1#1), ∀ a x, ((![v169] : Fin 1 → IVec S16 32) a x).toNat < S1024.size a)
theorem k0_idx29_inb : ∀ (i : grid0.Coords) (v169 : IVec S16 32) (k0_hw19 : k0_chk19 i v169), ∀ (k0_h1 : k0_cond1 i = 1#1), ∀ a x, ((![v169] : Fin 1 → IVec S16 32) a x).toNat < S1024.size a := fun i v169 k0_hw19 k0_h1 => k0_hw19.1 k0_h1
theorem k0_idx32_inb : ∀ (i : grid0.Coords) (v169 : IVec S16 32) (k0_hw19 : k0_chk19 i v169), ∀ (k0_h1 : k0_cond1 i = 1#1), ∀ a x, ((![v169] : Fin 1 → IVec S16 32) a x).toNat < S1024.size a := fun i v169 k0_hw19 k0_h1 => k0_hw19.2 k0_h1
def k0_off18 (k0_t4 : Fin k0_t4_loop.trips) : Fin 1 → Nat :=
  let c192_i32 : BitVec 32 := 192#32
  let c0_i32_13 : BitVec 32 := 0#32
  let c1_i32_15 : BitVec 32 := 1#32
  let arg18 : BitVec 32 := Scf.iv c0_i32_13 c1_i32_15 k0_t4
  let v175 : BitVec 32 := Scalar.addi c192_i32 arg18
  let c16_i32_119 : BitVec 32 := 16#32
  let v176 : BitVec 32 := Scalar.muli v175 c16_i32_119
  let v177 : Index := Scalar.indexCast v176
  ![v177.toNat]

def k0_chk22 (i : grid0.Coords) (v198 : IVec S16 32) : Prop :=
  (∀ (k0_h1 : k0_cond1 i = 1#1), ∀ a x, ((![v198] : Fin 1 → IVec S16 32) a x).toNat < S4096.size a) ∧
  (∀ (k0_h1 : k0_cond1 i = 1#1), ∀ a x, ((![v198] : Fin 1 → IVec S16 32) a x).toNat < S4096.size a)
theorem k0_idx34_inb : ∀ (i : grid0.Coords) (v198 : IVec S16 32) (k0_hw22 : k0_chk22 i v198), ∀ (k0_h1 : k0_cond1 i = 1#1), ∀ a x, ((![v198] : Fin 1 → IVec S16 32) a x).toNat < S4096.size a := fun i v198 k0_hw22 k0_h1 => k0_hw22.1 k0_h1
theorem k0_idx35_inb : ∀ (i : grid0.Coords) (v198 : IVec S16 32) (k0_hw22 : k0_chk22 i v198), ∀ (k0_h1 : k0_cond1 i = 1#1), ∀ a x, ((![v198] : Fin 1 → IVec S16 32) a x).toNat < S4096.size a := fun i v198 k0_hw22 k0_h1 => k0_hw22.2 k0_h1

def k0_chk21 (i : grid0.Coords) (v193 : IVec S16 32) : Prop :=
  (∀ (k0_h1 : k0_cond1 i = 1#1), ∀ a x, ((![v193] : Fin 1 → IVec S16 32) a x).toNat < S1024.size a) ∧
  (∀ (k0_h1 : k0_cond1 i = 1#1), ∀ a x, ((![v193] : Fin 1 → IVec S16 32) a x).toNat < S1024.size a)
theorem k0_idx33_inb : ∀ (i : grid0.Coords) (v193 : IVec S16 32) (k0_hw21 : k0_chk21 i v193), ∀ (k0_h1 : k0_cond1 i = 1#1), ∀ a x, ((![v193] : Fin 1 → IVec S16 32) a x).toNat < S1024.size a := fun i v193 k0_hw21 k0_h1 => k0_hw21.1 k0_h1
theorem k0_idx36_inb : ∀ (i : grid0.Coords) (v193 : IVec S16 32) (k0_hw21 : k0_chk21 i v193), ∀ (k0_h1 : k0_cond1 i = 1#1), ∀ a x, ((![v193] : Fin 1 → IVec S16 32) a x).toNat < S1024.size a := fun i v193 k0_hw21 k0_h1 => k0_hw21.2 k0_h1
def k0_off19 (k0_t4 : Fin k0_t4_loop.trips) : Fin 1 → Nat :=
  let c224_i32 : BitVec 32 := 224#32
  let c0_i32_13 : BitVec 32 := 0#32
  let c1_i32_15 : BitVec 32 := 1#32
  let arg18 : BitVec 32 := Scf.iv c0_i32_13 c1_i32_15 k0_t4
  let v199 : BitVec 32 := Scalar.addi c224_i32 arg18
  let c16_i32_130 : BitVec 32 := 16#32
  let v200 : BitVec 32 := Scalar.muli v199 c16_i32_130
  let v201 : Index := Scalar.indexCast v200
  ![v201.toNat]

def k0_chk24 (i : grid0.Coords) (v222 : IVec S16 32) : Prop :=
  (∀ (k0_h1 : k0_cond1 i = 1#1), ∀ a x, ((![v222] : Fin 1 → IVec S16 32) a x).toNat < S4096.size a) ∧
  (∀ (k0_h1 : k0_cond1 i = 1#1), ∀ a x, ((![v222] : Fin 1 → IVec S16 32) a x).toNat < S4096.size a)
theorem k0_idx38_inb : ∀ (i : grid0.Coords) (v222 : IVec S16 32) (k0_hw24 : k0_chk24 i v222), ∀ (k0_h1 : k0_cond1 i = 1#1), ∀ a x, ((![v222] : Fin 1 → IVec S16 32) a x).toNat < S4096.size a := fun i v222 k0_hw24 k0_h1 => k0_hw24.1 k0_h1
theorem k0_idx39_inb : ∀ (i : grid0.Coords) (v222 : IVec S16 32) (k0_hw24 : k0_chk24 i v222), ∀ (k0_h1 : k0_cond1 i = 1#1), ∀ a x, ((![v222] : Fin 1 → IVec S16 32) a x).toNat < S4096.size a := fun i v222 k0_hw24 k0_h1 => k0_hw24.2 k0_h1

def k0_chk23 (i : grid0.Coords) (v217 : IVec S16 32) : Prop :=
  (∀ (k0_h1 : k0_cond1 i = 1#1), ∀ a x, ((![v217] : Fin 1 → IVec S16 32) a x).toNat < S1024.size a) ∧
  (∀ (k0_h1 : k0_cond1 i = 1#1), ∀ a x, ((![v217] : Fin 1 → IVec S16 32) a x).toNat < S1024.size a)
theorem k0_idx37_inb : ∀ (i : grid0.Coords) (v217 : IVec S16 32) (k0_hw23 : k0_chk23 i v217), ∀ (k0_h1 : k0_cond1 i = 1#1), ∀ a x, ((![v217] : Fin 1 → IVec S16 32) a x).toNat < S1024.size a := fun i v217 k0_hw23 k0_h1 => k0_hw23.1 k0_h1
theorem k0_idx40_inb : ∀ (i : grid0.Coords) (v217 : IVec S16 32) (k0_hw23 : k0_chk23 i v217), ∀ (k0_h1 : k0_cond1 i = 1#1), ∀ a x, ((![v217] : Fin 1 → IVec S16 32) a x).toNat < S1024.size a := fun i v217 k0_hw23 k0_h1 => k0_hw23.2 k0_h1
@[reducible] def k0_t5_loop : Scf.Loop 32 :=
  let c0_i32_18 : BitVec 32 := 0#32
  let c64_i32_19 : BitVec 32 := 64#32
  let v15 : BitVec 32 := Scalar.addi c0_i32_18 c64_i32_19
  let c1_i32_20 : BitVec 32 := 1#32
  ⟨c0_i32_18, v15, c1_i32_20⟩
def k0_off20 (k0_t5 : Fin k0_t5_loop.trips) : Fin 1 → Nat :=
  let c0_i32_18 : BitVec 32 := 0#32
  let c1_i32_20 : BitVec 32 := 1#32
  let arg18 : BitVec 32 := Scf.iv c0_i32_18 c1_i32_20 k0_t5
  let c16_i32 : BitVec 32 := 16#32
  let v32 : BitVec 32 := Scalar.muli arg18 c16_i32
  let v33 : Index := Scalar.indexCast v32
  ![v33.toNat]
@[reducible] def k0_t6_loop : Scf.Loop 32 :=
  let c0_i32_23 : BitVec 32 := 0#32
  let c32_i32_24 : BitVec 32 := 32#32
  let v17 : BitVec 32 := Scalar.addi c0_i32_23 c32_i32_24
  let c1_i32_25 : BitVec 32 := 1#32
  ⟨c0_i32_23, v17, c1_i32_25⟩
def k0_off21 (k0_t6 : Fin k0_t6_loop.trips) : Fin 1 → Nat :=
  let c0_i32_57 : BitVec 32 := 0#32
  let c0_i32_23 : BitVec 32 := 0#32
  let c1_i32_25 : BitVec 32 := 1#32
  let arg18 : BitVec 32 := Scf.iv c0_i32_23 c1_i32_25 k0_t6
  let v31 : BitVec 32 := Scalar.addi c0_i32_57 arg18
  let c16_i32 : BitVec 32 := 16#32
  let v32 : BitVec 32 := Scalar.muli v31 c16_i32
  let v33 : Index := Scalar.indexCast v32
  ![v33.toNat]

def k0_chk25 (i : grid0.Coords) (v38 : IVec S16 32) : Prop :=
  (∀ (k0_h1 : k0_cond1 i = 1#1), ∀ a x, ((![v38] : Fin 1 → IVec S16 32) a x).toNat < S1024.size a)
theorem k0_idx41_inb : ∀ (i : grid0.Coords) (v38 : IVec S16 32) (k0_hw25 : k0_chk25 i v38), ∀ (k0_h1 : k0_cond1 i = 1#1), ∀ a x, ((![v38] : Fin 1 → IVec S16 32) a x).toNat < S1024.size a := fun i v38 k0_hw25 k0_h1 => k0_hw25 k0_h1
def k0_off22 (k0_t6 : Fin k0_t6_loop.trips) : Fin 1 → Nat :=
  let c32_i32_58 : BitVec 32 := 32#32
  let c0_i32_23 : BitVec 32 := 0#32
  let c1_i32_25 : BitVec 32 := 1#32
  let arg18 : BitVec 32 := Scf.iv c0_i32_23 c1_i32_25 k0_t6
  let v40 : BitVec 32 := Scalar.addi c32_i32_58 arg18
  let c16_i32_59 : BitVec 32 := 16#32
  let v41 : BitVec 32 := Scalar.muli v40 c16_i32_59
  let v42 : Index := Scalar.indexCast v41
  ![v42.toNat]

def k0_chk26 (i : grid0.Coords) (v47 : IVec S16 32) : Prop :=
  (∀ (k0_h1 : k0_cond1 i = 1#1), ∀ a x, ((![v47] : Fin 1 → IVec S16 32) a x).toNat < S1024.size a)
theorem k0_idx42_inb : ∀ (i : grid0.Coords) (v47 : IVec S16 32) (k0_hw26 : k0_chk26 i v47), ∀ (k0_h1 : k0_cond1 i = 1#1), ∀ a x, ((![v47] : Fin 1 → IVec S16 32) a x).toNat < S1024.size a := fun i v47 k0_hw26 k0_h1 => k0_hw26 k0_h1
def k0_off23 (k0_t6 : Fin k0_t6_loop.trips) : Fin 1 → Nat :=
  let c64_i32_65 : BitVec 32 := 64#32
  let c0_i32_23 : BitVec 32 := 0#32
  let c1_i32_25 : BitVec 32 := 1#32
  let arg18 : BitVec 32 := Scf.iv c0_i32_23 c1_i32_25 k0_t6
  let v49 : BitVec 32 := Scalar.addi c64_i32_65 arg18
  let c16_i32_66 : BitVec 32 := 16#32
  let v50 : BitVec 32 := Scalar.muli v49 c16_i32_66
  let v51 : Index := Scalar.indexCast v50
  ![v51.toNat]

def k0_chk27 (i : grid0.Coords) (v56 : IVec S16 32) : Prop :=
  (∀ (k0_h1 : k0_cond1 i = 1#1), ∀ a x, ((![v56] : Fin 1 → IVec S16 32) a x).toNat < S1024.size a)
theorem k0_idx43_inb : ∀ (i : grid0.Coords) (v56 : IVec S16 32) (k0_hw27 : k0_chk27 i v56), ∀ (k0_h1 : k0_cond1 i = 1#1), ∀ a x, ((![v56] : Fin 1 → IVec S16 32) a x).toNat < S1024.size a := fun i v56 k0_hw27 k0_h1 => k0_hw27 k0_h1
def k0_off24 (k0_t6 : Fin k0_t6_loop.trips) : Fin 1 → Nat :=
  let c96_i32 : BitVec 32 := 96#32
  let c0_i32_23 : BitVec 32 := 0#32
  let c1_i32_25 : BitVec 32 := 1#32
  let arg18 : BitVec 32 := Scf.iv c0_i32_23 c1_i32_25 k0_t6
  let v58 : BitVec 32 := Scalar.addi c96_i32 arg18
  let c16_i32_72 : BitVec 32 := 16#32
  let v59 : BitVec 32 := Scalar.muli v58 c16_i32_72
  let v60 : Index := Scalar.indexCast v59
  ![v60.toNat]

def k0_chk28 (i : grid0.Coords) (v65 : IVec S16 32) : Prop :=
  (∀ (k0_h1 : k0_cond1 i = 1#1), ∀ a x, ((![v65] : Fin 1 → IVec S16 32) a x).toNat < S1024.size a)
theorem k0_idx44_inb : ∀ (i : grid0.Coords) (v65 : IVec S16 32) (k0_hw28 : k0_chk28 i v65), ∀ (k0_h1 : k0_cond1 i = 1#1), ∀ a x, ((![v65] : Fin 1 → IVec S16 32) a x).toNat < S1024.size a := fun i v65 k0_hw28 k0_h1 => k0_hw28 k0_h1
def k0_off25 (k0_t6 : Fin k0_t6_loop.trips) : Fin 1 → Nat :=
  let c128_i32 : BitVec 32 := 128#32
  let c0_i32_23 : BitVec 32 := 0#32
  let c1_i32_25 : BitVec 32 := 1#32
  let arg18 : BitVec 32 := Scf.iv c0_i32_23 c1_i32_25 k0_t6
  let v67 : BitVec 32 := Scalar.addi c128_i32 arg18
  let c16_i32_78 : BitVec 32 := 16#32
  let v68 : BitVec 32 := Scalar.muli v67 c16_i32_78
  let v69 : Index := Scalar.indexCast v68
  ![v69.toNat]

def k0_chk29 (i : grid0.Coords) (v74 : IVec S16 32) : Prop :=
  (∀ (k0_h1 : k0_cond1 i = 1#1), ∀ a x, ((![v74] : Fin 1 → IVec S16 32) a x).toNat < S1024.size a)
theorem k0_idx45_inb : ∀ (i : grid0.Coords) (v74 : IVec S16 32) (k0_hw29 : k0_chk29 i v74), ∀ (k0_h1 : k0_cond1 i = 1#1), ∀ a x, ((![v74] : Fin 1 → IVec S16 32) a x).toNat < S1024.size a := fun i v74 k0_hw29 k0_h1 => k0_hw29 k0_h1
def k0_off26 (k0_t6 : Fin k0_t6_loop.trips) : Fin 1 → Nat :=
  let c160_i32 : BitVec 32 := 160#32
  let c0_i32_23 : BitVec 32 := 0#32
  let c1_i32_25 : BitVec 32 := 1#32
  let arg18 : BitVec 32 := Scf.iv c0_i32_23 c1_i32_25 k0_t6
  let v76 : BitVec 32 := Scalar.addi c160_i32 arg18
  let c16_i32_84 : BitVec 32 := 16#32
  let v77 : BitVec 32 := Scalar.muli v76 c16_i32_84
  let v78 : Index := Scalar.indexCast v77
  ![v78.toNat]

def k0_chk30 (i : grid0.Coords) (v83 : IVec S16 32) : Prop :=
  (∀ (k0_h1 : k0_cond1 i = 1#1), ∀ a x, ((![v83] : Fin 1 → IVec S16 32) a x).toNat < S1024.size a)
theorem k0_idx46_inb : ∀ (i : grid0.Coords) (v83 : IVec S16 32) (k0_hw30 : k0_chk30 i v83), ∀ (k0_h1 : k0_cond1 i = 1#1), ∀ a x, ((![v83] : Fin 1 → IVec S16 32) a x).toNat < S1024.size a := fun i v83 k0_hw30 k0_h1 => k0_hw30 k0_h1
def k0_off27 (k0_t6 : Fin k0_t6_loop.trips) : Fin 1 → Nat :=
  let c192_i32 : BitVec 32 := 192#32
  let c0_i32_23 : BitVec 32 := 0#32
  let c1_i32_25 : BitVec 32 := 1#32
  let arg18 : BitVec 32 := Scf.iv c0_i32_23 c1_i32_25 k0_t6
  let v85 : BitVec 32 := Scalar.addi c192_i32 arg18
  let c16_i32_90 : BitVec 32 := 16#32
  let v86 : BitVec 32 := Scalar.muli v85 c16_i32_90
  let v87 : Index := Scalar.indexCast v86
  ![v87.toNat]

def k0_chk31 (i : grid0.Coords) (v92 : IVec S16 32) : Prop :=
  (∀ (k0_h1 : k0_cond1 i = 1#1), ∀ a x, ((![v92] : Fin 1 → IVec S16 32) a x).toNat < S1024.size a)
theorem k0_idx47_inb : ∀ (i : grid0.Coords) (v92 : IVec S16 32) (k0_hw31 : k0_chk31 i v92), ∀ (k0_h1 : k0_cond1 i = 1#1), ∀ a x, ((![v92] : Fin 1 → IVec S16 32) a x).toNat < S1024.size a := fun i v92 k0_hw31 k0_h1 => k0_hw31 k0_h1
def k0_off28 (k0_t6 : Fin k0_t6_loop.trips) : Fin 1 → Nat :=
  let c224_i32 : BitVec 32 := 224#32
  let c0_i32_23 : BitVec 32 := 0#32
  let c1_i32_25 : BitVec 32 := 1#32
  let arg18 : BitVec 32 := Scf.iv c0_i32_23 c1_i32_25 k0_t6
  let v94 : BitVec 32 := Scalar.addi c224_i32 arg18
  let c16_i32_96 : BitVec 32 := 16#32
  let v95 : BitVec 32 := Scalar.muli v94 c16_i32_96
  let v96 : Index := Scalar.indexCast v95
  ![v96.toNat]

def k0_chk32 (i : grid0.Coords) (v101 : IVec S16 32) : Prop :=
  (∀ (k0_h1 : k0_cond1 i = 1#1), ∀ a x, ((![v101] : Fin 1 → IVec S16 32) a x).toNat < S1024.size a)
theorem k0_idx48_inb : ∀ (i : grid0.Coords) (v101 : IVec S16 32) (k0_hw32 : k0_chk32 i v101), ∀ (k0_h1 : k0_cond1 i = 1#1), ∀ a x, ((![v101] : Fin 1 → IVec S16 32) a x).toNat < S1024.size a := fun i v101 k0_hw32 k0_h1 => k0_hw32 k0_h1
@[reducible] def k0_t7_loop : Scf.Loop 32 :=
  let c0_i32_28 : BitVec 32 := 0#32
  let c64_i32_29 : BitVec 32 := 64#32
  let v19 : BitVec 32 := Scalar.addi c0_i32_28 c64_i32_29
  let c1_i32_30 : BitVec 32 := 1#32
  ⟨c0_i32_28, v19, c1_i32_30⟩
def k0_off29 (k0_t7 : Fin k0_t7_loop.trips) : Fin 1 → Nat :=
  let c0_i32_28 : BitVec 32 := 0#32
  let c1_i32_30 : BitVec 32 := 1#32
  let arg18 : BitVec 32 := Scf.iv c0_i32_28 c1_i32_30 k0_t7
  let c16_i32 : BitVec 32 := 16#32
  let v31 : BitVec 32 := Scalar.muli arg18 c16_i32
  let v32 : Index := Scalar.indexCast v31
  ![v32.toNat]
@[reducible] def k0_t8_loop : Scf.Loop 32 :=
  let c0_i32_33 : BitVec 32 := 0#32
  let c32_i32_34 : BitVec 32 := 32#32
  let v21 : BitVec 32 := Scalar.addi c0_i32_33 c32_i32_34
  let c1_i32_35 : BitVec 32 := 1#32
  ⟨c0_i32_33, v21, c1_i32_35⟩
def k0_off30 (k0_t8 : Fin k0_t8_loop.trips) : Fin 1 → Nat :=
  let c0_i32_57 : BitVec 32 := 0#32
  let c0_i32_33 : BitVec 32 := 0#32
  let c1_i32_35 : BitVec 32 := 1#32
  let arg18 : BitVec 32 := Scf.iv c0_i32_33 c1_i32_35 k0_t8
  let v31 : BitVec 32 := Scalar.addi c0_i32_57 arg18
  let c16_i32 : BitVec 32 := 16#32
  let v32 : BitVec 32 := Scalar.muli v31 c16_i32
  let v33 : Index := Scalar.indexCast v32
  ![v33.toNat]

def k0_chk34 (i : grid0.Coords) (v45 : IVec S16 32) : Prop :=
  (∀ (k0_h1 : k0_cond1 i = 1#1), ∀ a x, ((![v45] : Fin 1 → IVec S16 32) a x).toNat < S4096.size a) ∧
  (∀ (k0_h1 : k0_cond1 i = 1#1), ∀ a x, ((![v45] : Fin 1 → IVec S16 32) a x).toNat < S4096.size a)
theorem k0_idx50_inb : ∀ (i : grid0.Coords) (v45 : IVec S16 32) (k0_hw34 : k0_chk34 i v45), ∀ (k0_h1 : k0_cond1 i = 1#1), ∀ a x, ((![v45] : Fin 1 → IVec S16 32) a x).toNat < S4096.size a := fun i v45 k0_hw34 k0_h1 => k0_hw34.1 k0_h1
theorem k0_idx51_inb : ∀ (i : grid0.Coords) (v45 : IVec S16 32) (k0_hw34 : k0_chk34 i v45), ∀ (k0_h1 : k0_cond1 i = 1#1), ∀ a x, ((![v45] : Fin 1 → IVec S16 32) a x).toNat < S4096.size a := fun i v45 k0_hw34 k0_h1 => k0_hw34.2 k0_h1

def k0_chk33 (i : grid0.Coords) (v40 : IVec S16 32) : Prop :=
  (∀ (k0_h1 : k0_cond1 i = 1#1), ∀ a x, ((![v40] : Fin 1 → IVec S16 32) a x).toNat < S1024.size a) ∧
  (∀ (k0_h1 : k0_cond1 i = 1#1), ∀ a x, ((![v40] : Fin 1 → IVec S16 32) a x).toNat < S1024.size a)
theorem k0_idx49_inb : ∀ (i : grid0.Coords) (v40 : IVec S16 32) (k0_hw33 : k0_chk33 i v40), ∀ (k0_h1 : k0_cond1 i = 1#1), ∀ a x, ((![v40] : Fin 1 → IVec S16 32) a x).toNat < S1024.size a := fun i v40 k0_hw33 k0_h1 => k0_hw33.1 k0_h1
theorem k0_idx52_inb : ∀ (i : grid0.Coords) (v40 : IVec S16 32) (k0_hw33 : k0_chk33 i v40), ∀ (k0_h1 : k0_cond1 i = 1#1), ∀ a x, ((![v40] : Fin 1 → IVec S16 32) a x).toNat < S1024.size a := fun i v40 k0_hw33 k0_h1 => k0_hw33.2 k0_h1
def k0_off31 (k0_t8 : Fin k0_t8_loop.trips) : Fin 1 → Nat :=
  let c32_i32_59 : BitVec 32 := 32#32
  let c0_i32_33 : BitVec 32 := 0#32
  let c1_i32_35 : BitVec 32 := 1#32
  let arg18 : BitVec 32 := Scf.iv c0_i32_33 c1_i32_35 k0_t8
  let v46 : BitVec 32 := Scalar.addi c32_i32_59 arg18
  let c16_i32_60 : BitVec 32 := 16#32
  let v47 : BitVec 32 := Scalar.muli v46 c16_i32_60
  let v48 : Index := Scalar.indexCast v47
  ![v48.toNat]

def k0_chk36 (i : grid0.Coords) (v60 : IVec S16 32) : Prop :=
  (∀ (k0_h1 : k0_cond1 i = 1#1), ∀ a x, ((![v60] : Fin 1 → IVec S16 32) a x).toNat < S4096.size a) ∧
  (∀ (k0_h1 : k0_cond1 i = 1#1), ∀ a x, ((![v60] : Fin 1 → IVec S16 32) a x).toNat < S4096.size a)
theorem k0_idx54_inb : ∀ (i : grid0.Coords) (v60 : IVec S16 32) (k0_hw36 : k0_chk36 i v60), ∀ (k0_h1 : k0_cond1 i = 1#1), ∀ a x, ((![v60] : Fin 1 → IVec S16 32) a x).toNat < S4096.size a := fun i v60 k0_hw36 k0_h1 => k0_hw36.1 k0_h1
theorem k0_idx55_inb : ∀ (i : grid0.Coords) (v60 : IVec S16 32) (k0_hw36 : k0_chk36 i v60), ∀ (k0_h1 : k0_cond1 i = 1#1), ∀ a x, ((![v60] : Fin 1 → IVec S16 32) a x).toNat < S4096.size a := fun i v60 k0_hw36 k0_h1 => k0_hw36.2 k0_h1

def k0_chk35 (i : grid0.Coords) (v55 : IVec S16 32) : Prop :=
  (∀ (k0_h1 : k0_cond1 i = 1#1), ∀ a x, ((![v55] : Fin 1 → IVec S16 32) a x).toNat < S1024.size a) ∧
  (∀ (k0_h1 : k0_cond1 i = 1#1), ∀ a x, ((![v55] : Fin 1 → IVec S16 32) a x).toNat < S1024.size a)
theorem k0_idx53_inb : ∀ (i : grid0.Coords) (v55 : IVec S16 32) (k0_hw35 : k0_chk35 i v55), ∀ (k0_h1 : k0_cond1 i = 1#1), ∀ a x, ((![v55] : Fin 1 → IVec S16 32) a x).toNat < S1024.size a := fun i v55 k0_hw35 k0_h1 => k0_hw35.1 k0_h1
theorem k0_idx56_inb : ∀ (i : grid0.Coords) (v55 : IVec S16 32) (k0_hw35 : k0_chk35 i v55), ∀ (k0_h1 : k0_cond1 i = 1#1), ∀ a x, ((![v55] : Fin 1 → IVec S16 32) a x).toNat < S1024.size a := fun i v55 k0_hw35 k0_h1 => k0_hw35.2 k0_h1
def k0_off32 (k0_t8 : Fin k0_t8_loop.trips) : Fin 1 → Nat :=
  let c64_i32_67 : BitVec 32 := 64#32
  let c0_i32_33 : BitVec 32 := 0#32
  let c1_i32_35 : BitVec 32 := 1#32
  let arg18 : BitVec 32 := Scf.iv c0_i32_33 c1_i32_35 k0_t8
  let v61 : BitVec 32 := Scalar.addi c64_i32_67 arg18
  let c16_i32_68 : BitVec 32 := 16#32
  let v62 : BitVec 32 := Scalar.muli v61 c16_i32_68
  let v63 : Index := Scalar.indexCast v62
  ![v63.toNat]

def k0_chk38 (i : grid0.Coords) (v75 : IVec S16 32) : Prop :=
  (∀ (k0_h1 : k0_cond1 i = 1#1), ∀ a x, ((![v75] : Fin 1 → IVec S16 32) a x).toNat < S4096.size a) ∧
  (∀ (k0_h1 : k0_cond1 i = 1#1), ∀ a x, ((![v75] : Fin 1 → IVec S16 32) a x).toNat < S4096.size a)
theorem k0_idx58_inb : ∀ (i : grid0.Coords) (v75 : IVec S16 32) (k0_hw38 : k0_chk38 i v75), ∀ (k0_h1 : k0_cond1 i = 1#1), ∀ a x, ((![v75] : Fin 1 → IVec S16 32) a x).toNat < S4096.size a := fun i v75 k0_hw38 k0_h1 => k0_hw38.1 k0_h1
theorem k0_idx59_inb : ∀ (i : grid0.Coords) (v75 : IVec S16 32) (k0_hw38 : k0_chk38 i v75), ∀ (k0_h1 : k0_cond1 i = 1#1), ∀ a x, ((![v75] : Fin 1 → IVec S16 32) a x).toNat < S4096.size a := fun i v75 k0_hw38 k0_h1 => k0_hw38.2 k0_h1

def k0_chk37 (i : grid0.Coords) (v70 : IVec S16 32) : Prop :=
  (∀ (k0_h1 : k0_cond1 i = 1#1), ∀ a x, ((![v70] : Fin 1 → IVec S16 32) a x).toNat < S1024.size a) ∧
  (∀ (k0_h1 : k0_cond1 i = 1#1), ∀ a x, ((![v70] : Fin 1 → IVec S16 32) a x).toNat < S1024.size a)
theorem k0_idx57_inb : ∀ (i : grid0.Coords) (v70 : IVec S16 32) (k0_hw37 : k0_chk37 i v70), ∀ (k0_h1 : k0_cond1 i = 1#1), ∀ a x, ((![v70] : Fin 1 → IVec S16 32) a x).toNat < S1024.size a := fun i v70 k0_hw37 k0_h1 => k0_hw37.1 k0_h1
theorem k0_idx60_inb : ∀ (i : grid0.Coords) (v70 : IVec S16 32) (k0_hw37 : k0_chk37 i v70), ∀ (k0_h1 : k0_cond1 i = 1#1), ∀ a x, ((![v70] : Fin 1 → IVec S16 32) a x).toNat < S1024.size a := fun i v70 k0_hw37 k0_h1 => k0_hw37.2 k0_h1
def k0_off33 (k0_t8 : Fin k0_t8_loop.trips) : Fin 1 → Nat :=
  let c96_i32 : BitVec 32 := 96#32
  let c0_i32_33 : BitVec 32 := 0#32
  let c1_i32_35 : BitVec 32 := 1#32
  let arg18 : BitVec 32 := Scf.iv c0_i32_33 c1_i32_35 k0_t8
  let v76 : BitVec 32 := Scalar.addi c96_i32 arg18
  let c16_i32_75 : BitVec 32 := 16#32
  let v77 : BitVec 32 := Scalar.muli v76 c16_i32_75
  let v78 : Index := Scalar.indexCast v77
  ![v78.toNat]

def k0_chk40 (i : grid0.Coords) (v90 : IVec S16 32) : Prop :=
  (∀ (k0_h1 : k0_cond1 i = 1#1), ∀ a x, ((![v90] : Fin 1 → IVec S16 32) a x).toNat < S4096.size a) ∧
  (∀ (k0_h1 : k0_cond1 i = 1#1), ∀ a x, ((![v90] : Fin 1 → IVec S16 32) a x).toNat < S4096.size a)
theorem k0_idx62_inb : ∀ (i : grid0.Coords) (v90 : IVec S16 32) (k0_hw40 : k0_chk40 i v90), ∀ (k0_h1 : k0_cond1 i = 1#1), ∀ a x, ((![v90] : Fin 1 → IVec S16 32) a x).toNat < S4096.size a := fun i v90 k0_hw40 k0_h1 => k0_hw40.1 k0_h1
theorem k0_idx63_inb : ∀ (i : grid0.Coords) (v90 : IVec S16 32) (k0_hw40 : k0_chk40 i v90), ∀ (k0_h1 : k0_cond1 i = 1#1), ∀ a x, ((![v90] : Fin 1 → IVec S16 32) a x).toNat < S4096.size a := fun i v90 k0_hw40 k0_h1 => k0_hw40.2 k0_h1

def k0_chk39 (i : grid0.Coords) (v85 : IVec S16 32) : Prop :=
  (∀ (k0_h1 : k0_cond1 i = 1#1), ∀ a x, ((![v85] : Fin 1 → IVec S16 32) a x).toNat < S1024.size a) ∧
  (∀ (k0_h1 : k0_cond1 i = 1#1), ∀ a x, ((![v85] : Fin 1 → IVec S16 32) a x).toNat < S1024.size a)
theorem k0_idx61_inb : ∀ (i : grid0.Coords) (v85 : IVec S16 32) (k0_hw39 : k0_chk39 i v85), ∀ (k0_h1 : k0_cond1 i = 1#1), ∀ a x, ((![v85] : Fin 1 → IVec S16 32) a x).toNat < S1024.size a := fun i v85 k0_hw39 k0_h1 => k0_hw39.1 k0_h1
theorem k0_idx64_inb : ∀ (i : grid0.Coords) (v85 : IVec S16 32) (k0_hw39 : k0_chk39 i v85), ∀ (k0_h1 : k0_cond1 i = 1#1), ∀ a x, ((![v85] : Fin 1 → IVec S16 32) a x).toNat < S1024.size a := fun i v85 k0_hw39 k0_h1 => k0_hw39.2 k0_h1
def k0_off34 (k0_t8 : Fin k0_t8_loop.trips) : Fin 1 → Nat :=
  let c128_i32 : BitVec 32 := 128#32
  let c0_i32_33 : BitVec 32 := 0#32
  let c1_i32_35 : BitVec 32 := 1#32
  let arg18 : BitVec 32 := Scf.iv c0_i32_33 c1_i32_35 k0_t8
  let v91 : BitVec 32 := Scalar.addi c128_i32 arg18
  let c16_i32_82 : BitVec 32 := 16#32
  let v92 : BitVec 32 := Scalar.muli v91 c16_i32_82
  let v93 : Index := Scalar.indexCast v92
  ![v93.toNat]

def k0_chk42 (i : grid0.Coords) (v105 : IVec S16 32) : Prop :=
  (∀ (k0_h1 : k0_cond1 i = 1#1), ∀ a x, ((![v105] : Fin 1 → IVec S16 32) a x).toNat < S4096.size a) ∧
  (∀ (k0_h1 : k0_cond1 i = 1#1), ∀ a x, ((![v105] : Fin 1 → IVec S16 32) a x).toNat < S4096.size a)
theorem k0_idx66_inb : ∀ (i : grid0.Coords) (v105 : IVec S16 32) (k0_hw42 : k0_chk42 i v105), ∀ (k0_h1 : k0_cond1 i = 1#1), ∀ a x, ((![v105] : Fin 1 → IVec S16 32) a x).toNat < S4096.size a := fun i v105 k0_hw42 k0_h1 => k0_hw42.1 k0_h1
theorem k0_idx67_inb : ∀ (i : grid0.Coords) (v105 : IVec S16 32) (k0_hw42 : k0_chk42 i v105), ∀ (k0_h1 : k0_cond1 i = 1#1), ∀ a x, ((![v105] : Fin 1 → IVec S16 32) a x).toNat < S4096.size a := fun i v105 k0_hw42 k0_h1 => k0_hw42.2 k0_h1

def k0_chk41 (i : grid0.Coords) (v100 : IVec S16 32) : Prop :=
  (∀ (k0_h1 : k0_cond1 i = 1#1), ∀ a x, ((![v100] : Fin 1 → IVec S16 32) a x).toNat < S1024.size a) ∧
  (∀ (k0_h1 : k0_cond1 i = 1#1), ∀ a x, ((![v100] : Fin 1 → IVec S16 32) a x).toNat < S1024.size a)
theorem k0_idx65_inb : ∀ (i : grid0.Coords) (v100 : IVec S16 32) (k0_hw41 : k0_chk41 i v100), ∀ (k0_h1 : k0_cond1 i = 1#1), ∀ a x, ((![v100] : Fin 1 → IVec S16 32) a x).toNat < S1024.size a := fun i v100 k0_hw41 k0_h1 => k0_hw41.1 k0_h1
theorem k0_idx68_inb : ∀ (i : grid0.Coords) (v100 : IVec S16 32) (k0_hw41 : k0_chk41 i v100), ∀ (k0_h1 : k0_cond1 i = 1#1), ∀ a x, ((![v100] : Fin 1 → IVec S16 32) a x).toNat < S1024.size a := fun i v100 k0_hw41 k0_h1 => k0_hw41.2 k0_h1
def k0_off35 (k0_t8 : Fin k0_t8_loop.trips) : Fin 1 → Nat :=
  let c160_i32 : BitVec 32 := 160#32
  let c0_i32_33 : BitVec 32 := 0#32
  let c1_i32_35 : BitVec 32 := 1#32
  let arg18 : BitVec 32 := Scf.iv c0_i32_33 c1_i32_35 k0_t8
  let v106 : BitVec 32 := Scalar.addi c160_i32 arg18
  let c16_i32_89 : BitVec 32 := 16#32
  let v107 : BitVec 32 := Scalar.muli v106 c16_i32_89
  let v108 : Index := Scalar.indexCast v107
  ![v108.toNat]

def k0_chk44 (i : grid0.Coords) (v120 : IVec S16 32) : Prop :=
  (∀ (k0_h1 : k0_cond1 i = 1#1), ∀ a x, ((![v120] : Fin 1 → IVec S16 32) a x).toNat < S4096.size a) ∧
  (∀ (k0_h1 : k0_cond1 i = 1#1), ∀ a x, ((![v120] : Fin 1 → IVec S16 32) a x).toNat < S4096.size a)
theorem k0_idx70_inb : ∀ (i : grid0.Coords) (v120 : IVec S16 32) (k0_hw44 : k0_chk44 i v120), ∀ (k0_h1 : k0_cond1 i = 1#1), ∀ a x, ((![v120] : Fin 1 → IVec S16 32) a x).toNat < S4096.size a := fun i v120 k0_hw44 k0_h1 => k0_hw44.1 k0_h1
theorem k0_idx71_inb : ∀ (i : grid0.Coords) (v120 : IVec S16 32) (k0_hw44 : k0_chk44 i v120), ∀ (k0_h1 : k0_cond1 i = 1#1), ∀ a x, ((![v120] : Fin 1 → IVec S16 32) a x).toNat < S4096.size a := fun i v120 k0_hw44 k0_h1 => k0_hw44.2 k0_h1

def k0_chk43 (i : grid0.Coords) (v115 : IVec S16 32) : Prop :=
  (∀ (k0_h1 : k0_cond1 i = 1#1), ∀ a x, ((![v115] : Fin 1 → IVec S16 32) a x).toNat < S1024.size a) ∧
  (∀ (k0_h1 : k0_cond1 i = 1#1), ∀ a x, ((![v115] : Fin 1 → IVec S16 32) a x).toNat < S1024.size a)
theorem k0_idx69_inb : ∀ (i : grid0.Coords) (v115 : IVec S16 32) (k0_hw43 : k0_chk43 i v115), ∀ (k0_h1 : k0_cond1 i = 1#1), ∀ a x, ((![v115] : Fin 1 → IVec S16 32) a x).toNat < S1024.size a := fun i v115 k0_hw43 k0_h1 => k0_hw43.1 k0_h1
theorem k0_idx72_inb : ∀ (i : grid0.Coords) (v115 : IVec S16 32) (k0_hw43 : k0_chk43 i v115), ∀ (k0_h1 : k0_cond1 i = 1#1), ∀ a x, ((![v115] : Fin 1 → IVec S16 32) a x).toNat < S1024.size a := fun i v115 k0_hw43 k0_h1 => k0_hw43.2 k0_h1
def k0_off36 (k0_t8 : Fin k0_t8_loop.trips) : Fin 1 → Nat :=
  let c192_i32 : BitVec 32 := 192#32
  let c0_i32_33 : BitVec 32 := 0#32
  let c1_i32_35 : BitVec 32 := 1#32
  let arg18 : BitVec 32 := Scf.iv c0_i32_33 c1_i32_35 k0_t8
  let v121 : BitVec 32 := Scalar.addi c192_i32 arg18
  let c16_i32_96 : BitVec 32 := 16#32
  let v122 : BitVec 32 := Scalar.muli v121 c16_i32_96
  let v123 : Index := Scalar.indexCast v122
  ![v123.toNat]

def k0_chk46 (i : grid0.Coords) (v135 : IVec S16 32) : Prop :=
  (∀ (k0_h1 : k0_cond1 i = 1#1), ∀ a x, ((![v135] : Fin 1 → IVec S16 32) a x).toNat < S4096.size a) ∧
  (∀ (k0_h1 : k0_cond1 i = 1#1), ∀ a x, ((![v135] : Fin 1 → IVec S16 32) a x).toNat < S4096.size a)
theorem k0_idx74_inb : ∀ (i : grid0.Coords) (v135 : IVec S16 32) (k0_hw46 : k0_chk46 i v135), ∀ (k0_h1 : k0_cond1 i = 1#1), ∀ a x, ((![v135] : Fin 1 → IVec S16 32) a x).toNat < S4096.size a := fun i v135 k0_hw46 k0_h1 => k0_hw46.1 k0_h1
theorem k0_idx75_inb : ∀ (i : grid0.Coords) (v135 : IVec S16 32) (k0_hw46 : k0_chk46 i v135), ∀ (k0_h1 : k0_cond1 i = 1#1), ∀ a x, ((![v135] : Fin 1 → IVec S16 32) a x).toNat < S4096.size a := fun i v135 k0_hw46 k0_h1 => k0_hw46.2 k0_h1

def k0_chk45 (i : grid0.Coords) (v130 : IVec S16 32) : Prop :=
  (∀ (k0_h1 : k0_cond1 i = 1#1), ∀ a x, ((![v130] : Fin 1 → IVec S16 32) a x).toNat < S1024.size a) ∧
  (∀ (k0_h1 : k0_cond1 i = 1#1), ∀ a x, ((![v130] : Fin 1 → IVec S16 32) a x).toNat < S1024.size a)
theorem k0_idx73_inb : ∀ (i : grid0.Coords) (v130 : IVec S16 32) (k0_hw45 : k0_chk45 i v130), ∀ (k0_h1 : k0_cond1 i = 1#1), ∀ a x, ((![v130] : Fin 1 → IVec S16 32) a x).toNat < S1024.size a := fun i v130 k0_hw45 k0_h1 => k0_hw45.1 k0_h1
theorem k0_idx76_inb : ∀ (i : grid0.Coords) (v130 : IVec S16 32) (k0_hw45 : k0_chk45 i v130), ∀ (k0_h1 : k0_cond1 i = 1#1), ∀ a x, ((![v130] : Fin 1 → IVec S16 32) a x).toNat < S1024.size a := fun i v130 k0_hw45 k0_h1 => k0_hw45.2 k0_h1
def k0_off37 (k0_t8 : Fin k0_t8_loop.trips) : Fin 1 → Nat :=
  let c224_i32 : BitVec 32 := 224#32
  let c0_i32_33 : BitVec 32 := 0#32
  let c1_i32_35 : BitVec 32 := 1#32
  let arg18 : BitVec 32 := Scf.iv c0_i32_33 c1_i32_35 k0_t8
  let v136 : BitVec 32 := Scalar.addi c224_i32 arg18
  let c16_i32_103 : BitVec 32 := 16#32
  let v137 : BitVec 32 := Scalar.muli v136 c16_i32_103
  let v138 : Index := Scalar.indexCast v137
  ![v138.toNat]

def k0_chk48 (i : grid0.Coords) (v150 : IVec S16 32) : Prop :=
  (∀ (k0_h1 : k0_cond1 i = 1#1), ∀ a x, ((![v150] : Fin 1 → IVec S16 32) a x).toNat < S4096.size a) ∧
  (∀ (k0_h1 : k0_cond1 i = 1#1), ∀ a x, ((![v150] : Fin 1 → IVec S16 32) a x).toNat < S4096.size a)
theorem k0_idx78_inb : ∀ (i : grid0.Coords) (v150 : IVec S16 32) (k0_hw48 : k0_chk48 i v150), ∀ (k0_h1 : k0_cond1 i = 1#1), ∀ a x, ((![v150] : Fin 1 → IVec S16 32) a x).toNat < S4096.size a := fun i v150 k0_hw48 k0_h1 => k0_hw48.1 k0_h1
theorem k0_idx79_inb : ∀ (i : grid0.Coords) (v150 : IVec S16 32) (k0_hw48 : k0_chk48 i v150), ∀ (k0_h1 : k0_cond1 i = 1#1), ∀ a x, ((![v150] : Fin 1 → IVec S16 32) a x).toNat < S4096.size a := fun i v150 k0_hw48 k0_h1 => k0_hw48.2 k0_h1

def k0_chk47 (i : grid0.Coords) (v145 : IVec S16 32) : Prop :=
  (∀ (k0_h1 : k0_cond1 i = 1#1), ∀ a x, ((![v145] : Fin 1 → IVec S16 32) a x).toNat < S1024.size a) ∧
  (∀ (k0_h1 : k0_cond1 i = 1#1), ∀ a x, ((![v145] : Fin 1 → IVec S16 32) a x).toNat < S1024.size a)
theorem k0_idx77_inb : ∀ (i : grid0.Coords) (v145 : IVec S16 32) (k0_hw47 : k0_chk47 i v145), ∀ (k0_h1 : k0_cond1 i = 1#1), ∀ a x, ((![v145] : Fin 1 → IVec S16 32) a x).toNat < S1024.size a := fun i v145 k0_hw47 k0_h1 => k0_hw47.1 k0_h1
theorem k0_idx80_inb : ∀ (i : grid0.Coords) (v145 : IVec S16 32) (k0_hw47 : k0_chk47 i v145), ∀ (k0_h1 : k0_cond1 i = 1#1), ∀ a x, ((![v145] : Fin 1 → IVec S16 32) a x).toNat < S1024.size a := fun i v145 k0_hw47 k0_h1 => k0_hw47.2 k0_h1
@[reducible] def k0_t9_loop : Scf.Loop 32 :=
  let c0_i32_38 : BitVec 32 := 0#32
  let c64_i32_39 : BitVec 32 := 64#32
  let v23 : BitVec 32 := Scalar.addi c0_i32_38 c64_i32_39
  let c1_i32_40 : BitVec 32 := 1#32
  ⟨c0_i32_38, v23, c1_i32_40⟩
def k0_off38 (k0_t9 : Fin k0_t9_loop.trips) : Fin 1 → Nat :=
  let c0_i32_38 : BitVec 32 := 0#32
  let c1_i32_40 : BitVec 32 := 1#32
  let arg18 : BitVec 32 := Scf.iv c0_i32_38 c1_i32_40 k0_t9
  let c16_i32 : BitVec 32 := 16#32
  let v32 : BitVec 32 := Scalar.muli arg18 c16_i32
  let v33 : Index := Scalar.indexCast v32
  ![v33.toNat]
@[reducible] def k0_t10_loop : Scf.Loop 32 :=
  let c0_i32_43 : BitVec 32 := 0#32
  let c32_i32_44 : BitVec 32 := 32#32
  let v25 : BitVec 32 := Scalar.addi c0_i32_43 c32_i32_44
  let c1_i32_45 : BitVec 32 := 1#32
  ⟨c0_i32_43, v25, c1_i32_45⟩
def k0_off39 (k0_t10 : Fin k0_t10_loop.trips) : Fin 1 → Nat :=
  let c0_i32_57 : BitVec 32 := 0#32
  let c0_i32_43 : BitVec 32 := 0#32
  let c1_i32_45 : BitVec 32 := 1#32
  let arg18 : BitVec 32 := Scf.iv c0_i32_43 c1_i32_45 k0_t10
  let v31 : BitVec 32 := Scalar.addi c0_i32_57 arg18
  let c16_i32 : BitVec 32 := 16#32
  let v32 : BitVec 32 := Scalar.muli v31 c16_i32
  let v33 : Index := Scalar.indexCast v32
  ![v33.toNat]

def k0_chk49 (i : grid0.Coords) (v38 : IVec S16 32) : Prop :=
  (∀ (k0_h1 : k0_cond1 i = 1#1), ∀ a x, ((![v38] : Fin 1 → IVec S16 32) a x).toNat < S1024.size a)
theorem k0_idx81_inb : ∀ (i : grid0.Coords) (v38 : IVec S16 32) (k0_hw49 : k0_chk49 i v38), ∀ (k0_h1 : k0_cond1 i = 1#1), ∀ a x, ((![v38] : Fin 1 → IVec S16 32) a x).toNat < S1024.size a := fun i v38 k0_hw49 k0_h1 => k0_hw49 k0_h1
def k0_off40 (k0_t10 : Fin k0_t10_loop.trips) : Fin 1 → Nat :=
  let c32_i32_58 : BitVec 32 := 32#32
  let c0_i32_43 : BitVec 32 := 0#32
  let c1_i32_45 : BitVec 32 := 1#32
  let arg18 : BitVec 32 := Scf.iv c0_i32_43 c1_i32_45 k0_t10
  let v40 : BitVec 32 := Scalar.addi c32_i32_58 arg18
  let c16_i32_59 : BitVec 32 := 16#32
  let v41 : BitVec 32 := Scalar.muli v40 c16_i32_59
  let v42 : Index := Scalar.indexCast v41
  ![v42.toNat]

def k0_chk50 (i : grid0.Coords) (v47 : IVec S16 32) : Prop :=
  (∀ (k0_h1 : k0_cond1 i = 1#1), ∀ a x, ((![v47] : Fin 1 → IVec S16 32) a x).toNat < S1024.size a)
theorem k0_idx82_inb : ∀ (i : grid0.Coords) (v47 : IVec S16 32) (k0_hw50 : k0_chk50 i v47), ∀ (k0_h1 : k0_cond1 i = 1#1), ∀ a x, ((![v47] : Fin 1 → IVec S16 32) a x).toNat < S1024.size a := fun i v47 k0_hw50 k0_h1 => k0_hw50 k0_h1
def k0_off41 (k0_t10 : Fin k0_t10_loop.trips) : Fin 1 → Nat :=
  let c64_i32_65 : BitVec 32 := 64#32
  let c0_i32_43 : BitVec 32 := 0#32
  let c1_i32_45 : BitVec 32 := 1#32
  let arg18 : BitVec 32 := Scf.iv c0_i32_43 c1_i32_45 k0_t10
  let v49 : BitVec 32 := Scalar.addi c64_i32_65 arg18
  let c16_i32_66 : BitVec 32 := 16#32
  let v50 : BitVec 32 := Scalar.muli v49 c16_i32_66
  let v51 : Index := Scalar.indexCast v50
  ![v51.toNat]

def k0_chk51 (i : grid0.Coords) (v56 : IVec S16 32) : Prop :=
  (∀ (k0_h1 : k0_cond1 i = 1#1), ∀ a x, ((![v56] : Fin 1 → IVec S16 32) a x).toNat < S1024.size a)
theorem k0_idx83_inb : ∀ (i : grid0.Coords) (v56 : IVec S16 32) (k0_hw51 : k0_chk51 i v56), ∀ (k0_h1 : k0_cond1 i = 1#1), ∀ a x, ((![v56] : Fin 1 → IVec S16 32) a x).toNat < S1024.size a := fun i v56 k0_hw51 k0_h1 => k0_hw51 k0_h1
def k0_off42 (k0_t10 : Fin k0_t10_loop.trips) : Fin 1 → Nat :=
  let c96_i32 : BitVec 32 := 96#32
  let c0_i32_43 : BitVec 32 := 0#32
  let c1_i32_45 : BitVec 32 := 1#32
  let arg18 : BitVec 32 := Scf.iv c0_i32_43 c1_i32_45 k0_t10
  let v58 : BitVec 32 := Scalar.addi c96_i32 arg18
  let c16_i32_72 : BitVec 32 := 16#32
  let v59 : BitVec 32 := Scalar.muli v58 c16_i32_72
  let v60 : Index := Scalar.indexCast v59
  ![v60.toNat]

def k0_chk52 (i : grid0.Coords) (v65 : IVec S16 32) : Prop :=
  (∀ (k0_h1 : k0_cond1 i = 1#1), ∀ a x, ((![v65] : Fin 1 → IVec S16 32) a x).toNat < S1024.size a)
theorem k0_idx84_inb : ∀ (i : grid0.Coords) (v65 : IVec S16 32) (k0_hw52 : k0_chk52 i v65), ∀ (k0_h1 : k0_cond1 i = 1#1), ∀ a x, ((![v65] : Fin 1 → IVec S16 32) a x).toNat < S1024.size a := fun i v65 k0_hw52 k0_h1 => k0_hw52 k0_h1
def k0_off43 (k0_t10 : Fin k0_t10_loop.trips) : Fin 1 → Nat :=
  let c128_i32 : BitVec 32 := 128#32
  let c0_i32_43 : BitVec 32 := 0#32
  let c1_i32_45 : BitVec 32 := 1#32
  let arg18 : BitVec 32 := Scf.iv c0_i32_43 c1_i32_45 k0_t10
  let v67 : BitVec 32 := Scalar.addi c128_i32 arg18
  let c16_i32_78 : BitVec 32 := 16#32
  let v68 : BitVec 32 := Scalar.muli v67 c16_i32_78
  let v69 : Index := Scalar.indexCast v68
  ![v69.toNat]

def k0_chk53 (i : grid0.Coords) (v74 : IVec S16 32) : Prop :=
  (∀ (k0_h1 : k0_cond1 i = 1#1), ∀ a x, ((![v74] : Fin 1 → IVec S16 32) a x).toNat < S1024.size a)
theorem k0_idx85_inb : ∀ (i : grid0.Coords) (v74 : IVec S16 32) (k0_hw53 : k0_chk53 i v74), ∀ (k0_h1 : k0_cond1 i = 1#1), ∀ a x, ((![v74] : Fin 1 → IVec S16 32) a x).toNat < S1024.size a := fun i v74 k0_hw53 k0_h1 => k0_hw53 k0_h1
def k0_off44 (k0_t10 : Fin k0_t10_loop.trips) : Fin 1 → Nat :=
  let c160_i32 : BitVec 32 := 160#32
  let c0_i32_43 : BitVec 32 := 0#32
  let c1_i32_45 : BitVec 32 := 1#32
  let arg18 : BitVec 32 := Scf.iv c0_i32_43 c1_i32_45 k0_t10
  let v76 : BitVec 32 := Scalar.addi c160_i32 arg18
  let c16_i32_84 : BitVec 32 := 16#32
  let v77 : BitVec 32 := Scalar.muli v76 c16_i32_84
  let v78 : Index := Scalar.indexCast v77
  ![v78.toNat]

def k0_chk54 (i : grid0.Coords) (v83 : IVec S16 32) : Prop :=
  (∀ (k0_h1 : k0_cond1 i = 1#1), ∀ a x, ((![v83] : Fin 1 → IVec S16 32) a x).toNat < S1024.size a)
theorem k0_idx86_inb : ∀ (i : grid0.Coords) (v83 : IVec S16 32) (k0_hw54 : k0_chk54 i v83), ∀ (k0_h1 : k0_cond1 i = 1#1), ∀ a x, ((![v83] : Fin 1 → IVec S16 32) a x).toNat < S1024.size a := fun i v83 k0_hw54 k0_h1 => k0_hw54 k0_h1
def k0_off45 (k0_t10 : Fin k0_t10_loop.trips) : Fin 1 → Nat :=
  let c192_i32 : BitVec 32 := 192#32
  let c0_i32_43 : BitVec 32 := 0#32
  let c1_i32_45 : BitVec 32 := 1#32
  let arg18 : BitVec 32 := Scf.iv c0_i32_43 c1_i32_45 k0_t10
  let v85 : BitVec 32 := Scalar.addi c192_i32 arg18
  let c16_i32_90 : BitVec 32 := 16#32
  let v86 : BitVec 32 := Scalar.muli v85 c16_i32_90
  let v87 : Index := Scalar.indexCast v86
  ![v87.toNat]

def k0_chk55 (i : grid0.Coords) (v92 : IVec S16 32) : Prop :=
  (∀ (k0_h1 : k0_cond1 i = 1#1), ∀ a x, ((![v92] : Fin 1 → IVec S16 32) a x).toNat < S1024.size a)
theorem k0_idx87_inb : ∀ (i : grid0.Coords) (v92 : IVec S16 32) (k0_hw55 : k0_chk55 i v92), ∀ (k0_h1 : k0_cond1 i = 1#1), ∀ a x, ((![v92] : Fin 1 → IVec S16 32) a x).toNat < S1024.size a := fun i v92 k0_hw55 k0_h1 => k0_hw55 k0_h1
def k0_off46 (k0_t10 : Fin k0_t10_loop.trips) : Fin 1 → Nat :=
  let c224_i32 : BitVec 32 := 224#32
  let c0_i32_43 : BitVec 32 := 0#32
  let c1_i32_45 : BitVec 32 := 1#32
  let arg18 : BitVec 32 := Scf.iv c0_i32_43 c1_i32_45 k0_t10
  let v94 : BitVec 32 := Scalar.addi c224_i32 arg18
  let c16_i32_96 : BitVec 32 := 16#32
  let v95 : BitVec 32 := Scalar.muli v94 c16_i32_96
  let v96 : Index := Scalar.indexCast v95
  ![v96.toNat]

def k0_chk56 (i : grid0.Coords) (v101 : IVec S16 32) : Prop :=
  (∀ (k0_h1 : k0_cond1 i = 1#1), ∀ a x, ((![v101] : Fin 1 → IVec S16 32) a x).toNat < S1024.size a)
theorem k0_idx88_inb : ∀ (i : grid0.Coords) (v101 : IVec S16 32) (k0_hw56 : k0_chk56 i v101), ∀ (k0_h1 : k0_cond1 i = 1#1), ∀ a x, ((![v101] : Fin 1 → IVec S16 32) a x).toNat < S1024.size a := fun i v101 k0_hw56 k0_h1 => k0_hw56 k0_h1
@[reducible] def k0_t11_loop : Scf.Loop 32 :=
  let c0_i32_48 : BitVec 32 := 0#32
  let c64_i32_49 : BitVec 32 := 64#32
  let v27 : BitVec 32 := Scalar.addi c0_i32_48 c64_i32_49
  let c1_i32_50 : BitVec 32 := 1#32
  ⟨c0_i32_48, v27, c1_i32_50⟩
def k0_off47 (k0_t11 : Fin k0_t11_loop.trips) : Fin 1 → Nat :=
  let c0_i32_48 : BitVec 32 := 0#32
  let c1_i32_50 : BitVec 32 := 1#32
  let arg18 : BitVec 32 := Scf.iv c0_i32_48 c1_i32_50 k0_t11
  let c16_i32 : BitVec 32 := 16#32
  let v31 : BitVec 32 := Scalar.muli arg18 c16_i32
  let v32 : Index := Scalar.indexCast v31
  ![v32.toNat]
@[reducible] def k0_t12_loop : Scf.Loop 32 :=
  let c0_i32_53 : BitVec 32 := 0#32
  let c32_i32_54 : BitVec 32 := 32#32
  let v29 : BitVec 32 := Scalar.addi c0_i32_53 c32_i32_54
  let c1_i32_55 : BitVec 32 := 1#32
  ⟨c0_i32_53, v29, c1_i32_55⟩
def k0_off48 (k0_t12 : Fin k0_t12_loop.trips) : Fin 1 → Nat :=
  let c0_i32_57 : BitVec 32 := 0#32
  let c0_i32_53 : BitVec 32 := 0#32
  let c1_i32_55 : BitVec 32 := 1#32
  let arg18 : BitVec 32 := Scf.iv c0_i32_53 c1_i32_55 k0_t12
  let v31 : BitVec 32 := Scalar.addi c0_i32_57 arg18
  let c16_i32 : BitVec 32 := 16#32
  let v32 : BitVec 32 := Scalar.muli v31 c16_i32
  let v33 : Index := Scalar.indexCast v32
  ![v33.toNat]

def k0_chk58 (i : grid0.Coords) (v45 : IVec S16 32) : Prop :=
  (∀ (k0_h1 : k0_cond1 i = 1#1), ∀ a x, ((![v45] : Fin 1 → IVec S16 32) a x).toNat < S4096.size a) ∧
  (∀ (k0_h1 : k0_cond1 i = 1#1), ∀ a x, ((![v45] : Fin 1 → IVec S16 32) a x).toNat < S4096.size a)
theorem k0_idx90_inb : ∀ (i : grid0.Coords) (v45 : IVec S16 32) (k0_hw58 : k0_chk58 i v45), ∀ (k0_h1 : k0_cond1 i = 1#1), ∀ a x, ((![v45] : Fin 1 → IVec S16 32) a x).toNat < S4096.size a := fun i v45 k0_hw58 k0_h1 => k0_hw58.1 k0_h1
theorem k0_idx91_inb : ∀ (i : grid0.Coords) (v45 : IVec S16 32) (k0_hw58 : k0_chk58 i v45), ∀ (k0_h1 : k0_cond1 i = 1#1), ∀ a x, ((![v45] : Fin 1 → IVec S16 32) a x).toNat < S4096.size a := fun i v45 k0_hw58 k0_h1 => k0_hw58.2 k0_h1

def k0_chk57 (i : grid0.Coords) (v40 : IVec S16 32) : Prop :=
  (∀ (k0_h1 : k0_cond1 i = 1#1), ∀ a x, ((![v40] : Fin 1 → IVec S16 32) a x).toNat < S1024.size a) ∧
  (∀ (k0_h1 : k0_cond1 i = 1#1), ∀ a x, ((![v40] : Fin 1 → IVec S16 32) a x).toNat < S1024.size a)
theorem k0_idx89_inb : ∀ (i : grid0.Coords) (v40 : IVec S16 32) (k0_hw57 : k0_chk57 i v40), ∀ (k0_h1 : k0_cond1 i = 1#1), ∀ a x, ((![v40] : Fin 1 → IVec S16 32) a x).toNat < S1024.size a := fun i v40 k0_hw57 k0_h1 => k0_hw57.1 k0_h1
theorem k0_idx92_inb : ∀ (i : grid0.Coords) (v40 : IVec S16 32) (k0_hw57 : k0_chk57 i v40), ∀ (k0_h1 : k0_cond1 i = 1#1), ∀ a x, ((![v40] : Fin 1 → IVec S16 32) a x).toNat < S1024.size a := fun i v40 k0_hw57 k0_h1 => k0_hw57.2 k0_h1
def k0_off49 (k0_t12 : Fin k0_t12_loop.trips) : Fin 1 → Nat :=
  let c32_i32_61 : BitVec 32 := 32#32
  let c0_i32_53 : BitVec 32 := 0#32
  let c1_i32_55 : BitVec 32 := 1#32
  let arg18 : BitVec 32 := Scf.iv c0_i32_53 c1_i32_55 k0_t12
  let v54 : BitVec 32 := Scalar.addi c32_i32_61 arg18
  let c16_i32_62 : BitVec 32 := 16#32
  let v55 : BitVec 32 := Scalar.muli v54 c16_i32_62
  let v56 : Index := Scalar.indexCast v55
  ![v56.toNat]

def k0_chk60 (i : grid0.Coords) (v68 : IVec S16 32) : Prop :=
  (∀ (k0_h1 : k0_cond1 i = 1#1), ∀ a x, ((![v68] : Fin 1 → IVec S16 32) a x).toNat < S4096.size a) ∧
  (∀ (k0_h1 : k0_cond1 i = 1#1), ∀ a x, ((![v68] : Fin 1 → IVec S16 32) a x).toNat < S4096.size a)
theorem k0_idx94_inb : ∀ (i : grid0.Coords) (v68 : IVec S16 32) (k0_hw60 : k0_chk60 i v68), ∀ (k0_h1 : k0_cond1 i = 1#1), ∀ a x, ((![v68] : Fin 1 → IVec S16 32) a x).toNat < S4096.size a := fun i v68 k0_hw60 k0_h1 => k0_hw60.1 k0_h1
theorem k0_idx95_inb : ∀ (i : grid0.Coords) (v68 : IVec S16 32) (k0_hw60 : k0_chk60 i v68), ∀ (k0_h1 : k0_cond1 i = 1#1), ∀ a x, ((![v68] : Fin 1 → IVec S16 32) a x).toNat < S4096.size a := fun i v68 k0_hw60 k0_h1 => k0_hw60.2 k0_h1

def k0_chk59 (i : grid0.Coords) (v63 : IVec S16 32) : Prop :=
  (∀ (k0_h1 : k0_cond1 i = 1#1), ∀ a x, ((![v63] : Fin 1 → IVec S16 32) a x).toNat < S1024.size a) ∧
  (∀ (k0_h1 : k0_cond1 i = 1#1), ∀ a x, ((![v63] : Fin 1 → IVec S16 32) a x).toNat < S1024.size a)
theorem k0_idx93_inb : ∀ (i : grid0.Coords) (v63 : IVec S16 32) (k0_hw59 : k0_chk59 i v63), ∀ (k0_h1 : k0_cond1 i = 1#1), ∀ a x, ((![v63] : Fin 1 → IVec S16 32) a x).toNat < S1024.size a := fun i v63 k0_hw59 k0_h1 => k0_hw59.1 k0_h1
theorem k0_idx96_inb : ∀ (i : grid0.Coords) (v63 : IVec S16 32) (k0_hw59 : k0_chk59 i v63), ∀ (k0_h1 : k0_cond1 i = 1#1), ∀ a x, ((![v63] : Fin 1 → IVec S16 32) a x).toNat < S1024.size a := fun i v63 k0_hw59 k0_h1 => k0_hw59.2 k0_h1
def k0_off50 (k0_t12 : Fin k0_t12_loop.trips) : Fin 1 → Nat :=
  let c64_i32_73 : BitVec 32 := 64#32
  let c0_i32_53 : BitVec 32 := 0#32
  let c1_i32_55 : BitVec 32 := 1#32
  let arg18 : BitVec 32 := Scf.iv c0_i32_53 c1_i32_55 k0_t12
  let v77 : BitVec 32 := Scalar.addi c64_i32_73 arg18
  let c16_i32_74 : BitVec 32 := 16#32
  let v78 : BitVec 32 := Scalar.muli v77 c16_i32_74
  let v79 : Index := Scalar.indexCast v78
  ![v79.toNat]

def k0_chk62 (i : grid0.Coords) (v91 : IVec S16 32) : Prop :=
  (∀ (k0_h1 : k0_cond1 i = 1#1), ∀ a x, ((![v91] : Fin 1 → IVec S16 32) a x).toNat < S4096.size a) ∧
  (∀ (k0_h1 : k0_cond1 i = 1#1), ∀ a x, ((![v91] : Fin 1 → IVec S16 32) a x).toNat < S4096.size a)
theorem k0_idx98_inb : ∀ (i : grid0.Coords) (v91 : IVec S16 32) (k0_hw62 : k0_chk62 i v91), ∀ (k0_h1 : k0_cond1 i = 1#1), ∀ a x, ((![v91] : Fin 1 → IVec S16 32) a x).toNat < S4096.size a := fun i v91 k0_hw62 k0_h1 => k0_hw62.1 k0_h1
theorem k0_idx99_inb : ∀ (i : grid0.Coords) (v91 : IVec S16 32) (k0_hw62 : k0_chk62 i v91), ∀ (k0_h1 : k0_cond1 i = 1#1), ∀ a x, ((![v91] : Fin 1 → IVec S16 32) a x).toNat < S4096.size a := fun i v91 k0_hw62 k0_h1 => k0_hw62.2 k0_h1

def k0_chk61 (i : grid0.Coords) (v86 : IVec S16 32) : Prop :=
  (∀ (k0_h1 : k0_cond1 i = 1#1), ∀ a x, ((![v86] : Fin 1 → IVec S16 32) a x).toNat < S1024.size a) ∧
  (∀ (k0_h1 : k0_cond1 i = 1#1), ∀ a x, ((![v86] : Fin 1 → IVec S16 32) a x).toNat < S1024.size a)
theorem k0_idx97_inb : ∀ (i : grid0.Coords) (v86 : IVec S16 32) (k0_hw61 : k0_chk61 i v86), ∀ (k0_h1 : k0_cond1 i = 1#1), ∀ a x, ((![v86] : Fin 1 → IVec S16 32) a x).toNat < S1024.size a := fun i v86 k0_hw61 k0_h1 => k0_hw61.1 k0_h1
theorem k0_idx100_inb : ∀ (i : grid0.Coords) (v86 : IVec S16 32) (k0_hw61 : k0_chk61 i v86), ∀ (k0_h1 : k0_cond1 i = 1#1), ∀ a x, ((![v86] : Fin 1 → IVec S16 32) a x).toNat < S1024.size a := fun i v86 k0_hw61 k0_h1 => k0_hw61.2 k0_h1
def k0_off51 (k0_t12 : Fin k0_t12_loop.trips) : Fin 1 → Nat :=
  let c96_i32 : BitVec 32 := 96#32
  let c0_i32_53 : BitVec 32 := 0#32
  let c1_i32_55 : BitVec 32 := 1#32
  let arg18 : BitVec 32 := Scf.iv c0_i32_53 c1_i32_55 k0_t12
  let v100 : BitVec 32 := Scalar.addi c96_i32 arg18
  let c16_i32_85 : BitVec 32 := 16#32
  let v101 : BitVec 32 := Scalar.muli v100 c16_i32_85
  let v102 : Index := Scalar.indexCast v101
  ![v102.toNat]

def k0_chk64 (i : grid0.Coords) (v114 : IVec S16 32) : Prop :=
  (∀ (k0_h1 : k0_cond1 i = 1#1), ∀ a x, ((![v114] : Fin 1 → IVec S16 32) a x).toNat < S4096.size a) ∧
  (∀ (k0_h1 : k0_cond1 i = 1#1), ∀ a x, ((![v114] : Fin 1 → IVec S16 32) a x).toNat < S4096.size a)
theorem k0_idx102_inb : ∀ (i : grid0.Coords) (v114 : IVec S16 32) (k0_hw64 : k0_chk64 i v114), ∀ (k0_h1 : k0_cond1 i = 1#1), ∀ a x, ((![v114] : Fin 1 → IVec S16 32) a x).toNat < S4096.size a := fun i v114 k0_hw64 k0_h1 => k0_hw64.1 k0_h1
theorem k0_idx103_inb : ∀ (i : grid0.Coords) (v114 : IVec S16 32) (k0_hw64 : k0_chk64 i v114), ∀ (k0_h1 : k0_cond1 i = 1#1), ∀ a x, ((![v114] : Fin 1 → IVec S16 32) a x).toNat < S4096.size a := fun i v114 k0_hw64 k0_h1 => k0_hw64.2 k0_h1

def k0_chk63 (i : grid0.Coords) (v109 : IVec S16 32) : Prop :=
  (∀ (k0_h1 : k0_cond1 i = 1#1), ∀ a x, ((![v109] : Fin 1 → IVec S16 32) a x).toNat < S1024.size a) ∧
  (∀ (k0_h1 : k0_cond1 i = 1#1), ∀ a x, ((![v109] : Fin 1 → IVec S16 32) a x).toNat < S1024.size a)
theorem k0_idx101_inb : ∀ (i : grid0.Coords) (v109 : IVec S16 32) (k0_hw63 : k0_chk63 i v109), ∀ (k0_h1 : k0_cond1 i = 1#1), ∀ a x, ((![v109] : Fin 1 → IVec S16 32) a x).toNat < S1024.size a := fun i v109 k0_hw63 k0_h1 => k0_hw63.1 k0_h1
theorem k0_idx104_inb : ∀ (i : grid0.Coords) (v109 : IVec S16 32) (k0_hw63 : k0_chk63 i v109), ∀ (k0_h1 : k0_cond1 i = 1#1), ∀ a x, ((![v109] : Fin 1 → IVec S16 32) a x).toNat < S1024.size a := fun i v109 k0_hw63 k0_h1 => k0_hw63.2 k0_h1
def k0_off52 (k0_t12 : Fin k0_t12_loop.trips) : Fin 1 → Nat :=
  let c128_i32 : BitVec 32 := 128#32
  let c0_i32_53 : BitVec 32 := 0#32
  let c1_i32_55 : BitVec 32 := 1#32
  let arg18 : BitVec 32 := Scf.iv c0_i32_53 c1_i32_55 k0_t12
  let v123 : BitVec 32 := Scalar.addi c128_i32 arg18
  let c16_i32_96 : BitVec 32 := 16#32
  let v124 : BitVec 32 := Scalar.muli v123 c16_i32_96
  let v125 : Index := Scalar.indexCast v124
  ![v125.toNat]

def k0_chk66 (i : grid0.Coords) (v137 : IVec S16 32) : Prop :=
  (∀ (k0_h1 : k0_cond1 i = 1#1), ∀ a x, ((![v137] : Fin 1 → IVec S16 32) a x).toNat < S4096.size a) ∧
  (∀ (k0_h1 : k0_cond1 i = 1#1), ∀ a x, ((![v137] : Fin 1 → IVec S16 32) a x).toNat < S4096.size a)
theorem k0_idx106_inb : ∀ (i : grid0.Coords) (v137 : IVec S16 32) (k0_hw66 : k0_chk66 i v137), ∀ (k0_h1 : k0_cond1 i = 1#1), ∀ a x, ((![v137] : Fin 1 → IVec S16 32) a x).toNat < S4096.size a := fun i v137 k0_hw66 k0_h1 => k0_hw66.1 k0_h1
theorem k0_idx107_inb : ∀ (i : grid0.Coords) (v137 : IVec S16 32) (k0_hw66 : k0_chk66 i v137), ∀ (k0_h1 : k0_cond1 i = 1#1), ∀ a x, ((![v137] : Fin 1 → IVec S16 32) a x).toNat < S4096.size a := fun i v137 k0_hw66 k0_h1 => k0_hw66.2 k0_h1

def k0_chk65 (i : grid0.Coords) (v132 : IVec S16 32) : Prop :=
  (∀ (k0_h1 : k0_cond1 i = 1#1), ∀ a x, ((![v132] : Fin 1 → IVec S16 32) a x).toNat < S1024.size a) ∧
  (∀ (k0_h1 : k0_cond1 i = 1#1), ∀ a x, ((![v132] : Fin 1 → IVec S16 32) a x).toNat < S1024.size a)
theorem k0_idx105_inb : ∀ (i : grid0.Coords) (v132 : IVec S16 32) (k0_hw65 : k0_chk65 i v132), ∀ (k0_h1 : k0_cond1 i = 1#1), ∀ a x, ((![v132] : Fin 1 → IVec S16 32) a x).toNat < S1024.size a := fun i v132 k0_hw65 k0_h1 => k0_hw65.1 k0_h1
theorem k0_idx108_inb : ∀ (i : grid0.Coords) (v132 : IVec S16 32) (k0_hw65 : k0_chk65 i v132), ∀ (k0_h1 : k0_cond1 i = 1#1), ∀ a x, ((![v132] : Fin 1 → IVec S16 32) a x).toNat < S1024.size a := fun i v132 k0_hw65 k0_h1 => k0_hw65.2 k0_h1
def k0_off53 (k0_t12 : Fin k0_t12_loop.trips) : Fin 1 → Nat :=
  let c160_i32 : BitVec 32 := 160#32
  let c0_i32_53 : BitVec 32 := 0#32
  let c1_i32_55 : BitVec 32 := 1#32
  let arg18 : BitVec 32 := Scf.iv c0_i32_53 c1_i32_55 k0_t12
  let v146 : BitVec 32 := Scalar.addi c160_i32 arg18
  let c16_i32_107 : BitVec 32 := 16#32
  let v147 : BitVec 32 := Scalar.muli v146 c16_i32_107
  let v148 : Index := Scalar.indexCast v147
  ![v148.toNat]

def k0_chk68 (i : grid0.Coords) (v160 : IVec S16 32) : Prop :=
  (∀ (k0_h1 : k0_cond1 i = 1#1), ∀ a x, ((![v160] : Fin 1 → IVec S16 32) a x).toNat < S4096.size a) ∧
  (∀ (k0_h1 : k0_cond1 i = 1#1), ∀ a x, ((![v160] : Fin 1 → IVec S16 32) a x).toNat < S4096.size a)
theorem k0_idx110_inb : ∀ (i : grid0.Coords) (v160 : IVec S16 32) (k0_hw68 : k0_chk68 i v160), ∀ (k0_h1 : k0_cond1 i = 1#1), ∀ a x, ((![v160] : Fin 1 → IVec S16 32) a x).toNat < S4096.size a := fun i v160 k0_hw68 k0_h1 => k0_hw68.1 k0_h1
theorem k0_idx111_inb : ∀ (i : grid0.Coords) (v160 : IVec S16 32) (k0_hw68 : k0_chk68 i v160), ∀ (k0_h1 : k0_cond1 i = 1#1), ∀ a x, ((![v160] : Fin 1 → IVec S16 32) a x).toNat < S4096.size a := fun i v160 k0_hw68 k0_h1 => k0_hw68.2 k0_h1

def k0_chk67 (i : grid0.Coords) (v155 : IVec S16 32) : Prop :=
  (∀ (k0_h1 : k0_cond1 i = 1#1), ∀ a x, ((![v155] : Fin 1 → IVec S16 32) a x).toNat < S1024.size a) ∧
  (∀ (k0_h1 : k0_cond1 i = 1#1), ∀ a x, ((![v155] : Fin 1 → IVec S16 32) a x).toNat < S1024.size a)
theorem k0_idx109_inb : ∀ (i : grid0.Coords) (v155 : IVec S16 32) (k0_hw67 : k0_chk67 i v155), ∀ (k0_h1 : k0_cond1 i = 1#1), ∀ a x, ((![v155] : Fin 1 → IVec S16 32) a x).toNat < S1024.size a := fun i v155 k0_hw67 k0_h1 => k0_hw67.1 k0_h1
theorem k0_idx112_inb : ∀ (i : grid0.Coords) (v155 : IVec S16 32) (k0_hw67 : k0_chk67 i v155), ∀ (k0_h1 : k0_cond1 i = 1#1), ∀ a x, ((![v155] : Fin 1 → IVec S16 32) a x).toNat < S1024.size a := fun i v155 k0_hw67 k0_h1 => k0_hw67.2 k0_h1
def k0_off54 (k0_t12 : Fin k0_t12_loop.trips) : Fin 1 → Nat :=
  let c192_i32 : BitVec 32 := 192#32
  let c0_i32_53 : BitVec 32 := 0#32
  let c1_i32_55 : BitVec 32 := 1#32
  let arg18 : BitVec 32 := Scf.iv c0_i32_53 c1_i32_55 k0_t12
  let v169 : BitVec 32 := Scalar.addi c192_i32 arg18
  let c16_i32_118 : BitVec 32 := 16#32
  let v170 : BitVec 32 := Scalar.muli v169 c16_i32_118
  let v171 : Index := Scalar.indexCast v170
  ![v171.toNat]

def k0_chk70 (i : grid0.Coords) (v183 : IVec S16 32) : Prop :=
  (∀ (k0_h1 : k0_cond1 i = 1#1), ∀ a x, ((![v183] : Fin 1 → IVec S16 32) a x).toNat < S4096.size a) ∧
  (∀ (k0_h1 : k0_cond1 i = 1#1), ∀ a x, ((![v183] : Fin 1 → IVec S16 32) a x).toNat < S4096.size a)
theorem k0_idx114_inb : ∀ (i : grid0.Coords) (v183 : IVec S16 32) (k0_hw70 : k0_chk70 i v183), ∀ (k0_h1 : k0_cond1 i = 1#1), ∀ a x, ((![v183] : Fin 1 → IVec S16 32) a x).toNat < S4096.size a := fun i v183 k0_hw70 k0_h1 => k0_hw70.1 k0_h1
theorem k0_idx115_inb : ∀ (i : grid0.Coords) (v183 : IVec S16 32) (k0_hw70 : k0_chk70 i v183), ∀ (k0_h1 : k0_cond1 i = 1#1), ∀ a x, ((![v183] : Fin 1 → IVec S16 32) a x).toNat < S4096.size a := fun i v183 k0_hw70 k0_h1 => k0_hw70.2 k0_h1

def k0_chk69 (i : grid0.Coords) (v178 : IVec S16 32) : Prop :=
  (∀ (k0_h1 : k0_cond1 i = 1#1), ∀ a x, ((![v178] : Fin 1 → IVec S16 32) a x).toNat < S1024.size a) ∧
  (∀ (k0_h1 : k0_cond1 i = 1#1), ∀ a x, ((![v178] : Fin 1 → IVec S16 32) a x).toNat < S1024.size a)
theorem k0_idx113_inb : ∀ (i : grid0.Coords) (v178 : IVec S16 32) (k0_hw69 : k0_chk69 i v178), ∀ (k0_h1 : k0_cond1 i = 1#1), ∀ a x, ((![v178] : Fin 1 → IVec S16 32) a x).toNat < S1024.size a := fun i v178 k0_hw69 k0_h1 => k0_hw69.1 k0_h1
theorem k0_idx116_inb : ∀ (i : grid0.Coords) (v178 : IVec S16 32) (k0_hw69 : k0_chk69 i v178), ∀ (k0_h1 : k0_cond1 i = 1#1), ∀ a x, ((![v178] : Fin 1 → IVec S16 32) a x).toNat < S1024.size a := fun i v178 k0_hw69 k0_h1 => k0_hw69.2 k0_h1
def k0_off55 (k0_t12 : Fin k0_t12_loop.trips) : Fin 1 → Nat :=
  let c224_i32 : BitVec 32 := 224#32
  let c0_i32_53 : BitVec 32 := 0#32
  let c1_i32_55 : BitVec 32 := 1#32
  let arg18 : BitVec 32 := Scf.iv c0_i32_53 c1_i32_55 k0_t12
  let v192 : BitVec 32 := Scalar.addi c224_i32 arg18
  let c16_i32_129 : BitVec 32 := 16#32
  let v193 : BitVec 32 := Scalar.muli v192 c16_i32_129
  let v194 : Index := Scalar.indexCast v193
  ![v194.toNat]

def k0_chk72 (i : grid0.Coords) (v206 : IVec S16 32) : Prop :=
  (∀ (k0_h1 : k0_cond1 i = 1#1), ∀ a x, ((![v206] : Fin 1 → IVec S16 32) a x).toNat < S4096.size a) ∧
  (∀ (k0_h1 : k0_cond1 i = 1#1), ∀ a x, ((![v206] : Fin 1 → IVec S16 32) a x).toNat < S4096.size a)
theorem k0_idx118_inb : ∀ (i : grid0.Coords) (v206 : IVec S16 32) (k0_hw72 : k0_chk72 i v206), ∀ (k0_h1 : k0_cond1 i = 1#1), ∀ a x, ((![v206] : Fin 1 → IVec S16 32) a x).toNat < S4096.size a := fun i v206 k0_hw72 k0_h1 => k0_hw72.1 k0_h1
theorem k0_idx119_inb : ∀ (i : grid0.Coords) (v206 : IVec S16 32) (k0_hw72 : k0_chk72 i v206), ∀ (k0_h1 : k0_cond1 i = 1#1), ∀ a x, ((![v206] : Fin 1 → IVec S16 32) a x).toNat < S4096.size a := fun i v206 k0_hw72 k0_h1 => k0_hw72.2 k0_h1

def k0_chk71 (i : grid0.Coords) (v201 : IVec S16 32) : Prop :=
  (∀ (k0_h1 : k0_cond1 i = 1#1), ∀ a x, ((![v201] : Fin 1 → IVec S16 32) a x).toNat < S1024.size a) ∧
  (∀ (k0_h1 : k0_cond1 i = 1#1), ∀ a x, ((![v201] : Fin 1 → IVec S16 32) a x).toNat < S1024.size a)
theorem k0_idx117_inb : ∀ (i : grid0.Coords) (v201 : IVec S16 32) (k0_hw71 : k0_chk71 i v201), ∀ (k0_h1 : k0_cond1 i = 1#1), ∀ a x, ((![v201] : Fin 1 → IVec S16 32) a x).toNat < S1024.size a := fun i v201 k0_hw71 k0_h1 => k0_hw71.1 k0_h1
theorem k0_idx120_inb : ∀ (i : grid0.Coords) (v201 : IVec S16 32) (k0_hw71 : k0_chk71 i v201), ∀ (k0_h1 : k0_cond1 i = 1#1), ∀ a x, ((![v201] : Fin 1 → IVec S16 32) a x).toNat < S1024.size a := fun i v201 k0_hw71 k0_h1 => k0_hw71.2 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== SortRef.lean ====
abbrev S16384 : Shape := ⟨1, ![16384]⟩
abbrev S4x4096 : Shape := ⟨2, ![4, 4096]⟩
abbrev S4x3276 : Shape := ⟨2, ![4, 3276]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S16384, .f32⟩
  | .hbm, ⟨1, _⟩ => ⟨S4x4096, .f32⟩
  | .hbm, ⟨2, _⟩ => ⟨S4x3276, .f32⟩
  | .hbm, ⟨3, _⟩ => ⟨S4x3276, .i32⟩
  | .hbm, ⟨4, _⟩ => ⟨S_, .i32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_c : Ref sig .tc := ⟨.hbm, 4, rfl⟩

abbrev nD : Nat := 1
abbrev τ : Topo := Topo.v7x

variable {F : FTy → Type} [FloatOps F]
-- ==== Score.lean ====
abbrev S4x4096x2048 : Shape := ⟨3, ![4, 4096, 2048]⟩
abbrev S1x2048 : Shape := ⟨2, ![1, 2048]⟩
abbrev S16384x2048 : Shape := ⟨2, ![16384, 2048]⟩
abbrev S1x16384 : Shape := ⟨2, ![1, 16384]⟩
abbrev S2048x2048 : Shape := ⟨2, ![2048, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S16384x2048, .f32⟩
  | .hbm, ⟨3, _⟩ => ⟨S1x16384, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScoreRefIdeal.lean ====
abbrev S4x4096x2048 : Shape := ⟨3, ![4, 4096, 2048]⟩
abbrev S1x2048 : Shape := ⟨2, ![1, 2048]⟩
abbrev S4x4096x1 : Shape := ⟨3, ![4, 4096, 1]⟩
abbrev S4x4096 : Shape := ⟨2, ![4, 4096]⟩
abbrev S_ : Shape := ⟨0, ![]⟩
abbrev S1x16384 : Shape := ⟨2, ![1, 16384]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x4096x1, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S1x16384, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Shape.lean ====
/-
  The sort's loop bodies, regrouped: each of the printed counted loops runs one and the same short step for eight
  groups of the row, one after another. Here the step is written once — the clearing one, the histogram's, the
  prefix's and the permutation's — over the memrefs it touches, and every printed loop body is shown to be eight
  of them in a row (by unfolding both).
-/
module

public import proofs.«01_k».proof.Defs
public import Idealize.ShloMosaic.Lib.SparseCore.Quiescent
public import Idealize.ShloMosaic.Lib.StableHlo.Run
public import Idealize.ShloMosaic.Lib.Tactic
public import proofs.«01_k».proof.Proof.Gen.Sort
public import proofs.«01_k».proof.Proof.Gen.Sort.Skeleton

@[expose] public section

noncomputable section

namespace Cert.Proof.Radix

open Cert.Sort Cert.Sort.Gen
open Idealize.ShloMosaic Idealize.SL.Sem

variable {F : FTy → Type} [BitOps F]

/-- The tile at grid position `i`. -/
abbrev tileP (i : grid0.Coords) : Proc τ := .scVector ((i 0).castLE hcore0) ((i 1).castLE hsub0)

/-- A table in tile memory, and a row of 4096 elements there. -/
abbrev TabRef := Memref sig .scVector .vmem S1024 .i32
abbrev RowRef (e : EltTy) := Memref sig .scVector .vmem S4096 e

/-- The program of a tile's thread. -/
abbrev TProg (F : FTy → Type) (i : grid0.Coords) (α : Type) := Prog (TpuEff nD τ sig (Elt F) Λ₀ (tileP i)) α

/-! ## The vectors a step computes -/

/-- The word a probability is sorted by: ascending in it is descending in the probability. -/
def keyF (v : Vec F S16 .f32) : IVec S16 32 :=
  xori (select (cmpi .slt (bitcastToInt v) (broadcast S16 0#32)) (xori (bitcastToInt v) (constantI S16 32 4294967295#32))
    (xori (bitcastToInt v) (broadcast S16 2147483648#32))) (constantI S16 32 4294967295#32)

/-- The probability a word was made of. -/
def unkeyF (k : IVec S16 32) : Vec F S16 .f32 :=
  bitcastToFloat .f32 (select (cmpi .slt (xori k (constantI S16 32 4294967295#32)) (broadcast S16 0#32))
    (xori (xori k (constantI S16 32 4294967295#32)) (broadcast S16 2147483648#32))
    (xori (xori k (constantI S16 32 4294967295#32)) (constantI S16 32 4294967295#32)))

/-- The ten-bit digit at `sh`. -/
def digit (sh : BitVec 32) (k : IVec S16 32) : IVec S16 32 :=
  andi (shrui k (broadcast S16 sh)) (broadcast S16 1023#32)

/-- How many lanes up to a lane carry its digit, and whether it is the last that does. -/
def cnt (d : IVec S16 32) : IVec S16 32 := (scanCount (broadcast S16 1#1) d).2
def lst (d : IVec S16 32) : IVec S16 1 := (scanCount (broadcast S16 1#1) d).1

/-- The place a lane goes to: what its table holds at its digit, and its rank among the equal lanes. -/
def place (d t : IVec S16 32) : IVec S16 32 := subi (addi t (cnt d)) (broadcast S16 1#32)

/-- The positions of sixteen lanes from word `w`. -/
def lanesAt (w : BitVec 32) : IVec S16 32 := addi (iota .scVector S16 32 [0] iota_S16_d0_w32_scVector) (broadcast S16 w)

/-- The eight tables' running sums: what group `g` starts from, and the whole. -/
def tot8 (h : Fin 8 → IVec S16 32) : IVec S16 32 :=
  addi (addi (addi (addi (addi (addi (addi (h 0) (h 1)) (h 2)) (h 3)) (h 4)) (h 5)) (h 6)) (h 7)
def run0 (c : BitVec 32) (h : Fin 8 → IVec S16 32) : IVec S16 32 :=
  addi (subi (scan .sum (tot8 h)) (tot8 h)) (broadcast S16 c)

/-! ## The steps -/

section Steps
variable (i : grid0.Coords) (h1 : k0_cond1 i = 1#1)

/-- One group's clearing step. -/
def zeroG (tab : TabRef) (off : Fin 1 → ℕ) (inb : ∀ a, off a + S16.size a ≤ S1024.size a) : TProg F i PUnit := do
  let _ ← Prog.lift (.load tab (Rect.unit (s := S1024) off S16.size inb).toLoadRect (View.loadsAt_vmem h_S16))
  Prog.lift (.store tab (Rect.unit (s := S1024) off S16.size inb) (broadcast S16 0#32) Finset.univ (View.stores_vmem_bits_univ h_S16 rfl) (.inl rfl))

/-- One group's histogram step: sixteen source elements loaded, their digits counted into the group's table. -/
def histG {e : EltTy} (src : RowRef e) (dg : Vec F S16 e → IVec S16 32) (tab : TabRef) (off : Fin 1 → ℕ)
    (inb : ∀ a, off a + S16.size a ≤ S4096.size a) : TProg F i PUnit := do
  let v ← Prog.lift (.load src (Rect.unit (s := S4096) off S16.size inb).toLoadRect (View.loadsAt_vmem h_S16))
  have hw : k0_chk1 i (dg v) := (← Prog.lift (TpuEff.assume (k0_chk1 i (dg v)) (k0_chk1.dec i (dg v)))).down
  SparseCore.vectorStoreIdx tab ![dg v] (cnt (dg v)) (lst (dg v)) true (k0_idx1_inb i (dg v) hw h1) (View.stores_vmem_bits_univ h_S1024 rfl)

/-- A step's permutation from digits `d`: the lanes' places gathered from the table, two vectors scattered to them, the
    table advanced. -/
def permCore {e : EltTy} (tab : TabRef) (dstK : RowRef e) (dstV : RowRef .i32) (d : IVec S16 32) (kv : Vec F S16 e)
    (vv : IVec S16 32) (he : e.bits = 32) : TProg F i PUnit := do
  have hw : k0_chk9 i d := (← Prog.lift (TpuEff.assume (k0_chk9 i d) (k0_chk9.dec i d))).down
  let t : Vec F S16 .i32 ← SparseCore.vectorLoadIdx tab ![d] (k0_idx9_inb i d hw h1) (View.loads_vmem h_S1024)
  have hq : k0_chk10 i (place d t) := (← Prog.lift (TpuEff.assume (k0_chk10 i (place d t)) (k0_chk10.dec i (place d t)))).down
  SparseCore.vectorStoreIdx dstK ![place d t] kv (fun _ => 1#1) false (k0_idx10_inb i (place d t) hq h1) (View.stores_vmem_bits_univ h_S4096 he)
  SparseCore.vectorStoreIdx dstV ![place d t] vv (fun _ => 1#1) false (k0_idx11_inb i (place d t) hq h1) (View.stores_vmem_bits_univ h_S4096 rfl)
  SparseCore.vectorStoreIdx tab ![d] (cnt d) (lst d) true (k0_idx12_inb i d hw h1) (View.stores_vmem_bits_univ h_S1024 rfl)

/-- One group's permutation step of the first pass: the keys from the probabilities, the positions counted. -/
def permA (src : RowRef .f32) (dstK : RowRef .i32) (dstV : RowRef .i32) (w : BitVec 32) (tab : TabRef) (off : Fin 1 → ℕ)
    (inb : ∀ a, off a + S16.size a ≤ S4096.size a) : TProg F i PUnit := do
  let v ← Prog.lift (.load src (Rect.unit (s := S4096) off S16.size inb).toLoadRect (View.loadsAt_vmem h_S16))
  permCore i h1 tab dstK dstV (digit 0#32 (keyF v)) (keyF v) (lanesAt w) rfl

/-- One group's permutation step of a later pass: the keys and the positions from the pass before. -/
def permB {e : EltTy} (srcK srcV : RowRef .i32) (dstK : RowRef e) (dstV : RowRef .i32) (sh : BitVec 32) (kf : IVec S16 32 → Vec F S16 e)
    (he : e.bits = 32) (tab : TabRef) (off : Fin 1 → ℕ) (inb : ∀ a, off a + S16.size a ≤ S4096.size a) : TProg F i PUnit := do
  let k : Vec F S16 .i32 ← Prog.lift (.load srcK (Rect.unit (s := S4096) off S16.size inb).toLoadRect (View.loadsAt_vmem h_S16))
  let v : Vec F S16 .i32 ← Prog.lift (.load srcV (Rect.unit (s := S4096) off S16.size inb).toLoadRect (View.loadsAt_vmem h_S16))
  permCore i h1 tab dstK dstV (digit sh k) (kf k) v he

/-- One table's sixteen words loaded, and stored over. -/
def ldT (tab : TabRef) (off : Fin 1 → ℕ) (inb : ∀ a, off a + S16.size a ≤ S1024.size a) : TProg F i (Vec F S16 .i32) :=
  Prog.lift (.load tab (Rect.unit (s := S1024) off S16.size inb).toLoadRect (View.loadsAt_vmem h_S16))
def stT (tab : TabRef) (w : IVec S16 32) (off : Fin 1 → ℕ) (inb : ∀ a, off a + S16.size a ≤ S1024.size a) : TProg F i PUnit := do
  let _ ← Prog.lift (.load tab (Rect.unit (s := S1024) off S16.size inb).toLoadRect (View.loadsAt_vmem h_S16))
  Prog.lift (.store tab (Rect.unit (s := S1024) off S16.size inb) w Finset.univ (View.stores_vmem_bits_univ h_S16 rfl) (.inl rfl))

/-- The prefix step over the eight tables: their sixteen words at `off` become the running sums, the carry the new one. -/
def prefG (tabs : Fin 8 → TabRef) (c : BitVec 32) (off : Fin 1 → ℕ) (inb : ∀ a, off a + S16.size a ≤ S1024.size a) :
    TProg F i (BitVec 32) := do
  let a0 ← ldT i (tabs 0) off inb
  let a1 ← ldT i (tabs 1) off inb
  let a2 ← ldT i (tabs 2) off inb
  let a3 ← ldT i (tabs 3) off inb
  let a4 ← ldT i (tabs 4) off inb
  let a5 ← ldT i (tabs 5) off inb
  let a6 ← ldT i (tabs 6) off inb
  let a7 ← ldT i (tabs 7) off inb
  stT i (tabs 0) (run0 c ![a0, a1, a2, a3, a4, a5, a6, a7]) off inb
  stT i (tabs 1) (addi (run0 c ![a0, a1, a2, a3, a4, a5, a6, a7]) a0) off inb
  stT i (tabs 2) (addi (addi (run0 c ![a0, a1, a2, a3, a4, a5, a6, a7]) a0) a1) off inb
  stT i (tabs 3) (addi (addi (addi (run0 c ![a0, a1, a2, a3, a4, a5, a6, a7]) a0) a1) a2) off inb
  stT i (tabs 4) (addi (addi (addi (addi (run0 c ![a0, a1, a2, a3, a4, a5, a6, a7]) a0) a1) a2) a3) off inb
  stT i (tabs 5) (addi (addi (addi (addi (addi (run0 c ![a0, a1, a2, a3, a4, a5, a6, a7]) a0) a1) a2) a3) a4) off inb
  stT i (tabs 6) (addi (addi (addi (addi (addi (addi (run0 c ![a0, a1, a2, a3, a4, a5, a6, a7]) a0) a1) a2) a3) a4) a5) off inb
  stT i (tabs 7) (addi (addi (addi (addi (addi (addi (addi (run0 c ![a0, a1, a2, a3, a4, a5, a6, a7]) a0) a1) a2) a3) a4) a5) a6) off inb
  pure (Scalar.addi c (extractAt ![15] (scan .sum (tot8 ![a0, a1, a2, a3, a4, a5, a6, a7])) inpos_S16_p15))

/-- Eight steps in a row. -/
def seq8 (G : Fin 8 → TProg F i PUnit) : TProg F i (BitVec 32) := do
  G 0; G 1; G 2; G 3; G 4; G 5; G 6; G 7
  pure 0#32

end Steps

/-- The eight groups' offsets of trip `k`: group `g` starts at `512 g`. -/
structure Offs (k : ℕ) where
  off : Fin 8 → Fin 1 → ℕ
  inb : ∀ g a, off g a + S16.size a ≤ S4096.size a
  eq : ∀ g a, off g a = 512 * g.val + 16 * k

/-- The same of a table: sixteen words at `16 k`. -/
structure OffT (k : ℕ) where
  off : Fin 1 → ℕ
  inb : ∀ a, off a + S16.size a ≤ S1024.size a
  eq : ∀ a, off a = 16 * k

def IsZero (i : grid0.Coords) (tabs : Fin 8 → TabRef) (k : ℕ) (b : TProg F i (BitVec 32)) : Prop :=
  ∃ O : OffT k, b = seq8 i fun g => zeroG i (tabs g) O.off O.inb
def IsHist {e : EltTy} (i : grid0.Coords) (h1 : k0_cond1 i = 1#1) (src : RowRef e) (dg : Vec F S16 e → IVec S16 32) (tabs : Fin 8 → TabRef) (k : ℕ) (b : TProg F i (BitVec 32)) : Prop :=
  ∃ O : Offs k, b = seq8 i fun g => histG i h1 src dg (tabs g) (O.off g) (O.inb g)
def IsPref (i : grid0.Coords) (tabs : Fin 8 → TabRef) (k : ℕ) (b : BitVec 32 → TProg F i (BitVec 32)) : Prop :=
  ∃ O : OffT k, ∀ c, b c = prefG i tabs c O.off O.inb
def IsPermA (i : grid0.Coords) (h1 : k0_cond1 i = 1#1) (src : RowRef .f32) (dstK dstV : RowRef .i32) (tabs : Fin 8 → TabRef) (k : ℕ) (b : TProg F i (BitVec 32)) : Prop :=
  ∃ O : Offs k, ∃ w : Fin 8 → BitVec 32, (∀ g, (w g).toNat = 512 * g.val + 16 * k) ∧
    b = seq8 i fun g => permA i h1 src dstK dstV (w g) (tabs g) (O.off g) (O.inb g)
def IsPermB {e : EltTy} (i : grid0.Coords) (h1 : k0_cond1 i = 1#1) (srcK srcV : RowRef .i32) (dstK : RowRef e) (dstV : RowRef .i32) (sh : BitVec 32)
    (kf : IVec S16 32 → Vec F S16 e) (he : e.bits = 32) (tabs : Fin 8 → TabRef) (k : ℕ) (b : TProg F i (BitVec 32)) : Prop :=
  ∃ O : Offs k, b = seq8 i fun g => permB i h1 srcK srcV dstK dstV sh kf he (tabs g) (O.off g) (O.inb g)

end Cert.Proof.Radix
-- ==== Proof.Lanes.lean ====
/-
  What the sixteen-lane operations of the sort compute, lane by lane: the scatter with add of the counts at each digit's
  last lane is the addition of every lane's one; a scatter to pairwise different places; the running sum; the counts.
-/
module

public import proofs.«01_k».proof.Proof.Shape

@[expose] public section

noncomputable section

namespace Cert.Proof.Radix

open Cert.Sort Cert.Sort.Gen
open Idealize.ShloMosaic

variable {F : FTy → Type} [BitOps F]

/-- Lane `l` of sixteen. -/
abbrev lane (l : Fin 16) : S16.Idx := Shape.ofLane (d := ![16]) l

theorem lane_zero (l : Fin 16) : (lane l) 0 = l := rfl
theorem lane_eta (x : S16.Idx) : lane (x 0) = x := by
  funext a; rw [Fin.eq_zero a]; rfl
theorem lane_inj {l l' : Fin 16} (h : lane l = lane l') : l = l' := congrFun h 0

/-- A fold that acts at one element of a list without repetition. -/
theorem foldl_at {α β : Type} [DecidableEq α] (φ : β → β) (m : α) : ∀ (L : List α) (y : β), L.Nodup →
    L.foldl (fun y k => if k = m then φ y else y) y = if m ∈ L then φ y else y
  | [], y, _ => by simp
  | k :: L, y, h => by
    rw [List.foldl_cons, foldl_at φ m L _ h.of_cons]
    by_cases hk : k = m
    · subst hk; simp [(List.nodup_cons.mp h).1]
    · simp [hk, Ne.symm hk]

/-- One lane's store. -/
def laneSt {s : Shape} {e : EltTy} (idxs : Fin s.rank → IVec S16 32) (v : Vec F S16 e) (mask : IVec S16 1) (add : Bool)
    (h : ∀ a x, (idxs a x).toNat < s.size a) (g : Vec F s e) (k : Fin 16) : Vec F s e :=
  if mask (lane k) = 1 then
    fun j => if (∀ a, (j a).val = (idxs a (lane k)).toNat) then (if add then Elt.idxAdd e (g (idxAt idxs h (lane k))) (v (lane k)) else v (lane k)) else g j
  else g

theorem storeIdx_fold {s : Shape} {e : EltTy} (idxs : Fin s.rank → IVec S16 32) (v : Vec F S16 e) (mask : IVec S16 1) (add : Bool)
    (h : ∀ a x, (idxs a x).toNat < s.size a) (f : Vec F s e) :
    storeIdx (d := ![16]) f idxs v mask add h = (List.finRange 16).foldl (laneSt idxs v mask add h) f := by
  unfold storeIdx
  refine congrArg (fun st => List.foldl st f (List.finRange 16)) (funext fun g => funext fun k => ?_)
  unfold laneSt
  by_cases hm : mask (lane k) = 1
  · rw [if_pos hm, if_pos hm]
    refine funext fun j => ?_
    by_cases hx : ∀ a, (j a).val = (idxs a (lane k)).toNat
    · exact (@if_pos _ _ hx _ _ _).trans (@if_pos _ _ hx _ _ _).symm
    · exact (@if_neg _ _ hx _ _ _).trans (@if_neg _ _ hx _ _ _).symm
  · rw [if_neg hm, if_neg hm]

theorem laneSt_apply {s : Shape} {e : EltTy} (idxs : Fin s.rank → IVec S16 32) (v : Vec F S16 e) (mask : IVec S16 1) (add : Bool)
    (h : ∀ a x, (idxs a x).toNat < s.size a) (g : Vec F s e) (k : Fin 16) (x : s.Idx) :
    laneSt idxs v mask add h g k x = if mask (lane k) = 1 ∧ (∀ a, (x a).val = (idxs a (lane k)).toNat) then
          (if add then Elt.idxAdd e (g x) (v (lane k)) else v (lane k)) else g x := by
  unfold laneSt
  by_cases hm : mask (lane k) = 1
  · by_cases hx : ∀ a, (x a).val = (idxs a (lane k)).toNat
    · have he : idxAt idxs h (lane k) = x := funext fun a => Fin.ext (hx a).symm
      rw [if_pos hm, if_pos hx, he]
      exact (if_pos ⟨hm, hx⟩).symm
    · rw [if_pos hm, if_neg hx]
      exact (if_neg (fun h => hx h.2)).symm
  · rw [if_neg hm]
    exact (if_neg (fun h => hm h.1)).symm

/-- The scatter's contents at an element, lane after lane. -/
theorem storeIdx_apply {s : Shape} {e : EltTy} (idxs : Fin s.rank → IVec S16 32) (v : Vec F S16 e) (mask : IVec S16 1) (add : Bool)
    (h : ∀ a x, (idxs a x).toNat < s.size a) (f : Vec F s e) (x : s.Idx) :
    storeIdx (d := ![16]) f idxs v mask add h x
      = (List.finRange 16).foldl (fun y k => if mask (lane k) = 1 ∧ (∀ a, (x a).val = (idxs a (lane k)).toNat) then
          (if add then Elt.idxAdd e y (v (lane k)) else v (lane k)) else y) (f x) := by
  rw [storeIdx_fold]
  generalize List.finRange 16 = L
  induction L generalizing f with
  | nil => rfl
  | cons k L ih => rw [List.foldl_cons, List.foldl_cons, ih, laneSt_apply]

theorem ite_one {p : Prop} {_i : Decidable p} : (if p then (1 : BitVec 1) else 0) = 1 ↔ p := by
  split <;> simp_all

/-- The counts: how many lanes up to this one have its word. -/
theorem cnt_apply (d : IVec S16 32) (l : Fin 16) :
    cnt d (lane l) = BitVec.ofNat 32 (Finset.univ.filter fun k : Fin 16 => k ≤ l ∧ d (lane k) = d (lane l)).card := by
  unfold cnt scanCount
  dsimp only
  rw [if_pos (show broadcast S16 (1#1) (lane l) = 1 from rfl)]
  congr 1
  refine Finset.card_bij' (fun x _ => x 0) (fun k _ => lane k) ?_ ?_ ?_ ?_
  · intro x hx
    have := (Finset.mem_filter.mp hx).2
    rw [Shape.rowMajor_val_one, Shape.rowMajor_val_one] at this
    refine Finset.mem_filter.mpr ⟨Finset.mem_univ _, this.1, ?_⟩
    rw [lane_eta]; exact this.2.2
  · intro k hk
    have := (Finset.mem_filter.mp hk).2
    refine Finset.mem_filter.mpr ⟨Finset.mem_univ _, ?_, rfl, this.2⟩
    rw [Shape.rowMajor_val_one, Shape.rowMajor_val_one]; exact this.1
  · intro x _; exact lane_eta x
  · intro k _; rfl

/-- The last-lane mask. -/
theorem lst_apply (d : IVec S16 32) (l : Fin 16) : lst d (lane l) = 1 ↔ ∀ k : Fin 16, l < k → d (lane k) ≠ d (lane l) := by
  unfold lst scanCount
  refine ite_one.trans ?_
  have hp : ∀ x : S16.Idx, (S16.rowMajor x).val = (x 0).val := fun x => Shape.rowMajor_val_one x
  constructor
  · intro hc k hk he
    exact hc.2 (lane k) (by show (S16.rowMajor _).val < (S16.rowMajor _).val; rw [hp, hp]; exact hk) ⟨rfl, he⟩
  · intro h
    refine ⟨rfl, fun j hj hc => ?_⟩
    have hj' : (S16.rowMajor (lane l)).val < (S16.rowMajor j).val := hj
    rw [hp, hp] at hj'
    refine h (j 0) hj' ?_
    rw [lane_eta]; exact hc.2

/-- The number of lanes whose word is `n`. -/
def hits (d : IVec S16 32) (n : ℕ) : ℕ := (Finset.univ.filter fun k : Fin 16 => (d (lane k)).toNat = n).card

theorem hits_le (d : IVec S16 32) (n : ℕ) : hits d n ≤ 16 := (Finset.card_le_univ _).trans (by simp)

/-- The table after a step: every lane counted at its word. -/
theorem tab_step (f : Vec F S1024 .i32) (d : IVec S16 32) (h : ∀ a x, ((![d] : Fin 1 → IVec S16 32) a x).toNat < S1024.size a) (x : S1024.Idx) :
    (storeIdx (F := F) (s := S1024) (e := .i32) (d := ![16]) f ![d] (cnt d) (lst d) true h x : BitVec 32)
      = (f x : BitVec 32) + BitVec.ofNat 32 (hits d (x 0).val) := by
  rw [storeIdx_apply]
  have hc : ∀ k : Fin 16, (∀ a : Fin S1024.rank, (x a).val = ((![d] : Fin 1 → IVec S16 32) a (lane k)).toNat) ↔ (d (lane k)).toNat = (x 0).val :=
    fun k => ⟨fun h => (h 0).symm, fun h a => by rw [Fin.eq_zero a]; exact h.symm⟩
  simp only [hc, if_true, Elt.idxAdd_i32]
  by_cases hex : ∃ k : Fin 16, (d (lane k)).toNat = (x 0).val
  · -- the last such lane
    obtain ⟨m, hm, hmax⟩ : ∃ m : Fin 16, (d (lane m)).toNat = (x 0).val ∧ ∀ k, m < k → (d (lane k)).toNat ≠ (x 0).val := by
      have hne : (Finset.univ.filter fun k : Fin 16 => (d (lane k)).toNat = (x 0).val).Nonempty := by
        obtain ⟨k, hk⟩ := hex; exact ⟨k, by simp [hk]⟩
      refine ⟨Finset.max' _ hne, (Finset.mem_filter.mp (Finset.max'_mem _ hne)).2, fun k hk he => ?_⟩
      exact absurd (Finset.le_max' _ k (by simp [he])) (not_le.mpr hk)
    have hcond : ∀ k : Fin 16, (lst d (lane k) = 1 ∧ (d (lane k)).toNat = (x 0).val) ↔ k = m := by
      intro k
      rw [lst_apply]
      constructor
      · rintro ⟨h1, h2⟩
        rcases lt_trichotomy k m with hlt | he | hgt
        · exact absurd (BitVec.eq_of_toNat_eq (hm.trans h2.symm)) (h1 m hlt)
        · exact he
        · exact absurd h2 (hmax k hgt)
      · rintro rfl
        exact ⟨fun k' hk' he => hmax k' hk' (by rw [he]; exact hm), hm⟩
    simp only [hcond]
    have hfold : (List.foldl (fun (y : BitVec 32) (k : Fin 16) => if k = m then y + cnt d (lane k) else y) (f x) (List.finRange 16))
        = (List.foldl (fun (y : BitVec 32) (k : Fin 16) => if k = m then (fun y => y + cnt d (lane m)) y else y) (f x) (List.finRange 16)) := by
      congr 1; funext y k
      by_cases hk : k = m
      · subst hk; simp
      · simp [hk]
    refine hfold.trans ?_
    rw [foldl_at (fun y : BitVec 32 => y + cnt d (lane m)) m _ _ (List.nodup_finRange 16), if_pos (List.mem_finRange m), cnt_apply]
    congr 2
    unfold hits
    congr 1
    ext k
    simp only [Finset.mem_filter, Finset.mem_univ, true_and]
    constructor
    · rintro ⟨-, he⟩; rw [he]; exact hm
    · intro he
      exact ⟨not_lt.mp fun hlt => hmax k hlt he, BitVec.eq_of_toNat_eq (he.trans hm.symm)⟩
  · have hno : ∀ k : Fin 16, ¬ (d (lane k)).toNat = (x 0).val := fun k hk => hex ⟨k, hk⟩
    simp only [hno, and_false, if_false]
    have h0 : hits d (x 0).val = 0 := by
      unfold hits; rw [Finset.card_eq_zero, Finset.filter_eq_empty_iff]; exact fun k _ => hno k
    rw [h0]
    have hid : ∀ (L : List (Fin 16)) (y : BitVec 32), L.foldl (fun y _ => y) y = y := fun L => by
      induction L with
      | nil => intro y; rfl
      | cons k L ih => intro y; exact ih y
    rw [hid]; simp

/-- A scatter to pairwise different places: a lane's value at its place, -/
theorem put_hit {e : EltTy} (f : Vec F S4096 e) (p : IVec S16 32) (v : Vec F S16 e)
    (h : ∀ a x, ((![p] : Fin 1 → IVec S16 32) a x).toNat < S4096.size a)
    (hinj : ∀ l l' : Fin 16, (p (lane l)).toNat = (p (lane l')).toNat → l = l') (x : S4096.Idx) (l : Fin 16) (hx : (p (lane l)).toNat = (x 0).val) :
    storeIdx (F := F) (s := S4096) (d := ![16]) f ![p] v (fun _ => 1#1) false h x = v (lane l) := by
  rw [storeIdx_apply]
  have hc : ∀ k : Fin 16, ((1#1 : BitVec 1) = 1 ∧ ∀ a : Fin S4096.rank, (x a).val = ((![p] : Fin 1 → IVec S16 32) a (lane k)).toNat) ↔ k = l := by
    intro k
    constructor
    · rintro ⟨-, h⟩; exact hinj _ _ ((h 0).symm.trans hx.symm)
    · rintro rfl; exact ⟨rfl, fun a => by rw [Fin.eq_zero a]; exact hx.symm⟩
  simp only [hc]
  have hfold : (List.foldl (fun (y : Elt F e) (k : Fin 16) => if k = l then (if false = true then Elt.idxAdd e y (v (lane k)) else v (lane k)) else y) (f x) (List.finRange 16))
      = (List.foldl (fun (y : Elt F e) (k : Fin 16) => if k = l then (fun _ => v (lane l)) y else y) (f x) (List.finRange 16)) := by
    congr 1; funext y k
    by_cases hk : k = l
    · subst hk; simp
    · simp [hk]
  refine hfold.trans ?_
  rw [foldl_at (fun _ : Elt F e => v (lane l)) l _ _ (List.nodup_finRange 16), if_pos (List.mem_finRange l)]

/-- every other element as it was. -/
theorem put_miss {e : EltTy} (f : Vec F S4096 e) (p : IVec S16 32) (v : Vec F S16 e)
    (h : ∀ a x, ((![p] : Fin 1 → IVec S16 32) a x).toNat < S4096.size a) (x : S4096.Idx) (hx : ∀ l : Fin 16, (p (lane l)).toNat ≠ (x 0).val) :
    storeIdx (F := F) (s := S4096) (d := ![16]) f ![p] v (fun _ => 1#1) false h x = f x := by
  rw [storeIdx_apply]
  have hc : ∀ k : Fin 16, ¬ ((1#1 : BitVec 1) = 1 ∧ ∀ a : Fin S4096.rank, (x a).val = ((![p] : Fin 1 → IVec S16 32) a (lane k)).toNat) :=
    fun k hk => hx k (hk.2 0).symm
  simp only [hc, if_false]
  generalize List.finRange 16 = L
  induction L with
  | nil => rfl
  | cons k L ih => exact ih

/-- The running sum, in naturals. -/
theorem scan_sum (v : IVec S16 32) (l : Fin 16) :
    scan (d := ![16]) .sum v (lane l) = BitVec.ofNat 32 (∑ k ∈ Finset.univ.filter (fun k : Fin 16 => k ≤ l), (v (lane k)).toNat) := by
  have hf : ∀ (L : List (Fin 16)) (r : BitVec 32),
      L.foldl (fun r k => ScanKind.step .sum r (v (lane k))) r = BitVec.ofNat 32 (r.toNat + (L.map fun k => (v (lane k)).toNat).sum) := by
    intro L
    induction L with
    | nil => intro r; simp
    | cons k L ih =>
      intro r
      rw [List.foldl_cons, ih, List.map_cons, List.sum_cons]
      apply BitVec.eq_of_toNat_eq
      show (BitVec.ofNat 32 ((r + v (lane k)).toNat + _)).toNat = _
      rw [BitVec.toNat_add, BitVec.toNat_ofNat, BitVec.toNat_ofNat]
      omega
  unfold scan
  show List.foldl _ _ (List.filter _ (List.finRange 16)) = _
  refine (hf _ _).trans ?_
  congr 1
  have hl : (((List.finRange 16).filter fun k => decide (0 < k.val ∧ k.val ≤ l.val)).map fun k => (v (lane k)).toNat).sum
      = ∑ k ∈ Finset.univ.filter (fun k : Fin 16 => 0 < k.val ∧ k.val ≤ l.val), (v (lane k)).toNat := by
    rw [← List.sum_toFinset _ ((List.nodup_finRange 16).filter _)]
    congr 1
    ext k; simp
  have hs : (Finset.univ.filter (fun k : Fin 16 => k ≤ l)) = insert 0 (Finset.univ.filter (fun k : Fin 16 => 0 < k.val ∧ k.val ≤ l.val)) := by
    ext k
    simp only [Finset.mem_filter, Finset.mem_univ, true_and, Finset.mem_insert, Fin.le_def, Fin.ext_iff, Fin.val_zero]
    omega
  rw [hs, Finset.sum_insert (by simp)]
  exact congrArg₂ (· + ·) rfl hl

end Cert.Proof.Radix
-- ==== Proof.Steps.lean ====
/-
  The steps of the sort run: what a step of Proof/Shape.lean leaves in the memrefs it touches, each memref's contents as
  it reads them. The launch set-up's names (the call configuration, the resource algebra) come first.
-/
module

public import proofs.«01_k».proof.Proof.Shape
public import proofs.«01_k».proof.Proof.Lanes
public import Idealize.ShloMosaic.Lib.Pipeline.Kit

@[expose] public section

noncomputable section

namespace Cert.Proof.Radix

open Cert.Sort Cert.Sort.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds beside the transfers' counters. -/
abbrev UH : Type := URounds (GSem nD τ sig) ℕ
abbrev UU : Type := UH × Counters

local notation "𝕄" => MT nD τ sig (HIx 1) (Elt F) ℕ UU ℕ

/-- The thread of the tile at `i`. -/
abbrev thr (d : Dev nD) (i : grid0.Coords) : Thread nD τ := (d, tileP i)

variable (d : Dev nD) (i : grid0.Coords)

/-- A memref of the tile held whole, reading `f`. -/
def Pt {s : Shape} {e : EltTy} (m : Memref sig .scVector .vmem s e) (f : Vec F s e) : sProp 𝕄 :=
  iprop(∃ f' : Buf (Elt F) (m.view.loc (thr d i)), ⌜m.view.read (Elt F) f' = f⌝ ∗ (m.view.loc (thr d i) ↦[Finset.univ]{fullShare} f'))

/-- A program of the tile run from nothing more than what is stated. -/
abbrev run {α : Type} (p : TProg F i α) (Q : α → sProp 𝕄) : sProp 𝕄 :=
  wp frame (wpE (defs₀ (F := F)) 𝒱₀ (thr d i) none) Set.univ p Q

variable {α : Type}

theorem run_load {Q : α → sProp 𝕄} {s : Shape} {e : EltTy} (m : Memref sig .scVector .vmem s e) (r : Rect s) (hl : m.view.LoadsAt r.toLoadRect) (f : Vec F s e)
    (k : (r.shape.Idx → Elt F e) → TProg F i α) :
    Pt d i m f ⊢ iprop((Pt d i m f -∗ run d i (k fun x => f (r.emb x)) Q) -∗ run d i (Prog.lift (.load m r.toLoadRect hl) >>= k) Q) := by
  unfold Pt
  iintro ⟨%f', %hf, H⟩ Hk
  iapply (wp_load 𝒱₀ (thr d i) none Set.univ (m := m) (r := r.toLoadRect) (hl := hl) (k := k) (S := Finset.univ) (Finset.subset_univ _)) $$ H
  iintro H
  have he : m.view.readAt (Elt F) r.toLoadRect f' = fun x => f (r.emb x) := by subst hf; rfl
  rw [he]
  iapply Hk
  iexists f'; isplitr
  · ipureintro; exact hf
  · iexact H

/-- What a store through a rectangle leaves. -/
def putRect {s : Shape} {α : Type} (r : Rect s) (f : s.Idx → α) (w : r.shape.Idx → α) : s.Idx → α :=
  fun y => match preimage? r.emb y with | some x => w x | none => f y

theorem putRect_emb {s : Shape} {α : Type} (r : Rect s) (f : s.Idx → α) (w : r.shape.Idx → α) (x : r.shape.Idx) : putRect r f w (r.emb x) = w x := by
  unfold putRect; rw [preimage?_emb]
theorem putRect_other {s : Shape} {α : Type} (r : Rect s) (f : s.Idx → α) (w : r.shape.Idx → α) {y : s.Idx} (h : ∀ x, r.emb x ≠ y) : putRect r f w y = f y := by
  unfold putRect; rw [preimage?_eq_none h]

theorem run_store {Q : α → sProp 𝕄} {s : Shape} {e : EltTy} (m : Memref sig .scVector .vmem s e) (r : Rect s) (w : r.shape.Idx → Elt F e)
    (hx : (m.access r).Stores Finset.univ) (hm) (f : Vec F s e) (k : PUnit → TProg F i α) :
    Pt d i m f ⊢ iprop((Pt d i m (putRect r f w) -∗ run d i (k ⟨⟩) Q) -∗ run d i (Prog.lift (.store m r w Finset.univ hx hm) >>= k) Q) := by
  unfold Pt
  iintro ⟨%f', %hf, H⟩ Hk
  iapply (wp_store 𝒱₀ (thr d i) none Set.univ (m := m) (r := r) (w := w) (Mk := Finset.univ) (hx := hx) (hm := hm) (k := k) (S := Finset.univ) (Finset.subset_univ _)) $$ H
  iintro H
  iapply Hk
  iexists _; isplitr
  swap
  · iexact H
  · ipureintro
    funext y
    by_cases hy : ∃ x, r.emb x = y
    · obtain ⟨x, rfl⟩ := hy
      rw [putRect_emb]
      exact View.read_slice_write_emb (v := m.view) (Val := Elt F) r f' w (Finset.mem_univ x)
    · have hn : ∀ x, r.emb x ≠ y := fun x hx => hy ⟨x, hx⟩
      rw [putRect_other r f w hn, ← hf]
      refine View.read_slice_write_of_not_mem (v := m.view) (Val := Elt F) r f' w _ fun h => ?_
      obtain ⟨x, -, hx⟩ := Finset.mem_map.mp h
      exact hn x hx

theorem putRect_whole {s : Shape} {α : Type} (f w : s.Idx → α) : putRect (Rect.whole s) f w = w := by
  funext y
  have h := putRect_emb (Rect.whole s) f w y
  rwa [Rect.emb_whole_apply] at h

theorem run_gather {Q : α → sProp 𝕄} {s : Shape} {e : EltTy} (m : Memref sig .scVector .vmem s e) (idxs : Fin s.rank → IVec S16 32) (h : ∀ a x, (idxs a x).toNat < s.size a)
    (hl : m.view.Loads) (f : Vec F s e) (k : Vec F S16 e → TProg F i α) :
    Pt d i m f ⊢ iprop((Pt d i m f -∗ run d i (k (loadIdx f idxs h)) Q) -∗ run d i (SparseCore.vectorLoadIdx m idxs h hl >>= k) Q) := by
  have hw : (fun x => f ((Rect.whole s).emb x)) = f := funext fun x => by rw [Rect.emb_whole_apply]
  have h := run_load d i (Q := Q) m (Rect.whole s) (View.loadsAt_whole hl) f (fun f => k (loadIdx f idxs h))
  rw [hw] at h
  exact h

theorem run_scatter {Q : α → sProp 𝕄} {s : Shape} {e : EltTy} (m : Memref sig .scVector .vmem s e) (idxs : Fin s.rank → IVec S16 32) (v : Vec F S16 e)
    (mask : IVec S16 1) (add : Bool) (h : ∀ a x, (idxs a x).toNat < s.size a) (hs : (m.access (.whole s)).Stores Finset.univ) (f : Vec F s e) (k : PUnit → TProg F i α) :
    Pt d i m f ⊢ iprop((Pt d i m (storeIdx (d := ![16]) f idxs v mask add h) -∗ run d i (k ⟨⟩) Q)
      -∗ run d i (SparseCore.vectorStoreIdx m idxs v mask add h hs >>= k) Q) := by
  have hw : (fun x => f ((Rect.whole s).emb x)) = f := funext fun x => by rw [Rect.emb_whole_apply]
  have h1 := run_load d i (Q := Q) m (Rect.whole s) (View.loadsAt_rect hs.loads) f
    (fun f => Prog.lift (.store m (.whole s) (storeIdx (d := ![16]) f idxs v mask add h) Finset.univ hs (.inl rfl)) >>= k)
  rw [hw] at h1
  have h2 := run_store d i (Q := Q) m (Rect.whole s) (storeIdx (d := ![16]) f idxs v mask add h) hs (.inl rfl) f k
  rw [putRect_whole] at h2
  iintro H Hk
  iapply h1 $$ H
  iintro H
  iapply h2 $$ H
  iexact Hk

theorem run_assume {Q : α → sProp 𝕄} {P : Prop} (dP : Decidable P) (h : P) (k : PLift P → TProg F i α) :
    run d i (k ⟨h⟩) Q ⊢ run d i (Prog.lift (TpuEff.assume P dP) >>= k) Q :=
  wp_assume 𝒱₀ (thr d i) none Set.univ h

end Cert.Proof.Radix
-- ==== Proof.Count.lean ====
/-
  The arithmetic of a counting sort on 4096 positions: a position's rank under a digit — how many positions have a
  smaller digit, and how many earlier ones the same — is a bijection that orders by the digit and, within one, keeps the
  order; three of them, from the lowest digit up, order by the number the digits spell.
-/
module

public import Idealize.ShloMosaic.Lib.SortFacts
public import Mathlib.Data.Fintype.EquivFin

@[expose] public section

noncomputable section

namespace Cert.Proof.Radix

/-- How many positions from `a` below `b` have digit `d`. -/
def cntIn (D : ℕ → ℕ) (a b d : ℕ) : ℕ := ((Finset.Ico a b).filter fun j => D j = d).card

/-- How many positions have a digit below `d`. -/
def below (D : ℕ → ℕ) (d : ℕ) : ℕ := ((Finset.range 4096).filter fun j => D j < d).card

/-- The place of a position. -/
def rank (D : ℕ → ℕ) (j : ℕ) : ℕ := below D (D j) + cntIn D 0 j (D j)

theorem cntIn_split (D : ℕ → ℕ) {a b c : ℕ} (h₁ : a ≤ b) (h₂ : b ≤ c) (d : ℕ) : cntIn D a b d + cntIn D b c d = cntIn D a c d := by
  unfold cntIn
  rw [← Finset.card_union_of_disjoint, ← Finset.filter_union, Finset.Ico_union_Ico_eq_Ico h₁ h₂]
  exact Finset.disjoint_filter_filter (Finset.Ico_disjoint_Ico_consecutive a b c)

theorem cntIn_self (D : ℕ → ℕ) (a d : ℕ) : cntIn D a a d = 0 := by simp [cntIn]

theorem cntIn_le (D : ℕ → ℕ) (a b d : ℕ) : cntIn D a b d ≤ b - a := by
  unfold cntIn; exact (Finset.card_filter_le _ _).trans (by simp)

theorem below_le (D : ℕ → ℕ) (d : ℕ) : below D d ≤ 4096 := by
  unfold below; exact (Finset.card_filter_le _ _).trans (by simp)

theorem below_zero (D : ℕ → ℕ) : below D 0 = 0 := by simp [below]

theorem below_succ (D : ℕ → ℕ) (d : ℕ) : below D (d + 1) = below D d + cntIn D 0 4096 d := by
  unfold below cntIn
  have hd : Disjoint ((Finset.range 4096).filter fun j => D j < d) ((Finset.Ico 0 4096).filter fun j => D j = d) := by
    rw [← Finset.range_eq_Ico]
    exact Finset.disjoint_filter.mpr fun j _ h => by omega
  refine Eq.trans (congrArg Finset.card ?_) (Finset.card_union_of_disjoint hd)
  ext j; simp only [Finset.mem_filter, Finset.mem_range, Finset.mem_union, Finset.mem_Ico]; omega

theorem below_mono (D : ℕ → ℕ) {d d' : ℕ} (h : d ≤ d') : below D d ≤ below D d' := by
  unfold below
  exact Finset.card_le_card fun j hj => by
    simp only [Finset.mem_filter] at hj ⊢; exact ⟨hj.1, by omega⟩

theorem cntIn_succ_self (D : ℕ → ℕ) {a j : ℕ} (h : a ≤ j) : cntIn D a (j + 1) (D j) = cntIn D a j (D j) + 1 := by
  rw [← cntIn_split D h (Nat.le_succ j)]
  congr 1
  unfold cntIn
  rw [show Finset.Ico j (j + 1) = {j} by ext x; rw [Finset.mem_Ico, Finset.mem_singleton]; omega, Finset.filter_singleton, if_pos rfl, Finset.card_singleton]

theorem rank_lt_below (D : ℕ → ℕ) {j : ℕ} (hj : j < 4096) : rank D j < below D (D j + 1) := by
  unfold rank
  rw [below_succ, ← cntIn_split D (Nat.zero_le (j + 1)) (show j + 1 ≤ 4096 by omega), cntIn_succ_self D (Nat.zero_le j)]
  omega

theorem rank_lt (D : ℕ → ℕ) {j : ℕ} (hj : j < 4096) : rank D j < 4096 := (rank_lt_below D hj).trans_le (below_le D _)

theorem below_le_rank (D : ℕ → ℕ) (j : ℕ) : below D (D j) ≤ rank D j := Nat.le_add_right _ _

/-- A smaller digit goes before, and of one digit the earlier. -/
theorem rank_lt_of (D : ℕ → ℕ) {j j' : ℕ} (hj : j < 4096) (h : D j < D j' ∨ D j = D j' ∧ j < j') : rank D j < rank D j' := by
  rcases h with h | ⟨h, hlt⟩
  · exact (rank_lt_below D hj).trans_le ((below_mono D h).trans (below_le_rank D j'))
  · unfold rank
    rw [← h]
    have h1 := cntIn_split D (Nat.zero_le (j + 1)) (show j + 1 ≤ j' from hlt) (D j)
    rw [cntIn_succ_self D (Nat.zero_le j)] at h1
    omega

theorem rank_lt_iff (D : ℕ → ℕ) {j j' : ℕ} (hj : j < 4096) (hj' : j' < 4096) :
    rank D j < rank D j' ↔ D j < D j' ∨ D j = D j' ∧ j < j' := by
  refine ⟨fun h => ?_, rank_lt_of D hj⟩
  by_contra hn
  rcases Nat.lt_trichotomy (D j) (D j') with hd | hd | hd
  · exact hn (.inl hd)
  · rcases Nat.lt_trichotomy j j' with hl | rfl | hl
    · exact hn (.inr ⟨hd, hl⟩)
    · exact lt_irrefl _ h
    · exact lt_asymm h (rank_lt_of D hj' (.inr ⟨hd.symm, hl⟩))
  · exact lt_asymm h (rank_lt_of D hj' (.inl hd))

theorem rank_inj (D : ℕ → ℕ) {j j' : ℕ} (hj : j < 4096) (hj' : j' < 4096) (h : rank D j = rank D j') : j = j' := by
  by_contra hn
  rcases Nat.lt_trichotomy (D j) (D j') with hd | hd | hd
  · exact absurd h (rank_lt_of D hj (.inl hd)).ne
  · rcases Nat.lt_or_gt_of_ne hn with hl | hl
    · exact absurd h (rank_lt_of D hj (.inr ⟨hd, hl⟩)).ne
    · exact absurd h (rank_lt_of D hj' (.inr ⟨hd.symm, hl⟩)).ne'
  · exact absurd h (rank_lt_of D hj' (.inl hd)).ne'

/-! ## Three passes -/

/-- The digit number `q` of a number. -/
def dig (q n : ℕ) : ℕ := n / 1024 ^ q % 1024

/-- The positions after the passes: `p1` orders by the lowest digit, `p2` by the lowest two, `p3` by three. -/
structure Passes (N : ℕ → ℕ) (D1 D2 D3 : ℕ → ℕ) : Prop where
  d1 : ∀ j < 4096, D1 j = dig 0 (N j)
  d2 : ∀ j < 4096, D2 (rank D1 j) = dig 1 (N j)
  d3 : ∀ j < 4096, D3 (rank D2 (rank D1 j)) = dig 2 (N j)

/-- A position's final place. -/
def place3 (D1 D2 D3 : ℕ → ℕ) (j : ℕ) : ℕ := rank D3 (rank D2 (rank D1 j))

theorem place3_lt (D1 D2 D3 : ℕ → ℕ) {j : ℕ} (hj : j < 4096) : place3 D1 D2 D3 j < 4096 :=
  rank_lt D3 (rank_lt D2 (rank_lt D1 hj))

theorem place3_inj (D1 D2 D3 : ℕ → ℕ) {j j' : ℕ} (hj : j < 4096) (hj' : j' < 4096) (h : place3 D1 D2 D3 j = place3 D1 D2 D3 j') : j = j' :=
  rank_inj D1 hj hj' (rank_inj D2 (rank_lt D1 hj) (rank_lt D1 hj') (rank_inj D3 (rank_lt D2 (rank_lt D1 hj)) (rank_lt D2 (rank_lt D1 hj')) h))

/-- Below `2^30` the three digits are the number. -/
theorem dig_spell {n : ℕ} (h : n < 2 ^ 30) : n = dig 2 n * 1048576 + dig 1 n * 1024 + dig 0 n := by
  unfold dig; rw [pow_one, pow_zero, show 1024 ^ 2 = 1048576 from rfl]; omega

theorem place3_lt_iff {N D1 D2 D3 : ℕ → ℕ} (H : Passes N D1 D2 D3) {j j' : ℕ} (hj : j < 4096) (hj' : j' < 4096)
    (hN : N j < 2 ^ 30) (hN' : N j' < 2 ^ 30) :
    place3 D1 D2 D3 j < place3 D1 D2 D3 j' ↔ N j < N j' ∨ N j = N j' ∧ j < j' := by
  unfold place3
  rw [rank_lt_iff D3 (rank_lt D2 (rank_lt D1 hj)) (rank_lt D2 (rank_lt D1 hj')), rank_lt_iff D2 (rank_lt D1 hj) (rank_lt D1 hj'),
    rank_lt_iff D1 hj hj', H.d1 j hj, H.d1 j' hj', H.d2 j hj, H.d2 j' hj', H.d3 j hj, H.d3 j' hj']
  have e := dig_spell hN
  have e' := dig_spell hN'
  have b1 : dig 0 (N j) < 1024 := Nat.mod_lt _ (by decide)
  have b1' : dig 0 (N j') < 1024 := Nat.mod_lt _ (by decide)
  have b2 : dig 1 (N j) < 1024 := Nat.mod_lt _ (by decide)
  have b2' : dig 1 (N j') < 1024 := Nat.mod_lt _ (by decide)
  omega

/-! ## The stable sort that a final place names -/

open Idealize.ShloMosaic

/-- A relation used only from a later element to an earlier one. -/
theorem stableSort_congr_later {ι : Type} (R R' : ι → ι → Bool) (lt : ι → ι → Prop) (l : List ι) (hl : l.Pairwise lt)
    (h : ∀ a b, lt a b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_place {n : ℕ} (R : Fin n → Fin n → Bool) (e : Equiv.Perm (Fin n))
    (h : ∀ a b : Fin n, a < b → R b a = decide (e b < e a)) (p : Fin n) : sortedFrom R (e p) = p := by
  have hs : sortPositions n R = List.ofFn e.symm := by
    rw [← sortPositions_of_perm e.symm]
    unfold sortPositions
    refine stableSort_congr_later _ _ (· < ·) _ (List.pairwise_lt_finRange n) fun a b hab => ?_
    rw [h a b hab]; simp
  unfold sortedFrom
  rw [List.get_of_eq hs]
  simp

end Cert.Proof.Radix
-- ==== Proof.Groups.lean ====
/-
  Each step's run: from what its memrefs read before to what they read after.
-/
module

public import proofs.«01_k».proof.Proof.Steps
public import proofs.«01_k».proof.Proof.Count

@[expose] public section

noncomputable section

namespace Cert.Proof.Radix

open Cert.Sort Cert.Sort.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

variable (d : Dev nD) (i : grid0.Coords) (h1 : k0_cond1 i = 1#1)

theorem run_last {Q : PUnit → sProp 𝕄} (p : TProg F i PUnit) : run d i (p >>= pure) Q ⊢ run d i p Q := by
  rw [bind_pure]
theorem run_pure {α : Type} {Q : α → sProp 𝕄} (a : α) : Q a ⊢ run d i (pure a) Q := by
  show Q a ⊢ wp frame _ Set.univ (Prog.ret a) Q
  rw [wp_ret]
  iintro H; imodintro; iexact H

/-- The lanes of a row at a rectangle of sixteen. -/
abbrev lanesOf {α : Type} {s : Shape} (off : Fin s.rank → ℕ) (size : Fin s.rank → ℕ) (inb : ∀ a, off a + size a ≤ s.size a) (f : s.Idx → α) :=
  fun x => f ((Rect.unit (s := s) off size inb).emb x)

/-- A scatter's effect on what is read, when the places differ pairwise. -/
def Scat {α : Type} (f : S4096.Idx → α) (p : IVec S16 32) (v : S16.Idx → α) (f' : S4096.Idx → α) : Prop :=
  (∀ l l' : Fin 16, (p (lane l)).toNat = (p (lane l')).toNat → l = l') →
    (∀ (l : Fin 16) (x : S4096.Idx), (p (lane l)).toNat = (x 0).val → f' x = v (lane l))
    ∧ ∀ x : S4096.Idx, (∀ l : Fin 16, (p (lane l)).toNat ≠ (x 0).val) → f' x = f x

/-- A table's step. -/
def Adv (f : Vec F S1024 .i32) (dv : IVec S16 32) (f' : Vec F S1024 .i32) : Prop :=
  ∀ x : S1024.Idx, (f' x : BitVec 32) = (f x : BitVec 32) + BitVec.ofNat 32 (hits dv (x 0).val)

theorem run_zeroG (tab : TabRef) (off : Fin 1 → ℕ) (inb : ∀ a, off a + S16.size a ≤ S1024.size a) (f : Vec F S1024 .i32) :
    Pt d i tab f ⊢ run (F := F) d i (zeroG i tab off inb) fun _ =>
      Pt d i tab (putRect (Rect.unit (s := S1024) off S16.size inb) f (broadcast S16 0#32)) := by
  unfold zeroG
  iintro H
  iapply (run_load d i) $$ H
  iintro H
  iapply (run_last d i)
  iapply (run_store d i) $$ H
  iintro H
  iapply (run_pure d i); iexact H

theorem run_histG {e : EltTy} (src : RowRef e) (dg : Vec F S16 e → IVec S16 32) (tab : TabRef) (off : Fin 1 → ℕ)
    (inb : ∀ a, off a + S16.size a ≤ S4096.size a) (fs : Vec F S4096 e) (ft : Vec F S1024 .i32)
    (hd : ∀ x, (dg (lanesOf (s := S4096) off S16.size inb fs) x).toNat < 1024) :
    iprop(Pt d i src fs ∗ Pt d i tab ft) ⊢ run (F := F) d i (histG i h1 src dg tab off inb) fun _ =>
      iprop(Pt d i src fs ∗ ∃ ft', ⌜Adv ft (dg (lanesOf (s := S4096) off S16.size inb fs)) ft'⌝ ∗ Pt d i tab ft') := by
  unfold histG
  iintro ⟨Hs, Ht⟩
  iapply (run_load d i) $$ Hs
  iintro Hs
  iapply (run_assume d i _ (show k0_chk1 i _ from fun _ a x => by rw [Fin.eq_zero a]; exact hd x))
  iapply (run_last d i)
  iapply (run_scatter d i) $$ Ht
  iintro Ht
  iapply (run_pure d i)
  isplitl [Hs]; · iexact Hs
  iexists _; isplitr
  swap
  · iexact Ht
  · ipureintro; exact fun x => tab_step ft _ _ x

/-- The places a permutation step sends its lanes to. -/
def places (dv : IVec S16 32) (ft : Vec F S1024 .i32) (hd : ∀ x, (dv x).toNat < 1024) : IVec S16 32 :=
  place dv fun x => ft fun a => ⟨(dv x).toNat, by rw [Fin.eq_zero a]; exact hd x⟩

theorem run_permCore {e : EltTy} (tab : TabRef) (dstK : RowRef e) (dstV : RowRef .i32) (dv : IVec S16 32) (kv : Vec F S16 e)
    (vv : IVec S16 32) (he : e.bits = 32) (ft : Vec F S1024 .i32) (fK : Vec F S4096 e) (fV : Vec F S4096 .i32)
    (hd : ∀ x, (dv x).toNat < 1024) (hp : ∀ x, (places dv ft hd x).toNat < 4096) :
    iprop(Pt d i tab ft ∗ Pt d i dstK fK ∗ Pt d i dstV fV) ⊢ run (F := F) d i (permCore i h1 tab dstK dstV dv kv vv he) fun _ =>
      iprop((∃ ft', ⌜Adv ft dv ft'⌝ ∗ Pt d i tab ft')
        ∗ (∃ fK', ⌜Scat fK (places dv ft hd) kv fK'⌝ ∗ Pt d i dstK fK')
        ∗ (∃ fV', ⌜Scat fV (places dv ft hd) vv fV'⌝ ∗ Pt d i dstV fV')) := by
  unfold permCore
  have hq1 : ∀ a x, ((![dv] : Fin 1 → IVec S16 32) a x).toNat < S1024.size a := fun a x => by rw [Fin.eq_zero a]; exact hd x
  have hq : k0_chk9 i dv := ⟨fun _ => hq1, fun _ => hq1⟩
  have hr1 : ∀ a x, ((![places dv ft hd] : Fin 1 → IVec S16 32) a x).toNat < S4096.size a := fun a x => by rw [Fin.eq_zero a]; exact hp x
  have hr : k0_chk10 i (places dv ft hd) := ⟨fun _ => hr1, fun _ => hr1⟩
  have hl : (loadIdx (F := F) ft ![dv] (k0_idx9_inb i dv hq h1) : Vec F S16 .i32) = fun x => ft fun a => ⟨(dv x).toNat, by rw [Fin.eq_zero a]; exact hd x⟩ := by
    funext x
    show ft _ = ft _
    congr 1; funext a; rw [Fin.eq_zero a]; rfl
  iintro ⟨Ht, HK, HV⟩
  iapply (run_assume d i _ hq)
  iapply (run_gather d i) $$ Ht
  rw [hl]
  iintro Ht
  iapply (run_assume d i _ hr)
  iapply (run_scatter d i) $$ HK
  iintro HK
  iapply (run_scatter d i) $$ HV
  iintro HV
  iapply (run_last d i)
  iapply (run_scatter d i) $$ Ht
  iintro Ht
  iapply (run_pure d i)
  isplitl [Ht]
  · iexists _; isplitr
    swap
    · iexact Ht
    · ipureintro; exact fun x => tab_step ft _ _ x
  isplitl [HK]
  · iexists _; isplitr
    swap
    · iexact HK
    · ipureintro; exact fun hinj => ⟨fun l x hx => put_hit fK _ _ _ hinj x l hx, fun x hx => put_miss fK _ _ _ x hx⟩
  · iexists _; isplitr
    swap
    · iexact HV
    · ipureintro; exact fun hinj => ⟨fun l x hx => put_hit fV _ _ _ hinj x l hx, fun x hx => put_miss fV _ _ _ x hx⟩

theorem run_permA (src : RowRef .f32) (dstK dstV : RowRef .i32) (w : BitVec 32) (tab : TabRef) (off : Fin 1 → ℕ)
    (inb : ∀ a, off a + S16.size a ≤ S4096.size a) (fs : Vec F S4096 .f32) (ft : Vec F S1024 .i32) (fK fV : Vec F S4096 .i32)
    (hd : ∀ x, (digit 0#32 (keyF (lanesOf (s := S4096) off S16.size inb fs)) x).toNat < 1024)
    (hp : ∀ x, (places (digit 0#32 (keyF (lanesOf (s := S4096) off S16.size inb fs))) ft hd x).toNat < 4096) :
    iprop(Pt d i src fs ∗ Pt d i tab ft ∗ Pt d i dstK fK ∗ Pt d i dstV fV) ⊢ run (F := F) d i (permA i h1 src dstK dstV w tab off inb) fun _ =>
      iprop(Pt d i src fs ∗ (∃ ft', ⌜Adv ft (digit 0#32 (keyF (lanesOf (s := S4096) off S16.size inb fs))) ft'⌝ ∗ Pt d i tab ft')
        ∗ (∃ fK', ⌜Scat fK (places (digit 0#32 (keyF (lanesOf (s := S4096) off S16.size inb fs))) ft hd) (keyF (lanesOf (s := S4096) off S16.size inb fs)) fK'⌝ ∗ Pt d i dstK fK')
        ∗ (∃ fV', ⌜Scat fV (places (digit 0#32 (keyF (lanesOf (s := S4096) off S16.size inb fs))) ft hd) (lanesAt w) fV'⌝ ∗ Pt d i dstV fV')) := by
  unfold permA
  iintro ⟨Hs, H⟩
  iapply (run_load d i) $$ Hs
  iintro Hs
  iapply (wp_wand_r frame _ Set.univ)
  isplitl [H]
  · iapply (run_permCore d i h1 tab dstK dstV _ _ _ rfl ft fK fV hd hp); iexact H
  · iintro %_ H; isplitl [Hs]; · iexact Hs
    iexact H

theorem run_permB {e : EltTy} (srcK srcV : RowRef .i32) (dstK : RowRef e) (dstV : RowRef .i32) (sh : BitVec 32) (kf : IVec S16 32 → Vec F S16 e)
    (he : e.bits = 32) (tab : TabRef) (off : Fin 1 → ℕ) (inb : ∀ a, off a + S16.size a ≤ S4096.size a)
    (fs fv : Vec F S4096 .i32) (ft : Vec F S1024 .i32) (fK : Vec F S4096 e) (fV : Vec F S4096 .i32)
    (hd : ∀ x, (digit sh (lanesOf (s := S4096) off S16.size inb fs) x).toNat < 1024)
    (hp : ∀ x, (places (digit sh (lanesOf (s := S4096) off S16.size inb fs)) ft hd x).toNat < 4096) :
    iprop((Pt d i srcK fs ∗ Pt d i srcV fv) ∗ Pt d i tab ft ∗ Pt d i dstK fK ∗ Pt d i dstV fV)
      ⊢ run (F := F) d i (permB i h1 srcK srcV dstK dstV sh kf he tab off inb) fun _ =>
      iprop((Pt d i srcK fs ∗ Pt d i srcV fv) ∗ (∃ ft', ⌜Adv ft (digit sh (lanesOf (s := S4096) off S16.size inb fs)) ft'⌝ ∗ Pt d i tab ft')
        ∗ (∃ fK', ⌜Scat fK (places (digit sh (lanesOf (s := S4096) off S16.size inb fs)) ft hd) (kf (lanesOf (s := S4096) off S16.size inb fs)) fK'⌝ ∗ Pt d i dstK fK')
        ∗ (∃ fV', ⌜Scat fV (places (digit sh (lanesOf (s := S4096) off S16.size inb fs)) ft hd) (lanesOf (s := S4096) off S16.size inb fv) fV'⌝ ∗ Pt d i dstV fV')) := by
  unfold permB
  iintro ⟨⟨Hs, Hv⟩, H⟩
  iapply (run_load d i) $$ Hs
  iintro Hs
  iapply (run_load d i) $$ Hv
  iintro Hv
  iapply (wp_wand_r frame _ Set.univ)
  isplitl [H]
  · iapply (run_permCore d i h1 tab dstK dstV _ _ _ he ft fK fV hd hp); iexact H
  · iintro %_ H; isplitl [Hs Hv]
    · isplitl [Hs]; · iexact Hs
      iexact Hv
    iexact H

/-! ## The eight tables, and eight steps in a row -/

/-- The eight tables, each at contents satisfying its own predicate. -/
def Tabs (tabs : Fin 8 → TabRef) (Φ : Fin 8 → Vec F S1024 .i32 → Prop) : sProp 𝕄 :=
  bigSep Finset.univ fun g : Fin 8 => iprop(∃ f, ⌜Φ g f⌝ ∗ Pt d i (tabs g) f)

/-- The tables below `n` after their step, the others before. -/
def mix (Φ Ψ : Fin 8 → Vec F S1024 .i32 → Prop) (n : ℕ) (g : Fin 8) : Vec F S1024 .i32 → Prop := if g.val < n then Ψ g else Φ g

theorem run_group (tabs : Fin 8 → TabRef) (Φ Ψ : Fin 8 → Vec F S1024 .i32 → Prop) (g : Fin 8) (p : TProg F i PUnit) (A B : sProp 𝕄)
    (h : ∀ f, Φ g f → iprop(A ∗ Pt d i (tabs g) f) ⊢ run d i p fun _ => iprop(B ∗ ∃ f', ⌜Ψ g f'⌝ ∗ Pt d i (tabs g) f')) :
    iprop(A ∗ Tabs d i tabs (mix Φ Ψ g.val)) ⊢ run d i p fun _ => iprop(B ∗ Tabs d i tabs (mix Φ Ψ (g.val + 1))) := by
  unfold Tabs
  rw [SparseCore.bigSep_erase' (Finset.mem_univ g), SparseCore.bigSep_erase' (Finset.mem_univ g)]
  have hrest : (bigSep (Finset.univ.erase g) fun g' : Fin 8 => (iprop(∃ f, ⌜mix Φ Ψ (g.val + 1) g' f⌝ ∗ Pt d i (tabs g') f) : sProp 𝕄))
      = bigSep (Finset.univ.erase g) fun g' : Fin 8 => iprop(∃ f, ⌜mix Φ Ψ g.val g' f⌝ ∗ Pt d i (tabs g') f) :=
    bigSep_congr fun g' hg' => by
      have hne : g'.val ≠ g.val := fun e => (Finset.mem_erase.mp hg').1 (Fin.ext e)
      have : mix Φ Ψ (g.val + 1) g' = mix Φ Ψ g.val g' := by
        unfold mix
        by_cases hl : g'.val < g.val
        · rw [if_pos hl, if_pos (by omega)]
        · rw [if_neg hl, if_neg (by omega)]
      rw [this]
  rw [hrest]
  have h0 : mix Φ Ψ g.val g = Φ g := if_neg (lt_irrefl _)
  have h1 : mix Φ Ψ (g.val + 1) g = Ψ g := if_pos (Nat.lt_succ_self _)
  rw [h0, h1]
  iintro ⟨HA, ⟨%f, %hf, Hf⟩, Hr⟩
  iapply (wp_wand_r frame _ Set.univ)
  isplitl [HA Hf]
  · iapply (h f hf)
    isplitl [HA] <;> iassumption
  · iintro %_ ⟨HB, Hf⟩
    isplitl [HB]; · iexact HB
    isplitl [Hf] <;> iassumption

theorem run_seq8 (G : Fin 8 → TProg F i PUnit) (J : ℕ → sProp 𝕄) (h : ∀ g : Fin 8, J g.val ⊢ run d i (G g) fun _ => J (g.val + 1)) :
    J 0 ⊢ run d i (seq8 i G) fun _ => J 8 := by
  unfold seq8 run
  rw [wp_bind, wp_bind, wp_bind, wp_bind, wp_bind, wp_bind, wp_bind, wp_bind]
  refine (h 0).trans (wp_mono frame _ _ fun _ => ?_)
  refine (h 1).trans (wp_mono frame _ _ fun _ => ?_)
  refine (h 2).trans (wp_mono frame _ _ fun _ => ?_)
  refine (h 3).trans (wp_mono frame _ _ fun _ => ?_)
  refine (h 4).trans (wp_mono frame _ _ fun _ => ?_)
  refine (h 5).trans (wp_mono frame _ _ fun _ => ?_)
  refine (h 6).trans (wp_mono frame _ _ fun _ => ?_)
  refine (h 7).trans (wp_mono frame _ _ fun _ => ?_)
  exact run_pure d i (Q := fun _ => J 8) 0#32

/-- Eight steps, each at its own table. -/
theorem run_groups (tabs : Fin 8 → TabRef) (Φ Ψ : Fin 8 → Vec F S1024 .i32 → Prop) (G : Fin 8 → TProg F i PUnit) (A : ℕ → sProp 𝕄)
    (h : ∀ (g : Fin 8) f, Φ g f → iprop(A g.val ∗ Pt d i (tabs g) f) ⊢ run d i (G g) fun _ => iprop(A (g.val + 1) ∗ ∃ f', ⌜Ψ g f'⌝ ∗ Pt d i (tabs g) f')) :
    iprop(A 0 ∗ Tabs d i tabs Φ) ⊢ run d i (seq8 i G) fun _ => iprop(A 8 ∗ Tabs d i tabs Ψ) := by
  have h' := run_seq8 d i G (fun n => iprop(A n ∗ Tabs d i tabs (mix Φ Ψ n))) fun g => run_group d i tabs Φ Ψ g (G g) _ _ (h g)
  have e0 : mix Φ Ψ 0 = Φ := funext fun g => if_neg (Nat.not_lt_zero _)
  have e8 : mix Φ Ψ 8 = Ψ := funext fun g => if_pos g.isLt
  rw [e0, e8] at h'
  exact h'

end Cert.Proof.Radix
-- ==== Proof.Marks.lean ====
/-
  What the tables and rows hold between the steps, as numbers: counts in the tables, the marks a permutation has set.
-/
module

public import proofs.«01_k».proof.Proof.Groups

@[expose] public section

noncomputable section

namespace Cert.Proof.Radix

open Cert.Sort Cert.Sort.Gen
open Idealize.ShloMosaic

variable {F : FTy → Type} [BitOps F]

/-- The index of a row's element `j`, and a row's element there. -/
def ixN (j : ℕ) : S4096.Idx := fun a => ⟨j % 4096, by rw [Fin.eq_zero a]; exact Nat.mod_lt _ (by decide)⟩
def rowAt {α : Type} (f : S4096.Idx → α) (j : ℕ) : α := f (ixN j)

theorem rowAt_val {α : Type} (f : S4096.Idx → α) (x : S4096.Idx) : rowAt f (x 0).val = f x := by
  unfold rowAt
  congr 1; funext a; rw [Fin.eq_zero a]
  exact Fin.ext (Nat.mod_eq_of_lt (x 0).isLt)

theorem lanesOf_row {α : Type} {off : Fin 1 → ℕ} {inb : ∀ a, off a + S16.size a ≤ S4096.size a} (f : S4096.Idx → α) {o : ℕ}
    (ho : ∀ a, off a = o) (l : Fin 16) : lanesOf (s := S4096) off S16.size inb f (lane l) = rowAt f (o + l.val) := by
  show f _ = _
  rw [← rowAt_val f]
  congr 1
  show off 0 + 1 * l.val = _
  rw [ho, Nat.one_mul]

/-- The digits of a row's elements as numbers. -/
abbrev digs {e : EltTy} (dw : Elt F e → ℕ) (f : Vec F S4096 e) : ℕ → ℕ := fun j => dw (rowAt f j)

/-- A vector of digits taken lane by lane. -/
def LaneDig {e : EltTy} (dg : Vec F S16 e → IVec S16 32) (dw : Elt F e → ℕ) : Prop :=
  (∀ v l, (dg v (lane l)).toNat = dw (v (lane l))) ∧ ∀ y, dw y < 1024

theorem LaneDig.lt {e : EltTy} {dg : Vec F S16 e → IVec S16 32} {dw : Elt F e → ℕ} (h : LaneDig dg dw) (v : Vec F S16 e) (x : S16.Idx) :
    (dg v x).toNat < 1024 := by
  have e := h.1 v (x 0)
  rw [lane_eta x] at e
  rw [e]; exact h.2 _

/-- Sixteen lanes that carry the digits of sixteen positions. -/
def Carries (D : ℕ → ℕ) (o : ℕ) (dv : IVec S16 32) : Prop := ∀ l : Fin 16, (dv (lane l)).toNat = D (o + l.val)

theorem LaneDig.carries {e : EltTy} {dg : Vec F S16 e → IVec S16 32} {dw : Elt F e → ℕ} (h : LaneDig dg dw) {off : Fin 1 → ℕ}
    {inb : ∀ a, off a + S16.size a ≤ S4096.size a} (f : Vec F S4096 e) {o : ℕ} (ho : ∀ a, off a = o) :
    Carries (digs dw f) o (dg (lanesOf (s := S4096) off S16.size inb f)) := fun l => by
  rw [h.1, lanesOf_row f ho]

theorem card_lanes (P : ℕ → Prop) [DecidablePred P] (o n : ℕ) (hn : n ≤ 16) :
    ((Finset.univ : Finset (Fin 16)).filter fun l => l.val < n ∧ P (o + l.val)).card = ((Finset.Ico o (o + n)).filter fun j => P j).card := by
  refine Finset.card_bij (fun l _ => o + l.val) ?_ ?_ ?_
  · intro l hl
    simp only [Finset.mem_filter, Finset.mem_univ, true_and, Finset.mem_Ico] at hl ⊢
    exact ⟨⟨by omega, by omega⟩, hl.2⟩
  · intro l _ l' _ he
    exact Fin.ext (by have he' : o + l.val = o + l'.val := he; omega)
  · intro j hj
    simp only [Finset.mem_filter, Finset.mem_Ico] at hj
    refine ⟨⟨j - o, by omega⟩, ?_, by simp only; omega⟩
    simp only [Finset.mem_filter, Finset.mem_univ, true_and]
    rw [show o + (j - o) = j by omega]
    exact ⟨by omega, hj.2⟩

theorem Carries.hits {D : ℕ → ℕ} {o : ℕ} {dv : IVec S16 32} (h : Carries D o dv) (n : ℕ) : hits dv n = cntIn D o (o + 16) n := by
  unfold Radix.hits cntIn
  rw [← card_lanes (fun j => D j = n) o 16 le_rfl]
  congr 1
  ext l
  simp only [Finset.mem_filter, Finset.mem_univ, true_and, h l]
  exact ⟨fun h => ⟨l.isLt, h⟩, fun h => h.2⟩

theorem Carries.cnt {D : ℕ → ℕ} {o : ℕ} {dv : IVec S16 32} (h : Carries D o dv) (l : Fin 16) :
    (cnt dv (lane l)).toNat = cntIn D o (o + (l.val + 1)) (D (o + l.val)) := by
  have hc : ((Finset.univ : Finset (Fin 16)).filter fun k => k ≤ l ∧ dv (lane k) = dv (lane l)).card = cntIn D o (o + (l.val + 1)) (D (o + l.val)) := by
    unfold cntIn
    rw [← card_lanes (fun j => D j = D (o + l.val)) o (l.val + 1) (by omega)]
    congr 1
    ext k
    simp only [Finset.mem_filter, Finset.mem_univ, true_and]
    rw [← h l, ← h k]
    exact ⟨fun ⟨a, b⟩ => ⟨by have := Fin.le_def.mp a; omega, by rw [b]⟩, fun ⟨a, b⟩ => ⟨Fin.le_def.mpr (by omega), BitVec.eq_of_toNat_eq b⟩⟩
  rw [cnt_apply, hc, BitVec.toNat_ofNat]
  exact Nat.mod_eq_of_lt ((cntIn_le D o (o + (l.val + 1)) _).trans_lt (by omega))

/-! ## Tables -/

/-- A table that holds the numbers `t`. -/
def IsTab (f : Vec F S1024 .i32) (t : ℕ → ℕ) : Prop := ∀ x : S1024.Idx, (f x : BitVec 32).toNat = t (x 0).val

theorem Adv.tab {f f' : Vec F S1024 .i32} {dv : IVec S16 32} (h : Adv f dv f') {D : ℕ → ℕ} {o : ℕ} (hc : Carries D o dv) {t : ℕ → ℕ}
    (hf : IsTab f t) (hb : ∀ n, t n + cntIn D o (o + 16) n < 2 ^ 32) : IsTab f' (fun n => t n + cntIn D o (o + 16) n) := fun x => by
  have hx := hb (x 0).val
  rw [h x, BitVec.toNat_add, BitVec.toNat_ofNat, hf x, hc.hits]
  rw [Nat.mod_eq_of_lt (b := 2 ^ 32) (a := cntIn _ _ _ _) (by omega), Nat.mod_eq_of_lt hx]

/-- A histogram's table one step on. -/
theorem Adv.hist {f f' : Vec F S1024 .i32} {dv : IVec S16 32} (h : Adv f dv f') {D : ℕ → ℕ} {a o : ℕ} (hc : Carries D o dv)
    (ha : a ≤ o) (ho : o + 16 ≤ 4096) (hf : IsTab f (cntIn D a o)) : IsTab f' (cntIn D a (o + 16)) := by
  have := h.tab hc hf fun n => by
    rw [cntIn_split D ha (Nat.le_add_right o 16)]; exact (cntIn_le D _ _ n).trans_lt (by omega)
  intro x
  exact (this x).trans (cntIn_split D ha (Nat.le_add_right o 16) _)

/-- The place of the next position of a digit. -/
def nextOf (D : ℕ → ℕ) (o n : ℕ) : ℕ := below D n + cntIn D 0 o n

theorem Adv.next {f f' : Vec F S1024 .i32} {dv : IVec S16 32} (h : Adv f dv f') {D : ℕ → ℕ} {o : ℕ} (hc : Carries D o dv)
    (ho : o + 16 ≤ 4096) (hf : IsTab f (nextOf D o)) : IsTab f' (nextOf D (o + 16)) := by
  have hs : ∀ n, nextOf D o n + cntIn D o (o + 16) n = nextOf D (o + 16) n := fun n => by
    unfold nextOf; rw [Nat.add_assoc, cntIn_split D (Nat.zero_le o) (Nat.le_add_right o 16)]
  have := h.tab hc hf fun n => by
    rw [hs]; unfold nextOf
    exact (Nat.add_le_add (below_le D n) (cntIn_le D 0 (o + 16) n)).trans_lt (by omega)
  exact fun x => (this x).trans (hs _)

/-- The places the lanes go to are their positions' ranks. -/
theorem places_rank {f : Vec F S1024 .i32} {dv : IVec S16 32} (hd : ∀ x, (dv x).toNat < 1024) {D : ℕ → ℕ} {o : ℕ} (hc : Carries D o dv)
    (ho : o + 16 ≤ 4096) (hf : IsTab f (nextOf D o)) (l : Fin 16) : (places dv f hd (lane l)).toNat = rank D (o + l.val) := by
  have hl := l.isLt
  have ht := (hf fun a => ⟨(dv (lane l)).toNat, by rw [Fin.eq_zero a]; exact hd (lane l)⟩).trans (congrArg (nextOf D o) (hc l))
  have h1 := hc.cnt l
  have hpos := cntIn_succ_self D (Nat.le_add_right o l.val)
  have hlt := rank_lt D (j := o + l.val) (by omega)
  have hsp := cntIn_split D (Nat.zero_le o) (Nat.le_add_right o l.val) (D (o + l.val))
  unfold nextOf at ht
  rw [← Nat.add_assoc o, hpos] at h1
  unfold rank at hlt ⊢
  show ((f _ + cnt dv (lane l)) - 1#32 : BitVec 32).toNat = _
  rw [BitVec.toNat_sub, BitVec.toNat_add, h1]
  refine (congrArg (fun z => (2 ^ 32 - (1#32 : BitVec 32).toNat + (z + (cntIn D o (o + l.val) (D (o + l.val)) + 1)) % 2 ^ 32) % 2 ^ 32) ht).trans ?_
  have h1' : (1#32 : BitVec 32).toNat = 1 := rfl
  rw [h1']
  omega

/-! ## The marks of a permutation -/

/-- The positions for which `P` holds have reached their places. -/
def Put {α : Type} (D : ℕ → ℕ) (P : ℕ → Prop) (val : ℕ → α) (f : S4096.Idx → α) : Prop :=
  ∀ j < 4096, P j → ∀ x : S4096.Idx, (x 0).val = rank D j → f x = val j

theorem Put.none {α : Type} {D : ℕ → ℕ} {P : ℕ → Prop} {val : ℕ → α} {f : S4096.Idx → α} (h : ∀ j < 4096, ¬ P j) : Put D P val f :=
  fun j hj hp => absurd hp (h j hj)

theorem Scat.put {α : Type} {D : ℕ → ℕ} {P P' : ℕ → Prop} {val : ℕ → α} {f f' : S4096.Idx → α} {p : IVec S16 32} {v : S16.Idx → α} {o : ℕ}
    (h : Scat f p v f') (ho : o + 16 ≤ 4096) (hp : ∀ l : Fin 16, (p (lane l)).toNat = rank D (o + l.val)) (hv : ∀ l : Fin 16, v (lane l) = val (o + l.val))
    (hf : Put D P val f) (hP : ∀ j < 4096, P' j → P j ∨ (o ≤ j ∧ j < o + 16)) : Put D P' val f' := by
  obtain ⟨hh, hm⟩ := h fun l l' he => by
    rw [hp, hp] at he
    have := rank_inj D (by omega) (by omega) he
    exact Fin.ext (by omega)
  have hit : ∀ j, o ≤ j → j < o + 16 → ∀ x : S4096.Idx, (x 0).val = rank D j → f' x = val j := by
    intro j h1 h2 x hx
    have hj : o + (j - o) = j := by omega
    rw [hh ⟨j - o, by omega⟩ x (by rw [hp, hx]; simp only [hj]), hv]
    simp only [hj]
  intro j hj hPj x hx
  by_cases hin : o ≤ j ∧ j < o + 16
  · exact hit j hin.1 hin.2 x hx
  · rcases hP j hj hPj with hold | hnew
    · rw [hm x fun l hl => hin ?_, hf j hj hold x hx]
      rw [hp, hx] at hl
      have := rank_inj D (by omega) hj hl
      omega
    · exact absurd hnew hin

/-- The positions done after `n` groups of trip `k`. -/
def done (k n j : ℕ) : Prop := j % 512 < 16 * k ∨ (j / 512 < n ∧ j % 512 < 16 * (k + 1))

theorem done_step {k n j : ℕ} (hj : j < 4096) (h : done k (n + 1) j) : done k n j ∨ (512 * n + 16 * k ≤ j ∧ j < 512 * n + 16 * k + 16) := by
  unfold done at *; omega
theorem done_trip {k j : ℕ} (h : done (k + 1) 0 j) : done k 8 j ∨ 4096 ≤ j := by unfold done at *; omega

/-! ## The prefix step -/

theorem sum_lanes (g : ℕ → ℕ) (l : Fin 16) : (∑ k ∈ Finset.univ.filter (fun k : Fin 16 => k ≤ l), g k.val) = ∑ j ∈ Finset.range (l.val + 1), g j := by
  refine Finset.sum_bij (fun k _ => k.val) ?_ ?_ ?_ ?_
  · intro k hk
    simp only [Finset.mem_filter, Finset.mem_univ, true_and, Finset.mem_range] at hk ⊢
    have := Fin.le_def.mp hk; omega
  · intro k _ k' _ he; exact Fin.ext he
  · intro j hj
    simp only [Finset.mem_range] at hj
    exact ⟨⟨j, by omega⟩, by simp only [Finset.mem_filter, Finset.mem_univ, true_and]; exact Fin.le_def.mpr (by simp only; omega), rfl⟩
  · intro k _; rfl

theorem sum_below (D : ℕ → ℕ) (a : ℕ) : ∀ n, below D a + ∑ j ∈ Finset.range n, cntIn D 0 4096 (a + j) = below D (a + n)
  | 0 => by simp
  | n + 1 => by rw [Finset.sum_range_succ, ← Nat.add_assoc, sum_below D a n, ← below_succ]; rfl

/-- Sixteen words of the eight tables before the step. -/
def Heads (D : ℕ → ℕ) (a : ℕ) (h : Fin 8 → IVec S16 32) : Prop :=
  ∀ (g : Fin 8) (l : Fin 16), (h g (lane l)).toNat = cntIn D (512 * g.val) (512 * (g.val + 1)) (a + l.val)

theorem cntIn_pieces (D : ℕ → ℕ) (n m : ℕ) : cntIn D 0 (512 * n) m + cntIn D (512 * n) (512 * (n + 1)) m = cntIn D 0 (512 * (n + 1)) m :=
  cntIn_split D (Nat.zero_le _) (by omega) m

theorem add_toNat {s : Shape} {u v : IVec s 32} {x : s.Idx} {a b : ℕ} (hu : (u x).toNat = a) (hv : (v x).toNat = b) (h : a + b < 2 ^ 32) :
    (addi u v x).toNat = a + b := by
  show (u x + v x : BitVec 32).toNat = _
  rw [BitVec.toNat_add, hu, hv, Nat.mod_eq_of_lt h]

theorem Heads.tot {D : ℕ → ℕ} {a : ℕ} {h : Fin 8 → IVec S16 32} (H : Heads D a h) (l : Fin 16) :
    (tot8 h (lane l)).toNat = cntIn D 0 4096 (a + l.val) := by
  have e := cntIn_pieces D
  have z := cntIn_self D 0 (a + l.val)
  have b := fun n => cntIn_le D 0 (512 * n) (a + l.val)
  have s : ∀ (n : Fin 8) (u : IVec S16 32), n.val ≠ 0 → (u (lane l)).toNat = cntIn D 0 (512 * n.val) (a + l.val) →
      (addi u (h n) (lane l)).toNat = cntIn D 0 (512 * (n.val + 1)) (a + l.val) := fun n u _ hu => by
    rw [← e n.val]; refine add_toNat hu (H n l) ?_
    rw [e]; exact (b _).trans_lt (by omega)
  have h0 : (h 0 (lane l)).toNat = cntIn D 0 (512 * 1) (a + l.val) := H 0 l
  unfold tot8
  exact s 7 _ (by decide) (s 6 _ (by decide) (s 5 _ (by decide) (s 4 _ (by decide) (s 3 _ (by decide) (s 2 _ (by decide) (s 1 _ (by decide) h0))))))

theorem Heads.scan {D : ℕ → ℕ} {a : ℕ} {h : Fin 8 → IVec S16 32} (H : Heads D a h) (l : Fin 16) :
    below D a + (scan (d := ![16]) .sum (tot8 h) (lane l)).toNat = below D (a + (l.val + 1)) := by
  have e : ∑ k ∈ Finset.univ.filter (fun k : Fin 16 => k ≤ l), (tot8 h (lane k)).toNat = ∑ j ∈ Finset.range (l.val + 1), cntIn D 0 4096 (a + j) := by
    rw [← sum_lanes fun j => cntIn D 0 4096 (a + j)]
    exact Finset.sum_congr rfl fun k _ => H.tot k
  have s := sum_below D a (l.val + 1)
  have b := below_le D (a + (l.val + 1))
  rw [scan_sum, e, BitVec.toNat_ofNat, Nat.mod_eq_of_lt (by omega), s]

theorem Heads.run0 {D : ℕ → ℕ} {a : ℕ} {h : Fin 8 → IVec S16 32} (H : Heads D a h) {c : BitVec 32} (hc : c.toNat = below D a) (l : Fin 16) :
    (run0 c h (lane l)).toNat = below D (a + l.val) := by
  have h1 := H.scan l
  have h2 := H.tot l
  have h3 := below_succ D (a + l.val)
  have b := below_le D (a + (l.val + 1))
  show ((Idealize.ShloMosaic.scan (d := ![16]) .sum (tot8 h) (lane l) - tot8 h (lane l)) + c : BitVec 32).toNat = _
  rw [BitVec.toNat_add, BitVec.toNat_sub, h2, hc]
  rw [← Nat.add_assoc] at h1 b
  omega

theorem Heads.carry {D : ℕ → ℕ} {a : ℕ} {h : Fin 8 → IVec S16 32} (H : Heads D a h) {c : BitVec 32} (hc : c.toNat = below D a) :
    (Scalar.addi c (extractAt ![15] (Idealize.ShloMosaic.scan (d := ![16]) .sum (tot8 h)) inpos_S16_p15)).toNat = below D (a + 16) := by
  have h1 := H.scan 15
  have b := below_le D (a + 16)
  have hx : extractAt ![15] (Idealize.ShloMosaic.scan (d := ![16]) .sum (tot8 h)) inpos_S16_p15 = Idealize.ShloMosaic.scan (d := ![16]) .sum (tot8 h) (lane 15) := by
    show Idealize.ShloMosaic.scan (d := ![16]) .sum (tot8 h) _ = _
    congr 1
    funext a; rw [Fin.eq_zero a]; rfl
  rw [hx]
  show (c + _ : BitVec 32).toNat = _
  rw [BitVec.toNat_add, hc, h1]
  exact Nat.mod_eq_of_lt (b.trans_lt (by omega))

/-- What each table is given. -/
def given (c : BitVec 32) (h : Fin 8 → IVec S16 32) : Fin 8 → IVec S16 32 :=
  ![run0 c h, addi (run0 c h) (h 0), addi (addi (run0 c h) (h 0)) (h 1), addi (addi (addi (run0 c h) (h 0)) (h 1)) (h 2),
    addi (addi (addi (addi (run0 c h) (h 0)) (h 1)) (h 2)) (h 3), addi (addi (addi (addi (addi (run0 c h) (h 0)) (h 1)) (h 2)) (h 3)) (h 4),
    addi (addi (addi (addi (addi (addi (run0 c h) (h 0)) (h 1)) (h 2)) (h 3)) (h 4)) (h 5),
    addi (addi (addi (addi (addi (addi (addi (run0 c h) (h 0)) (h 1)) (h 2)) (h 3)) (h 4)) (h 5)) (h 6)]

theorem Heads.given {D : ℕ → ℕ} {a : ℕ} {h : Fin 8 → IVec S16 32} (H : Heads D a h) {c : BitVec 32} (hc : c.toNat = below D a) (g : Fin 8) (l : Fin 16) :
    (given c h g (lane l)).toNat = nextOf D (512 * g.val) (a + l.val) := by
  have e := cntIn_pieces D
  have b := fun n => cntIn_le D 0 (512 * n) (a + l.val)
  have b' := below_le D (a + l.val)
  have s : ∀ (n : Fin 8) (u : IVec S16 32), n.val < 7 → (u (lane l)).toNat = nextOf D (512 * n.val) (a + l.val) →
      (addi u (h n) (lane l)).toNat = nextOf D (512 * (n.val + 1)) (a + l.val) := fun n u _ hu => by
    have hb := b (n.val + 1)
    unfold nextOf at *
    rw [← e n.val, ← Nat.add_assoc]; refine add_toNat hu (H n l) ?_
    rw [Nat.add_assoc, e]; omega
  have h0 : (Radix.run0 c h (lane l)).toNat = nextOf D (512 * 0) (a + l.val) := by
    rw [H.run0 hc]; unfold nextOf; rw [show 512 * 0 = 0 from rfl, cntIn_self]; rfl
  have h1 := s 0 _ (by decide) h0
  have h2 := s 1 _ (by decide) h1
  have h3 := s 2 _ (by decide) h2
  have h4 := s 3 _ (by decide) h3
  have h5 := s 4 _ (by decide) h4
  have h6 := s 5 _ (by decide) h5
  have h7 := s 6 _ (by decide) h6
  fin_cases g
  exacts [h0, h1, h2, h3, h4, h5, h6, h7]

end Cert.Proof.Radix
-- ==== Proof.Trips.lean ====
/-
  The loops of a pass: clearing, histogram, prefix, permutation, each from the state of the one before.
-/
module

public import proofs.«01_k».proof.Proof.Marks

@[expose] public section

noncomputable section

namespace Cert.Proof.Radix

open Cert.Sort Cert.Sort.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

variable (d : Dev nD) (i : grid0.Coords) (h1 : k0_cond1 i = 1#1)

theorem same (A : sProp 𝕄) : A ⊢ A := by iintro H; iexact H
theorem both {A A' B B' : sProp 𝕄} (h : A ⊢ A') (h' : B ⊢ B') : iprop(A ∗ B) ⊢ iprop(A' ∗ B') := by
  iintro ⟨HA, HB⟩
  isplitl [HA]
  · iapply h; iexact HA
  · iapply h'; iexact HB

theorem run_loop (L : Scf.Loop 32) (hok : L.OK) (init : BitVec 32) (body : Fin L.trips → BitVec 32 → TProg F i (BitVec 32)) (n : ℕ) (hn : L.trips = n)
    (I : ℕ → BitVec 32 → sProp 𝕄) (hbody : ∀ (k : Fin L.trips) acc, I k.val acc ⊢ run d i (body k acc) (I (k.val + 1))) :
    I 0 init ⊢ run d i (Scf.Loop.for L hok init body) fun acc => I n acc := by
  subst hn
  iintro H
  iapply (Scf.wp_for frame (wpE (defs₀ (F := F)) 𝒱₀ (thr d i) none) Set.univ L.lb L.ub L.st hok init body I hbody)
  isplitl [H]; · iexact H
  iintro %acc H; iexact H

theorem Tabs.imp (tabs : Fin 8 → TabRef) {Φ Ψ : Fin 8 → Vec F S1024 .i32 → Prop} (h : ∀ g f, Φ g f → Ψ g f) :
    Tabs d i tabs Φ ⊢ (Tabs d i tabs Ψ : sProp 𝕄) := by
  have hg : ∀ g, (iprop(∃ f, ⌜Φ g f⌝ ∗ Pt d i (tabs g) f) : sProp 𝕄) ⊢ iprop(∃ f, ⌜Ψ g f⌝ ∗ Pt d i (tabs g) f) := fun g => by
    iintro ⟨%f, %hf, H⟩
    iexists f; isplitr
    · ipureintro; exact h g f hf
    · iexact H
  exact bigSep_mono fun g _ => hg g

/-! ## Clearing -/

/-- The first `16 k` words are zero. -/
def ZeroTo (k : ℕ) (f : Vec F S1024 .i32) : Prop := ∀ x : S1024.Idx, (x 0).val < 16 * k → (f x : BitVec 32).toNat = 0

/-- An element of a table is in a sixteen-word rectangle or out of it. -/
theorem tab_rect {off : Fin 1 → ℕ} {inb : ∀ a, off a + S16.size a ≤ S1024.size a} {o : ℕ} (ho : ∀ a, off a = o) (x : S1024.Idx) :
    (∃ l : Fin 16, (x 0).val = o + l.val ∧ (Rect.unit (s := S1024) off S16.size inb).emb (lane l) = x)
      ∨ (((x 0).val < o ∨ o + 16 ≤ (x 0).val) ∧ ∀ y, (Rect.unit (s := S1024) off S16.size inb).emb y ≠ x) := by
  by_cases h : o ≤ (x 0).val ∧ (x 0).val < o + 16
  · refine .inl ⟨⟨(x 0).val - o, by omega⟩, by simp only; omega, ?_⟩
    funext a; rw [Fin.eq_zero a]
    refine Fin.ext ?_
    show off 0 + 1 * ((x 0).val - o) = (x 0).val
    rw [ho]; omega
  · refine .inr ⟨by omega, fun y hy => h ?_⟩
    have : off 0 + 1 * (y 0).val = (x 0).val := congrArg (fun z : S1024.Idx => (z 0).val) hy
    have hy16 : (y 0).val < 16 := (y 0).isLt
    rw [ho] at this
    omega

theorem ZeroTo.step {k : ℕ} {off : Fin 1 → ℕ} {inb : ∀ a, off a + S16.size a ≤ S1024.size a} (ho : ∀ a, off a = 16 * k) {f : Vec F S1024 .i32}
    (h : ZeroTo k f) : ZeroTo (k + 1) (putRect (Rect.unit (s := S1024) off S16.size inb) f (broadcast S16 0#32)) := fun x hx => by
  rcases tab_rect (inb := inb) ho x with ⟨l, hl, he⟩ | ⟨hl, hn⟩
  · rw [← he, putRect_emb]; rfl
  · rw [putRect_other _ _ _ hn]; exact h x (by omega)

theorem zero_loop (R : sProp 𝕄) (tabs : Fin 8 → TabRef) (L : Scf.Loop 32) (hok : L.OK) (init : BitVec 32)
    (body : Fin L.trips → BitVec 32 → TProg F i (BitVec 32)) (hn : L.trips = 64) (hb : ∀ (k : Fin L.trips) acc, IsZero i tabs k.val (body k acc)) :
    iprop(R ∗ Tabs d i tabs (fun _ _ => True)) ⊢ run d i (Scf.Loop.for L hok init body) fun _ => iprop(R ∗ Tabs d i tabs fun _ f => ZeroTo 64 f) := by
  refine (both (same R) (Tabs.imp d i tabs (Φ := fun _ _ => True) (Ψ := fun _ f => ZeroTo 0 f) fun _ f _ x hx => absurd hx (by omega))).trans
    (run_loop d i L hok init body 64 hn (fun k _ => iprop(R ∗ Tabs d i tabs fun _ f => ZeroTo k f)) fun k acc => ?_)
  obtain ⟨O, hO⟩ := hb k acc
  rw [hO]
  exact run_groups d i tabs (fun _ f => ZeroTo k.val f) (fun _ f => ZeroTo (k.val + 1) f) (fun g => zeroG (F := F) i (tabs g) O.off O.inb) (fun _ => R) fun g f hf => by
    iintro ⟨HR, H⟩
    iapply (wp_wand_r frame _ Set.univ)
    isplitl [H]
    · iapply (run_zeroG d i (tabs g) O.off O.inb f); iexact H
    · iintro %_ H
      isplitl [HR]; · iexact HR
      iexists _; isplitr
      swap
      · iexact H
      · ipureintro; exact hf.step O.eq

/-! ## Histogram -/

theorem hist_loop {e : EltTy} (src : RowRef e) (dg : Vec F S16 e → IVec S16 32) (dw : Elt F e → ℕ) (hdg : LaneDig dg dw) (fs : Vec F S4096 e)
    (tabs : Fin 8 → TabRef) (L : Scf.Loop 32) (hok : L.OK) (init : BitVec 32) (body : Fin L.trips → BitVec 32 → TProg F i (BitVec 32))
    (hn : L.trips = 32) (hb : ∀ (k : Fin L.trips) acc, IsHist i h1 src dg tabs k.val (body k acc)) :
    iprop(Pt d i src fs ∗ Tabs d i tabs fun _ f => ZeroTo 64 f) ⊢ run d i (Scf.Loop.for L hok init body) fun _ =>
      iprop(Pt d i src fs ∗ Tabs d i tabs fun g f => IsTab f (cntIn (digs dw fs) (512 * g.val) (512 * (g.val + 1)))) := by
  have h0 : Tabs d i tabs (fun _ f => ZeroTo 64 f) ⊢ (Tabs d i tabs (fun g f => IsTab f (cntIn (digs dw fs) (512 * g.val) (512 * g.val + 16 * 0))) : sProp 𝕄) :=
    Tabs.imp d i tabs fun g f hf x => by
      rw [hf x (x 0).isLt]
      exact (cntIn_self _ _ _).symm
  have h2 : Tabs d i tabs (fun g f => IsTab f (cntIn (digs dw fs) (512 * g.val) (512 * g.val + 16 * 32))) ⊢
      (Tabs d i tabs (fun g f => IsTab f (cntIn (digs dw fs) (512 * g.val) (512 * (g.val + 1)))) : sProp 𝕄) :=
    Tabs.imp d i tabs fun g f hf => by
      rw [show 512 * (g.val + 1) = 512 * g.val + 16 * 32 by omega]; exact hf
  refine (both (same _) h0).trans ((run_loop d i L hok init body 32 hn
    (fun k _ => iprop(Pt d i src fs ∗ Tabs d i tabs fun g f => IsTab f (cntIn (digs dw fs) (512 * g.val) (512 * g.val + 16 * k)))) fun k acc => ?_).trans
    (wp_mono frame _ _ fun _ => both (same _) h2))
  obtain ⟨O, hO⟩ := hb k acc
  rw [hO]
  have hk : k.val < 32 := by have := k.isLt; omega
  exact run_groups d i tabs (fun g f => IsTab f (cntIn (digs dw fs) (512 * g.val) (512 * g.val + 16 * k.val)))
      (fun g f => IsTab f (cntIn (digs dw fs) (512 * g.val) (512 * g.val + 16 * (k.val + 1))))
      (fun g => histG i h1 src dg (tabs g) (O.off g) (O.inb g)) (fun _ => Pt d i src fs) fun g f hf => by
    refine (run_histG d i h1 src dg (tabs g) (O.off g) (O.inb g) fs f (hdg.lt _)).trans (wp_mono frame _ _ fun _ => ?_)
    iintro ⟨Hs, %f', %hf', H⟩
    isplitl [Hs]; · iexact Hs
    iexists f'; isplitr
    swap
    · iexact H
    · ipureintro
      rw [show 512 * g.val + 16 * (k.val + 1) = 512 * g.val + 16 * k.val + 16 by omega]
      exact hf'.hist (hdg.carries fs (O.eq g)) (by omega) (by omega) hf

/-! ## Prefix -/

/-- The tables, their contents named. -/
def Tabs' (tabs : Fin 8 → TabRef) (fs : Fin 8 → Vec F S1024 .i32) : sProp 𝕄 := bigSep Finset.univ fun g : Fin 8 => Pt d i (tabs g) (fs g)

theorem Tabs.named (tabs : Fin 8 → TabRef) (Φ : Fin 8 → Vec F S1024 .i32 → Prop) :
    Tabs d i tabs Φ ⊢ (iprop(∃ fs, ⌜∀ g, Φ g (fs g)⌝ ∗ Tabs' d i tabs fs) : sProp 𝕄) := by
  refine (Idealize.SL.BI.bigSep_exists_pi Finset.univ fun (g : Fin 8) (f : Vec F S1024 .i32) => (iprop(⌜Φ g f⌝ ∗ Pt d i (tabs g) f) : sProp 𝕄)).trans ?_
  iintro ⟨%fs, H⟩
  iexists fs
  ihave H' := (Idealize.SL.BI.bigSep_pure_sep Finset.univ (fun g : Fin 8 => Φ g (fs g)) (fun g => Pt d i (tabs g) (fs g))) $$ H
  icases H' with ⟨%hp, H⟩
  isplitr
  · ipureintro; exact fun g => hp g (Finset.mem_univ g)
  · unfold Tabs'; iexact H

theorem Tabs'.close (tabs : Fin 8 → TabRef) (Φ : Fin 8 → Vec F S1024 .i32 → Prop) (fs : Fin 8 → Vec F S1024 .i32) (h : ∀ g, Φ g (fs g)) :
    Tabs' d i tabs fs ⊢ (Tabs d i tabs Φ : sProp 𝕄) := by
  have hg : ∀ g, (Pt d i (tabs g) (fs g) : sProp 𝕄) ⊢ iprop(∃ f, ⌜Φ g f⌝ ∗ Pt d i (tabs g) f) := fun g => by
    iintro H
    iexists fs g; isplitr
    · ipureintro; exact h g
    · iexact H
  exact bigSep_mono fun g _ => hg g

variable {α : Type}

/-- One table's sixteen words. -/
abbrev heads (off : Fin 1 → ℕ) (inb : ∀ a, off a + S16.size a ≤ S1024.size a) (f : Vec F S1024 .i32) : Vec F S16 .i32 :=
  lanesOf (s := S1024) off S16.size inb f

theorem run_ldT {Q : α → sProp 𝕄} (tabs : Fin 8 → TabRef) (fs : Fin 8 → Vec F S1024 .i32) (g : Fin 8) (off : Fin 1 → ℕ)
    (inb : ∀ a, off a + S16.size a ≤ S1024.size a) (k : Vec F S16 .i32 → TProg F i α) :
    Tabs' d i tabs fs ⊢ iprop((Tabs' d i tabs fs -∗ run d i (k (heads off inb (fs g))) Q) -∗ run d i (ldT i (tabs g) off inb >>= k) Q) := by
  unfold Tabs'
  rw [SparseCore.bigSep_erase' (Finset.mem_univ g)]
  unfold ldT
  iintro ⟨H, Hr⟩ Hk
  iapply (run_load d i) $$ H
  iintro H
  iapply Hk
  isplitl [H] <;> iassumption

/-- The tables after one's rectangle is stored. -/
def st1 (r : Rect S1024) (g : Fin 8) (w : r.shape.Idx → BitVec 32) (fs : Fin 8 → Vec F S1024 .i32) : Fin 8 → Vec F S1024 .i32 :=
  Function.update fs g (putRect r (fs g) w)
theorem st8 (r : Rect S1024) (w : Fin 8 → r.shape.Idx → BitVec 32) (fs : Fin 8 → Vec F S1024 .i32) :
    st1 r 7 (w 7) (st1 r 6 (w 6) (st1 r 5 (w 5) (st1 r 4 (w 4) (st1 r 3 (w 3) (st1 r 2 (w 2) (st1 r 1 (w 1) (st1 r 0 (w 0) fs)))))))
      = fun g => putRect r (fs g) (w g) := by
  funext g; fin_cases g <;> rfl

theorem run_stT {Q : α → sProp 𝕄} (tabs : Fin 8 → TabRef) (fs : Fin 8 → Vec F S1024 .i32) (g : Fin 8) (w : IVec S16 32) (off : Fin 1 → ℕ)
    (inb : ∀ a, off a + S16.size a ≤ S1024.size a) (k : PUnit → TProg F i α) :
    Tabs' d i tabs fs ⊢ iprop((Tabs' d i tabs (st1 (Rect.unit (s := S1024) off S16.size inb) g w fs) -∗ run d i (k ⟨⟩) Q)
      -∗ run d i (stT i (tabs g) w off inb >>= k) Q) := by
  unfold Tabs' st1
  rw [SparseCore.bigSep_erase' (Finset.mem_univ g), SparseCore.bigSep_erase' (Finset.mem_univ g)]
  have hr : (bigSep (Finset.univ.erase g) fun g' : Fin 8 =>
        (Pt d i (tabs g') (Function.update fs g (putRect (Rect.unit (s := S1024) off S16.size inb) (fs g) w) g') : sProp 𝕄))
      = bigSep (Finset.univ.erase g) fun g' : Fin 8 => Pt d i (tabs g') (fs g') :=
    bigSep_congr fun g' hg' => by rw [Function.update_of_ne (Finset.mem_erase.mp hg').1]
  rw [hr, Function.update_self]
  unfold stT
  rw [bind_assoc]
  iintro ⟨H, Hr⟩ Hk
  iapply (run_load d i) $$ H
  iintro H
  iapply (run_store d i) $$ H
  iintro H
  iapply Hk
  isplitl [H] <;> iassumption

theorem run_prefG (tabs : Fin 8 → TabRef) (fs : Fin 8 → Vec F S1024 .i32) (c : BitVec 32) (off : Fin 1 → ℕ)
    (inb : ∀ a, off a + S16.size a ≤ S1024.size a) :
    Tabs' d i tabs fs ⊢ run d i (prefG (F := F) i tabs c off inb) fun c' =>
      iprop(⌜c' = Scalar.addi c (extractAt ![15] (scan .sum (tot8 fun g => heads off inb (fs g))) inpos_S16_p15)⌝
        ∗ Tabs' d i tabs fun g => putRect (Rect.unit (s := S1024) off S16.size inb) (fs g) (given c (fun g => heads off inb (fs g)) g)) := by
  have he : ![heads off inb (fs 0), heads off inb (fs 1), heads off inb (fs 2), heads off inb (fs 3), heads off inb (fs 4), heads off inb (fs 5),
      heads off inb (fs 6), heads off inb (fs 7)] = fun g => heads off inb (fs g) := by
    funext g; fin_cases g <;> rfl
  unfold prefG
  iintro H
  iapply (run_ldT d i tabs fs 0) $$ H
  iintro H
  iapply (run_ldT d i tabs fs 1) $$ H
  iintro H
  iapply (run_ldT d i tabs fs 2) $$ H
  iintro H
  iapply (run_ldT d i tabs fs 3) $$ H
  iintro H
  iapply (run_ldT d i tabs fs 4) $$ H
  iintro H
  iapply (run_ldT d i tabs fs 5) $$ H
  iintro H
  iapply (run_ldT d i tabs fs 6) $$ H
  iintro H
  iapply (run_ldT d i tabs fs 7) $$ H
  iintro H
  rw [he]
  iapply (run_stT d i tabs _ 0) $$ H
  iintro H
  iapply (run_stT d i tabs _ 1) $$ H
  iintro H
  iapply (run_stT d i tabs _ 2) $$ H
  iintro H
  iapply (run_stT d i tabs _ 3) $$ H
  iintro H
  iapply (run_stT d i tabs _ 4) $$ H
  iintro H
  iapply (run_stT d i tabs _ 5) $$ H
  iintro H
  iapply (run_stT d i tabs _ 6) $$ H
  iintro H
  iapply (run_stT d i tabs _ 7) $$ H
  iintro H
  iapply (run_pure d i)
  isplitr
  · ipureintro; rfl
  · rw [← st8]
    iexact H

/-- The tables before word `16 k` as the permutation takes them, from there as the histogram left them. -/
def PrefTo (D : ℕ → ℕ) (k : ℕ) (g : Fin 8) (f : Vec F S1024 .i32) : Prop :=
  ∀ x : S1024.Idx, (f x : BitVec 32).toNat = if (x 0).val < 16 * k then nextOf D (512 * g.val) (x 0).val else cntIn D (512 * g.val) (512 * (g.val + 1)) (x 0).val

theorem PrefTo.heads {D : ℕ → ℕ} {k : ℕ} {fs : Fin 8 → Vec F S1024 .i32} (h : ∀ g, PrefTo D k g (fs g)) {off : Fin 1 → ℕ}
    {inb : ∀ a, off a + S16.size a ≤ S1024.size a} (ho : ∀ a, off a = 16 * k) : Heads D (16 * k) fun g => Radix.heads off inb (fs g) := fun g l => by
  refine (h g _).trans ?_
  have hx : ((Rect.unit (s := S1024) off S16.size inb).emb (lane l) 0).val = 16 * k + l.val := by
    show off 0 + 1 * l.val = _
    rw [ho, Nat.one_mul]
  rw [hx, if_neg (by omega)]

theorem PrefTo.step {D : ℕ → ℕ} {k : ℕ} {fs : Fin 8 → Vec F S1024 .i32} (h : ∀ g, PrefTo D k g (fs g)) {off : Fin 1 → ℕ}
    {inb : ∀ a, off a + S16.size a ≤ S1024.size a} (ho : ∀ a, off a = 16 * k) {c : BitVec 32} (hc : c.toNat = below D (16 * k)) (g : Fin 8) :
    PrefTo D (k + 1) g (putRect (Rect.unit (s := S1024) off S16.size inb) (fs g) (given c (fun g => Radix.heads off inb (fs g)) g)) := fun x => by
  rcases tab_rect (inb := inb) ho x with ⟨l, hl, he⟩ | ⟨hl, hn⟩
  · have hg := (PrefTo.heads h (inb := inb) ho).given hc g l
    rw [if_pos (by omega), hl, ← hg, ← he, putRect_emb]
  · rw [putRect_other _ _ _ hn, h g x]
    by_cases hlt : (x 0).val < 16 * k
    · rw [if_pos hlt, if_pos (by omega)]
    · rw [if_neg hlt, if_neg (by omega)]

theorem pref_loop (D : ℕ → ℕ) (tabs : Fin 8 → TabRef) (L : Scf.Loop 32) (hok : L.OK) (body : Fin L.trips → BitVec 32 → TProg F i (BitVec 32))
    (hn : L.trips = 64) (hb : ∀ k : Fin L.trips, IsPref i tabs k.val (body k)) :
    Tabs d i tabs (fun g f => IsTab f (cntIn D (512 * g.val) (512 * (g.val + 1)))) ⊢ run d i (Scf.Loop.for L hok 0#32 body) fun _ =>
      Tabs d i tabs fun g f => IsTab f (nextOf D (512 * g.val)) := by
  have h0 : Tabs d i tabs (fun g f => IsTab f (cntIn D (512 * g.val) (512 * (g.val + 1)))) ⊢
      (iprop(⌜(0#32 : BitVec 32).toNat = below D (16 * 0)⌝ ∗ Tabs d i tabs (fun g f => PrefTo D 0 g f)) : sProp 𝕄) := by
    iintro H
    isplitr
    · ipureintro; exact (below_zero D).symm
    · iapply (Tabs.imp d i tabs (Φ := fun g f => IsTab f (cntIn D (512 * g.val) (512 * (g.val + 1)))) (Ψ := fun g f => PrefTo D 0 g f)
        fun g f hf x => by rw [if_neg (by omega)]; exact hf x); iexact H
  have h2 : ∀ c : BitVec 32, iprop(⌜c.toNat = below D (16 * 64)⌝ ∗ Tabs d i tabs (fun g f => PrefTo D 64 g f)) ⊢
      (Tabs d i tabs (fun g f => IsTab f (nextOf D (512 * g.val))) : sProp 𝕄) := fun c => by
    iintro ⟨_, H⟩
    iapply (Tabs.imp d i tabs (Φ := fun g f => PrefTo D 64 g f) (Ψ := fun g f => IsTab f (nextOf D (512 * g.val)))
      fun g f hf x => by rw [hf x, if_pos (show (x 0).val < 16 * 64 from (x 0).isLt)]); iexact H
  refine h0.trans ((run_loop d i L hok 0#32 body 64 hn
    (fun k c => iprop(⌜c.toNat = below D (16 * k)⌝ ∗ Tabs d i tabs fun g f => PrefTo D k g f)) fun k c => ?_).trans (wp_mono frame _ _ h2))
  obtain ⟨O, hO⟩ := hb k
  rw [hO c]
  iintro ⟨%hc, H⟩
  ihave H := (Tabs.named d i tabs _) $$ H
  icases H with ⟨%fs, %hfs, H⟩
  iapply (wp_wand_r frame _ Set.univ)
  isplitl [H]
  · iapply (run_prefG d i tabs fs c O.off O.inb); iexact H
  · iintro %c' ⟨%hc', H⟩
    isplitr
    · ipureintro
      rw [hc', (PrefTo.heads hfs O.eq).carry hc, Nat.mul_succ]
    · iapply (Tabs'.close d i tabs _ _ (PrefTo.step hfs O.eq hc)); iexact H

/-! ## Permutation -/

/-- Every position has reached its place. -/
abbrev Moved {α : Type} (D : ℕ → ℕ) (val : ℕ → α) (f : S4096.Idx → α) : Prop := Put D (fun _ => True) val f

/-- A destination row whose positions satisfying `P` have arrived. -/
def PtPut {e : EltTy} (m : RowRef e) (D : ℕ → ℕ) (P : ℕ → Prop) (val : ℕ → Elt F e) : sProp 𝕄 :=
  iprop(∃ f, ⌜Put D P val f⌝ ∗ Pt d i m f)

theorem PtPut.imp {e : EltTy} (m : RowRef e) {D : ℕ → ℕ} {P P' : ℕ → Prop} {val : ℕ → Elt F e} (h : ∀ j < 4096, P' j → P j) :
    PtPut d i m D P val ⊢ (PtPut d i m D P' val : sProp 𝕄) := by
  unfold PtPut
  iintro ⟨%f, %hf, H⟩
  iexists f; isplitr
  · ipureintro; exact fun j hj hp => hf j hj (h j hj hp)
  · iexact H

theorem PtPut.start {e : EltTy} (m : RowRef e) (D : ℕ → ℕ) (val : ℕ → Elt F e) (f : Vec F S4096 e) :
    Pt d i m f ⊢ (PtPut d i m D (done 0 0) val : sProp 𝕄) := by
  unfold PtPut
  iintro H
  iexists f; isplitr
  · ipureintro; exact Put.none fun j _ h => by unfold done at h; omega
  · iexact H

/-- The two permutation loops at once: from one group's step, whatever the step reads beside the table. -/
theorem perm_loop {e : EltTy} (R : sProp 𝕄) (dstK : RowRef e) (dstV : RowRef .i32) (D : ℕ → ℕ) (vK : ℕ → Elt F e) (vV : ℕ → Elt F .i32)
    (tabs : Fin 8 → TabRef) (L : Scf.Loop 32) (hok : L.OK) (init : BitVec 32) (body : Fin L.trips → BitVec 32 → TProg F i (BitVec 32))
    (hn : L.trips = 32)
    (hb : ∀ (k : Fin L.trips) acc, ∃ G : Fin 8 → TProg F i PUnit, body k acc = seq8 i G ∧ ∀ g f fK fV, IsTab f (nextOf D (512 * g.val + 16 * k.val)) →
      ∃ (dv : IVec S16 32) (hd : ∀ x, (dv x).toNat < 1024) (kv : Vec F S16 e) (vv : IVec S16 32), Carries D (512 * g.val + 16 * k.val) dv
        ∧ (∀ l : Fin 16, kv (lane l) = vK (512 * g.val + 16 * k.val + l.val)) ∧ (∀ l : Fin 16, vv (lane l) = vV (512 * g.val + 16 * k.val + l.val))
        ∧ ((∀ x, (places dv f hd x).toNat < 4096) → iprop(R ∗ Pt d i (tabs g) f ∗ Pt d i dstK fK ∗ Pt d i dstV fV) ⊢ run d i (G g) fun _ =>
          iprop(R ∗ (∃ ft', ⌜Adv f dv ft'⌝ ∗ Pt d i (tabs g) ft')
            ∗ (∃ fK', ⌜Scat fK (places dv f hd) kv fK'⌝ ∗ Pt d i dstK fK')
            ∗ (∃ fV', ⌜Scat fV (places dv f hd) vv fV'⌝ ∗ Pt d i dstV fV')))) (fK : Vec F S4096 e) (fV : Vec F S4096 .i32) :
    iprop((R ∗ Pt d i dstK fK ∗ Pt d i dstV fV) ∗ Tabs d i tabs fun g f => IsTab f (nextOf D (512 * g.val))) ⊢ run d i (Scf.Loop.for L hok init body) fun _ =>
      iprop((R ∗ PtPut d i dstK D (fun _ => True) vK ∗ PtPut d i dstV D (fun _ => True) vV) ∗ Tabs d i tabs fun _ _ => True) := by
  have h0 : iprop((R ∗ Pt d i dstK fK ∗ Pt d i dstV fV) ∗ Tabs d i tabs fun g f => IsTab f (nextOf D (512 * g.val))) ⊢
      iprop((R ∗ PtPut d i dstK D (done 0 0) vK ∗ PtPut d i dstV D (done 0 0) vV) ∗ Tabs d i tabs fun g f => IsTab f (nextOf D (512 * g.val + 16 * 0))) :=
    both (both (same _) (both (PtPut.start d i dstK D vK fK) (PtPut.start d i dstV D vV fV))) (same _)
  have h2 : iprop((R ∗ PtPut d i dstK D (done 32 0) vK ∗ PtPut d i dstV D (done 32 0) vV) ∗ Tabs d i tabs fun g f => IsTab f (nextOf D (512 * g.val + 16 * 32))) ⊢
      iprop((R ∗ PtPut d i dstK D (fun _ => True) vK ∗ PtPut d i dstV D (fun _ => True) vV) ∗ Tabs d i tabs fun _ _ => True) := by
    have hd : ∀ j < 4096, True → done 32 0 j := fun j hj _ => .inl (by omega)
    exact both (both (same _) (both (PtPut.imp d i dstK hd) (PtPut.imp d i dstV hd))) (Tabs.imp d i tabs fun _ _ _ => trivial)
  refine h0.trans ((run_loop d i L hok init body 32 hn
    (fun k _ => iprop((R ∗ PtPut d i dstK D (done k 0) vK ∗ PtPut d i dstV D (done k 0) vV) ∗ Tabs d i tabs fun g f => IsTab f (nextOf D (512 * g.val + 16 * k))))
    fun k acc => ?_).trans (wp_mono frame _ _ fun _ => h2))
  have hk : k.val < 32 := by have := k.isLt; omega
  obtain ⟨G, hG, hs⟩ := hb k acc
  rw [hG]
  have hd : ∀ j < 4096, done (k.val + 1) 0 j → done k.val 8 j := fun j hj h => (done_trip h).resolve_right (by omega)
  refine (run_groups d i tabs (fun g f => IsTab f (nextOf D (512 * g.val + 16 * k.val))) (fun g f => IsTab f (nextOf D (512 * g.val + 16 * (k.val + 1))))
    G (fun n => iprop(R ∗ PtPut d i dstK D (done k.val n) vK ∗ PtPut d i dstV D (done k.val n) vV)) fun g f hf => ?_).trans
    (wp_mono frame _ _ fun _ => both (both (same _) (both (PtPut.imp d i dstK hd) (PtPut.imp d i dstV hd))) (same _))
  unfold PtPut
  iintro ⟨⟨HR, ⟨%fK, %hK, HK⟩, ⟨%fV, %hV, HV⟩⟩, Ht⟩
  obtain ⟨dv, hdv, kv, vv, hc, hkv, hvv, hrun⟩ := hs g f fK fV hf
  have ho : 512 * g.val + 16 * k.val + 16 ≤ 4096 := by have := g.isLt; omega
  have hr := places_rank hdv hc ho hf
  have hp : ∀ x, (places dv f hdv x).toNat < 4096 := fun x => by
    have e := hr (x 0)
    rw [lane_eta x] at e
    rw [e]; exact rank_lt D (by have : (x 0).val < 16 := (x 0).isLt; omega)
  iapply (wp_wand_r frame _ Set.univ)
  isplitl [HR HK HV Ht]
  · iapply (hrun hp)
    isplitl [HR]; · iexact HR
    isplitl [Ht]; · iexact Ht
    isplitl [HK] <;> iassumption
  · iintro %_ ⟨HR, ⟨%ft', %hft', Ht⟩, ⟨%fK', %hK', HK⟩, ⟨%fV', %hV', HV⟩⟩
    have hdn : ∀ j < 4096, done k.val (g.val + 1) j → done k.val g.val j ∨ (512 * g.val + 16 * k.val ≤ j ∧ j < 512 * g.val + 16 * k.val + 16) :=
      fun j hj h => done_step hj h
    isplitl [HR HK HV]
    · isplitl [HR]; · iexact HR
      isplitl [HK]
      · iexists fK'; isplitr
        · ipureintro; exact hK'.put ho hr hkv hK hdn
        · iexact HK
      · iexists fV'; isplitr
        · ipureintro; exact hV'.put ho hr hvv hV hdn
        · iexact HV
    · iexists ft'; isplitr
      · ipureintro
        rw [show 512 * g.val + 16 * (k.val + 1) = 512 * g.val + 16 * k.val + 16 by omega]
        exact hft'.next hc ho hf
      · iexact Ht

theorem lanesAt_apply {w : BitVec 32} {o : ℕ} (hw : w.toNat = o) (ho : o + 16 ≤ 4096) (l : Fin 16) : lanesAt w (lane l) = BitVec.ofNat 32 (o + l.val) := by
  refine BitVec.eq_of_toNat_eq ?_
  show (BitVec.ofNat 32 _ + w : BitVec 32).toNat = _
  rw [BitVec.toNat_add, BitVec.toNat_ofNat, BitVec.toNat_ofNat, hw]
  have e : (List.foldl (fun n a => n * S16.size a + (lane l a).val) 0 [0]) = l.val := by show 0 * 16 + l.val = _; omega
  rw [e]
  omega

/-- The first pass's permutation. -/
theorem permA_loop (src : RowRef .f32) (dstK dstV : RowRef .i32) (fs : Vec F S4096 .f32) (dw : Elt F .f32 → ℕ) (hdg : LaneDig (F := F) (e := .f32) (fun v => digit 0#32 (keyF v)) dw)
    (kw : Elt F .f32 → BitVec 32) (hkw : ∀ v l, keyF v (lane l) = kw (v (lane l)))
    (tabs : Fin 8 → TabRef) (L : Scf.Loop 32) (hok : L.OK) (init : BitVec 32) (body : Fin L.trips → BitVec 32 → TProg F i (BitVec 32))
    (hn : L.trips = 32) (hb : ∀ (k : Fin L.trips) acc, IsPermA i h1 src dstK dstV tabs k.val (body k acc)) (fK fV : Vec F S4096 .i32) :
    iprop((Pt d i src fs ∗ Pt d i dstK fK ∗ Pt d i dstV fV) ∗ Tabs d i tabs fun g f => IsTab f (nextOf (digs dw fs) (512 * g.val)))
      ⊢ run d i (Scf.Loop.for L hok init body) fun _ =>
      iprop((Pt d i src fs ∗ PtPut d i dstK (digs dw fs) (fun _ => True) (fun j => kw (rowAt fs j))
        ∗ PtPut d i dstV (digs dw fs) (fun _ => True) (fun j => BitVec.ofNat 32 j)) ∗ Tabs d i tabs fun _ _ => True) := by
  refine perm_loop d i (Pt d i src fs) dstK dstV (digs dw fs) _ _ tabs L hok init body hn (fun k acc => ?_) fK fV
  have hk : k.val < 32 := by have := k.isLt; omega
  obtain ⟨O, w, hw, hO⟩ := hb k acc
  refine ⟨_, hO, fun g f fK fV hf => ⟨_, hdg.lt _, _, _, hdg.carries fs (O.eq g), fun l => ?_, fun l => ?_,
    fun hp => run_permA d i h1 src dstK dstV (w g) (tabs g) (O.off g) (O.inb g) fs f fK fV (hdg.lt _) hp⟩⟩
  · rw [hkw, lanesOf_row fs (O.eq g)]
  · exact lanesAt_apply (hw g) (by have := g.isLt; omega) l

/-- A later pass's permutation. -/
theorem permB_loop {e : EltTy} (srcK srcV : RowRef .i32) (dstK : RowRef e) (dstV : RowRef .i32) (sh : BitVec 32) (kf : IVec S16 32 → Vec F S16 e)
    (he : e.bits = 32) (fs fv : Vec F S4096 .i32) (dw : Elt F .i32 → ℕ) (hdg : LaneDig (F := F) (e := .i32) (fun v => digit sh v) dw)
    (kw : BitVec 32 → Elt F e) (hkw : ∀ v l, kf v (lane l) = kw (v (lane l)))
    (tabs : Fin 8 → TabRef) (L : Scf.Loop 32) (hok : L.OK) (init : BitVec 32) (body : Fin L.trips → BitVec 32 → TProg F i (BitVec 32))
    (hn : L.trips = 32) (hb : ∀ (k : Fin L.trips) acc, IsPermB i h1 srcK srcV dstK dstV sh kf he tabs k.val (body k acc)) (fK : Vec F S4096 e) (fV : Vec F S4096 .i32) :
    iprop(((Pt d i srcK fs ∗ Pt d i srcV fv) ∗ Pt d i dstK fK ∗ Pt d i dstV fV) ∗ Tabs d i tabs fun g f => IsTab f (nextOf (digs dw fs) (512 * g.val)))
      ⊢ run d i (Scf.Loop.for L hok init body) fun _ =>
      iprop(((Pt d i srcK fs ∗ Pt d i srcV fv) ∗ PtPut d i dstK (digs dw fs) (fun _ => True) (fun j => kw (rowAt fs j))
        ∗ PtPut d i dstV (digs dw fs) (fun _ => True) (fun j => rowAt fv j)) ∗ Tabs d i tabs fun _ _ => True) := by
  refine perm_loop d i iprop(Pt d i srcK fs ∗ Pt d i srcV fv) dstK dstV (digs dw fs) _ _ tabs L hok init body hn (fun k acc => ?_) fK fV
  obtain ⟨O, hO⟩ := hb k acc
  refine ⟨_, hO, fun g f fK fV hf => ⟨_, hdg.lt _, _, _, hdg.carries fs (O.eq g), fun l => ?_, fun l => lanesOf_row fv (O.eq g) l,
    fun hp => run_permB d i h1 srcK srcV dstK dstV sh kf he (tabs g) (O.off g) (O.inb g) fs fv f fK fV (hdg.lt _) hp⟩⟩
  · rw [hkw, lanesOf_row fs (O.eq g)]

end Cert.Proof.Radix
-- ==== Proof.Words.lean ====
/-
  The sort's words: the word a probability is sorted by, its three ten-bit digits, and what the three passes together
  leave — every position's probability and number at its final place.
-/
module

public import proofs.«01_k».proof.Proof.Trips

@[expose] public section

noncomputable section

namespace Cert.Proof.Radix

open Cert.Sort Cert.Sort.Gen
open Idealize.ShloMosaic Idealize.SL.Sem

variable {F : FTy → Type} [BitOps F]

/-- The word a probability is sorted by, the probability made back of a word, and a word's digit. -/
def keyW (y : Elt F .f32) : BitVec 32 := keyF (fun _ => y) (lane 0)
def unkeyW (w : BitVec 32) : Elt F .f32 := unkeyF (F := F) (fun _ => w) (lane 0)
def digW (sh w : BitVec 32) : ℕ := (digit sh (fun _ => w) (lane 0)).toNat

theorem unkeyF_lane (v : IVec S16 32) (l : Fin 16) : unkeyF (F := F) v (lane l) = unkeyW (v (lane l)) := rfl
theorem keyF_lane (v : Vec F S16 .f32) (l : Fin 16) : keyF v (lane l) = keyW (v (lane l)) := rfl

theorem digW_eq (q : ℕ) (hq : q < 3) (w : BitVec 32) : digW (BitVec.ofNat 32 (10 * q)) w = dig q w.toNat := by
  have e : (1023 : ℕ) = 2 ^ 10 - 1 := rfl
  have h : digW (BitVec.ofNat 32 (10 * q)) w = (w >>> (10 * q)).toNat &&& 1023 := by
    match q, hq with
    | 0, _ => rfl
    | 1, _ => rfl
    | 2, _ => rfl
  rw [h, e, Nat.and_two_pow_sub_one_eq_mod, BitVec.toNat_ushiftRight, Nat.shiftRight_eq_div_pow]
  unfold dig
  rw [Nat.pow_mul]

theorem digW_lt (q : ℕ) (hq : q < 3) (w : BitVec 32) : digW (BitVec.ofNat 32 (10 * q)) w < 1024 := by
  rw [digW_eq q hq]; exact Nat.mod_lt _ (by decide)

theorem laneDig0 : LaneDig (F := F) (e := .f32) (fun v => digit 0#32 (keyF v)) fun y => digW 0#32 (keyW y) :=
  ⟨fun _ _ => rfl, fun y => digW_lt 0 (by decide) (keyW y)⟩
theorem laneDig1 : LaneDig (F := F) (e := .i32) (fun v => digit 10#32 v) (digW 10#32) := ⟨fun _ _ => rfl, digW_lt 1 (by decide)⟩
theorem laneDig2 : LaneDig (F := F) (e := .i32) (fun v => digit 20#32 v) (digW 20#32) := ⟨fun _ _ => rfl, digW_lt 2 (by decide)⟩

theorem Put.rowAt {α : Type} {D : ℕ → ℕ} {val : ℕ → α} {f : S4096.Idx → α} (h : Put D (fun _ => True) val f) {j : ℕ} (hj : j < 4096) :
    rowAt f (rank D j) = val j :=
  h j hj trivial _ (Nat.mod_eq_of_lt (rank_lt D hj))

/-- What the sort leaves of a row `a`: at every position's final place its probability, through its word and back, and
    its number. -/
def Sorted (a v : ℕ → Elt F .f32) (p : ℕ → BitVec 32) : Prop :=
  ∃ D1 D2 D3, Passes (fun j => (keyW (a j)).toNat) D1 D2 D3 ∧ ∀ j < 4096,
    v (place3 D1 D2 D3 j) = unkeyW (keyW (a j)) ∧ p (place3 D1 D2 D3 j) = BitVec.ofNat 32 j

/-- Three passes sort. -/
theorem sorted_of (f0 f3 : Vec F S4096 .f32) (k1 k2 i1 i2 i3 : Vec F S4096 .i32)
    (hk1 : Put (digs (fun y => digW 0#32 (keyW y)) f0) (fun _ => True) (fun j => keyW (rowAt f0 j)) k1)
    (hi1 : Put (digs (fun y => digW 0#32 (keyW y)) f0) (fun _ => True) (fun j => BitVec.ofNat 32 j) i1)
    (hk2 : Put (digs (digW 10#32) k1) (fun _ => True) (fun j => rowAt k1 j) k2)
    (hi2 : Put (digs (digW 10#32) k1) (fun _ => True) (fun j => rowAt i1 j) i2)
    (hf3 : Put (digs (digW 20#32) k2) (fun _ => True) (fun j => unkeyW (F := F) (rowAt k2 j)) f3)
    (hi3 : Put (digs (digW 20#32) k2) (fun _ => True) (fun j => rowAt i2 j) i3) :
    Sorted (rowAt f0) (rowAt f3) (rowAt i3) := by
  refine ⟨digs (fun y => digW 0#32 (keyW y)) f0, digs (digW 10#32) k1, digs (digW 20#32) k2, ⟨fun j _ => digW_eq 0 (by decide) _, fun j hj => ?_, fun j hj => ?_⟩, fun j hj => ?_⟩
  · show digW 10#32 (rowAt k1 _) = _
    rw [hk1.rowAt hj]; exact digW_eq 1 (by decide) _
  · show digW 20#32 (rowAt k2 _) = _
    rw [hk2.rowAt (rank_lt _ hj), hk1.rowAt hj]; exact digW_eq 2 (by decide) _
  · have h1 := rank_lt (digs (fun y => digW 0#32 (keyW y)) f0) hj
    have h2 := rank_lt (digs (digW 10#32) k1) h1
    unfold place3
    exact ⟨by rw [hf3.rowAt h2, hk2.rowAt h1, hk1.rowAt hj], by rw [hi3.rowAt h2, hi2.rowAt h1, hi1.rowAt hj]⟩

end Cert.Proof.Radix
-- ==== Proof.Pass0.lean ====
/- The printed loop bodies of pass 0, each shown to be its eight steps (Proof/Shape.lean). -/
module

public import proofs.«01_k».proof.Proof.Shape

@[expose] public section

noncomputable section

namespace Cert.Proof.Radix

open Cert.Sort Cert.Sort.Gen
open Idealize.ShloMosaic Idealize.SL.Sem

variable {F : FTy → Type} [BitOps F]

section
variable (i : grid0.Coords) (k0_h1 : k0_cond1 i = 1#1)

def offs_t1 (k : Fin k0_t1_loop.trips) : OffT k.val where
  off := k0_off2 k
  inb := k0_off2_inb i k k0_h1
  eq := fun a => by rw [Fin.eq_zero a, k0_off2_eq]; simp

def offs_t2 (k : Fin k0_t2_loop.trips) : Offs k.val where
  off := ![k0_off3 k, k0_off4 k, k0_off5 k, k0_off6 k, k0_off7 k, k0_off8 k, k0_off9 k, k0_off10 k]
  inb := fun g => by
    match g with
    | 0 => exact k0_off3_inb i k k0_h1
    | 1 => exact k0_off4_inb i k k0_h1
    | 2 => exact k0_off5_inb i k k0_h1
    | 3 => exact k0_off6_inb i k k0_h1
    | 4 => exact k0_off7_inb i k k0_h1
    | 5 => exact k0_off8_inb i k k0_h1
    | 6 => exact k0_off9_inb i k k0_h1
    | 7 => exact k0_off10_inb i k k0_h1
  eq := fun g a => by
    rw [Fin.eq_zero a]
    match g with
    | 0 => show k0_off3 k 0 = _; rw [k0_off3_eq]; show _ = 512 * 0 + 16 * k.val; simp; try omega
    | 1 => show k0_off4 k 0 = _; rw [k0_off4_eq]; show _ = 512 * 1 + 16 * k.val; simp; try omega
    | 2 => show k0_off5 k 0 = _; rw [k0_off5_eq]; show _ = 512 * 2 + 16 * k.val; simp; try omega
    | 3 => show k0_off6 k 0 = _; rw [k0_off6_eq]; show _ = 512 * 3 + 16 * k.val; simp; try omega
    | 4 => show k0_off7 k 0 = _; rw [k0_off7_eq]; show _ = 512 * 4 + 16 * k.val; simp; try omega
    | 5 => show k0_off8 k 0 = _; rw [k0_off8_eq]; show _ = 512 * 5 + 16 * k.val; simp; try omega
    | 6 => show k0_off9 k 0 = _; rw [k0_off9_eq]; show _ = 512 * 6 + 16 * k.val; simp; try omega
    | 7 => show k0_off10 k 0 = _; rw [k0_off10_eq]; show _ = 512 * 7 + 16 * k.val; simp; try omega

def offs_t3 (k : Fin k0_t3_loop.trips) : OffT k.val where
  off := k0_off11 k
  inb := k0_off11_inb i k k0_h1
  eq := fun a => by rw [Fin.eq_zero a, k0_off11_eq]; simp

def offs_t4 (k : Fin k0_t4_loop.trips) : Offs k.val where
  off := ![k0_off12 k, k0_off13 k, k0_off14 k, k0_off15 k, k0_off16 k, k0_off17 k, k0_off18 k, k0_off19 k]
  inb := fun g => by
    match g with
    | 0 => exact k0_off12_inb i k k0_h1
    | 1 => exact k0_off13_inb i k k0_h1
    | 2 => exact k0_off14_inb i k k0_h1
    | 3 => exact k0_off15_inb i k k0_h1
    | 4 => exact k0_off16_inb i k k0_h1
    | 5 => exact k0_off17_inb i k k0_h1
    | 6 => exact k0_off18_inb i k k0_h1
    | 7 => exact k0_off19_inb i k k0_h1
  eq := fun g a => by
    rw [Fin.eq_zero a]
    match g with
    | 0 => show k0_off12 k 0 = _; rw [k0_off12_eq]; show _ = 512 * 0 + 16 * k.val; simp; try omega
    | 1 => show k0_off13 k 0 = _; rw [k0_off13_eq]; show _ = 512 * 1 + 16 * k.val; simp; try omega
    | 2 => show k0_off14 k 0 = _; rw [k0_off14_eq]; show _ = 512 * 2 + 16 * k.val; simp; try omega
    | 3 => show k0_off15 k 0 = _; rw [k0_off15_eq]; show _ = 512 * 3 + 16 * k.val; simp; try omega
    | 4 => show k0_off16 k 0 = _; rw [k0_off16_eq]; show _ = 512 * 4 + 16 * k.val; simp; try omega
    | 5 => show k0_off17 k 0 = _; rw [k0_off17_eq]; show _ = 512 * 5 + 16 * k.val; simp; try omega
    | 6 => show k0_off18 k 0 = _; rw [k0_off18_eq]; show _ = 512 * 6 + 16 * k.val; simp; try omega
    | 7 => show k0_off19 k 0 = _; rw [k0_off19_eq]; show _ = 512 * 7 + 16 * k.val; simp; try omega

end

variable (i : grid0.Coords) (arg2 : Memref sig .scVector .hbm S16384 .f32) (harg2 : arg2.IsWhole) (arg3 : Memref sig .scVector .hbm S16384 .f32) (harg3 : arg3.IsWhole) (arg4 : Memref sig .scVector .hbm S16384 .i32) (harg4 : arg4.IsWhole) (arg5 : Memref sig .scVector .vmem S4096 .f32) (harg5 : arg5.IsWhole) (arg6 : Memref sig .scVector .vmem S4096 .i32) (harg6 : arg6.IsWhole) (arg7 : Memref sig .scVector .vmem S4096 .i32) (harg7 : arg7.IsWhole) (arg8 : Memref sig .scVector .vmem S4096 .i32) (harg8 : arg8.IsWhole) (arg9 : Memref sig .scVector .vmem S4096 .i32) (harg9 : arg9.IsWhole) (arg10 : Memref sig .scVector .vmem S1024 .i32) (harg10 : arg10.IsWhole) (arg11 : Memref sig .scVector .vmem S1024 .i32) (harg11 : arg11.IsWhole) (arg12 : Memref sig .scVector .vmem S1024 .i32) (harg12 : arg12.IsWhole) (arg13 : Memref sig .scVector .vmem S1024 .i32) (harg13 : arg13.IsWhole) (arg14 : Memref sig .scVector .vmem S1024 .i32) (harg14 : arg14.IsWhole) (arg15 : Memref sig .scVector .vmem S1024 .i32) (harg15 : arg15.IsWhole) (arg16 : Memref sig .scVector .vmem S1024 .i32) (harg16 : arg16.IsWhole) (arg17 : Memref sig .scVector .vmem S1024 .i32) (harg17 : arg17.IsWhole) (v31_r0 : DmaSems sig S_) (v31_r1 : DmaSems sig S_) (v31_r2 : DmaSems sig S_) (v1 : BitVec 32) (k0_h1 : k0_cond1 i = 1#1)

set_option maxRecDepth 65536 in
set_option maxHeartbeats 8000000 in
theorem t1_shape (k : Fin k0_t1_loop.trips) (acc : BitVec 32) :
    IsZero i ![arg10, arg11, arg12, arg13, arg14, arg15, arg16, arg17] k.val (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 v1 k0_h1 k acc) :=
  ⟨offs_t1 i k0_h1 k, rfl⟩

set_option maxRecDepth 65536 in
set_option maxHeartbeats 8000000 in
theorem t2_shape (k : Fin k0_t2_loop.trips) (acc : BitVec 32) :
    IsHist i k0_h1 arg5 (fun v => digit 0#32 (keyF v)) ![arg10, arg11, arg12, arg13, arg14, arg15, arg16, arg17] k.val (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 v1 k0_h1 k acc) :=
  ⟨offs_t2 i k0_h1 k, rfl⟩

set_option maxRecDepth 65536 in
set_option maxHeartbeats 8000000 in
theorem t3_shape (k : Fin k0_t3_loop.trips) :
    IsPref i ![arg10, arg11, arg12, arg13, arg14, arg15, arg16, arg17] k.val (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 v1 k0_h1 k) :=
  ⟨offs_t3 i k0_h1 k, fun _ => rfl⟩

theorem w_t4 : ∀ (k : Fin k0_t4_loop.trips) (g : Fin 8), ((![Scalar.muli (Scalar.addi 0#32 (Scf.iv 0#32 1#32 k)) 16#32, Scalar.muli (Scalar.addi 32#32 (Scf.iv 0#32 1#32 k)) 16#32, Scalar.muli (Scalar.addi 64#32 (Scf.iv 0#32 1#32 k)) 16#32, Scalar.muli (Scalar.addi 96#32 (Scf.iv 0#32 1#32 k)) 16#32, Scalar.muli (Scalar.addi 128#32 (Scf.iv 0#32 1#32 k)) 16#32, Scalar.muli (Scalar.addi 160#32 (Scf.iv 0#32 1#32 k)) 16#32, Scalar.muli (Scalar.addi 192#32 (Scf.iv 0#32 1#32 k)) 16#32, Scalar.muli (Scalar.addi 224#32 (Scf.iv 0#32 1#32 k)) 16#32] : Fin 8 → BitVec 32) g).toNat = 512 * g.val + 16 * k.val := by
  decide +kernel

set_option maxRecDepth 65536 in
set_option maxHeartbeats 8000000 in
theorem t4_shape (k : Fin k0_t4_loop.trips) (acc : BitVec 32) :
    IsPermA i k0_h1 arg5 arg6 arg7 ![arg10, arg11, arg12, arg13, arg14, arg15, arg16, arg17] k.val (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 v1 k0_h1 k acc) :=
  ⟨offs_t4 i k0_h1 k, ![Scalar.muli (Scalar.addi 0#32 (Scf.iv 0#32 1#32 k)) 16#32, Scalar.muli (Scalar.addi 32#32 (Scf.iv 0#32 1#32 k)) 16#32, Scalar.muli (Scalar.addi 64#32 (Scf.iv 0#32 1#32 k)) 16#32, Scalar.muli (Scalar.addi 96#32 (Scf.iv 0#32 1#32 k)) 16#32, Scalar.muli (Scalar.addi 128#32 (Scf.iv 0#32 1#32 k)) 16#32, Scalar.muli (Scalar.addi 160#32 (Scf.iv 0#32 1#32 k)) 16#32, Scalar.muli (Scalar.addi 192#32 (Scf.iv 0#32 1#32 k)) 16#32, Scalar.muli (Scalar.addi 224#32 (Scf.iv 0#32 1#32 k)) 16#32], w_t4 k, rfl⟩

end Cert.Proof.Radix
-- ==== Proof.Pass1.lean ====
/- The printed loop bodies of pass 1, each shown to be its eight steps (Proof/Shape.lean). -/
module

public import proofs.«01_k».proof.Proof.Shape

@[expose] public section

noncomputable section

namespace Cert.Proof.Radix

open Cert.Sort Cert.Sort.Gen
open Idealize.ShloMosaic Idealize.SL.Sem

variable {F : FTy → Type} [BitOps F]

section
variable (i : grid0.Coords) (k0_h1 : k0_cond1 i = 1#1)

def offs_t5 (k : Fin k0_t5_loop.trips) : OffT k.val where
  off := k0_off20 k
  inb := k0_off20_inb i k k0_h1
  eq := fun a => by rw [Fin.eq_zero a, k0_off20_eq]; simp

def offs_t6 (k : Fin k0_t6_loop.trips) : Offs k.val where
  off := ![k0_off21 k, k0_off22 k, k0_off23 k, k0_off24 k, k0_off25 k, k0_off26 k, k0_off27 k, k0_off28 k]
  inb := fun g => by
    match g with
    | 0 => exact k0_off21_inb i k k0_h1
    | 1 => exact k0_off22_inb i k k0_h1
    | 2 => exact k0_off23_inb i k k0_h1
    | 3 => exact k0_off24_inb i k k0_h1
    | 4 => exact k0_off25_inb i k k0_h1
    | 5 => exact k0_off26_inb i k k0_h1
    | 6 => exact k0_off27_inb i k k0_h1
    | 7 => exact k0_off28_inb i k k0_h1
  eq := fun g a => by
    rw [Fin.eq_zero a]
    match g with
    | 0 => show k0_off21 k 0 = _; rw [k0_off21_eq]; show _ = 512 * 0 + 16 * k.val; simp; try omega
    | 1 => show k0_off22 k 0 = _; rw [k0_off22_eq]; show _ = 512 * 1 + 16 * k.val; simp; try omega
    | 2 => show k0_off23 k 0 = _; rw [k0_off23_eq]; show _ = 512 * 2 + 16 * k.val; simp; try omega
    | 3 => show k0_off24 k 0 = _; rw [k0_off24_eq]; show _ = 512 * 3 + 16 * k.val; simp; try omega
    | 4 => show k0_off25 k 0 = _; rw [k0_off25_eq]; show _ = 512 * 4 + 16 * k.val; simp; try omega
    | 5 => show k0_off26 k 0 = _; rw [k0_off26_eq]; show _ = 512 * 5 + 16 * k.val; simp; try omega
    | 6 => show k0_off27 k 0 = _; rw [k0_off27_eq]; show _ = 512 * 6 + 16 * k.val; simp; try omega
    | 7 => show k0_off28 k 0 = _; rw [k0_off28_eq]; show _ = 512 * 7 + 16 * k.val; simp; try omega

def offs_t7 (k : Fin k0_t7_loop.trips) : OffT k.val where
  off := k0_off29 k
  inb := k0_off29_inb i k k0_h1
  eq := fun a => by rw [Fin.eq_zero a, k0_off29_eq]; simp

def offs_t8 (k : Fin k0_t8_loop.trips) : Offs k.val where
  off := ![k0_off30 k, k0_off31 k, k0_off32 k, k0_off33 k, k0_off34 k, k0_off35 k, k0_off36 k, k0_off37 k]
  inb := fun g => by
    match g with
    | 0 => exact k0_off30_inb i k k0_h1
    | 1 => exact k0_off31_inb i k k0_h1
    | 2 => exact k0_off32_inb i k k0_h1
    | 3 => exact k0_off33_inb i k k0_h1
    | 4 => exact k0_off34_inb i k k0_h1
    | 5 => exact k0_off35_inb i k k0_h1
    | 6 => exact k0_off36_inb i k k0_h1
    | 7 => exact k0_off37_inb i k k0_h1
  eq := fun g a => by
    rw [Fin.eq_zero a]
    match g with
    | 0 => show k0_off30 k 0 = _; rw [k0_off30_eq]; show _ = 512 * 0 + 16 * k.val; simp; try omega
    | 1 => show k0_off31 k 0 = _; rw [k0_off31_eq]; show _ = 512 * 1 + 16 * k.val; simp; try omega
    | 2 => show k0_off32 k 0 = _; rw [k0_off32_eq]; show _ = 512 * 2 + 16 * k.val; simp; try omega
    | 3 => show k0_off33 k 0 = _; rw [k0_off33_eq]; show _ = 512 * 3 + 16 * k.val; simp; try omega
    | 4 => show k0_off34 k 0 = _; rw [k0_off34_eq]; show _ = 512 * 4 + 16 * k.val; simp; try omega
    | 5 => show k0_off35 k 0 = _; rw [k0_off35_eq]; show _ = 512 * 5 + 16 * k.val; simp; try omega
    | 6 => show k0_off36 k 0 = _; rw [k0_off36_eq]; show _ = 512 * 6 + 16 * k.val; simp; try omega
    | 7 => show k0_off37 k 0 = _; rw [k0_off37_eq]; show _ = 512 * 7 + 16 * k.val; simp; try omega

end

variable (i : grid0.Coords) (arg2 : Memref sig .scVector .hbm S16384 .f32) (harg2 : arg2.IsWhole) (arg3 : Memref sig .scVector .hbm S16384 .f32) (harg3 : arg3.IsWhole) (arg4 : Memref sig .scVector .hbm S16384 .i32) (harg4 : arg4.IsWhole) (arg5 : Memref sig .scVector .vmem S4096 .f32) (harg5 : arg5.IsWhole) (arg6 : Memref sig .scVector .vmem S4096 .i32) (harg6 : arg6.IsWhole) (arg7 : Memref sig .scVector .vmem S4096 .i32) (harg7 : arg7.IsWhole) (arg8 : Memref sig .scVector .vmem S4096 .i32) (harg8 : arg8.IsWhole) (arg9 : Memref sig .scVector .vmem S4096 .i32) (harg9 : arg9.IsWhole) (arg10 : Memref sig .scVector .vmem S1024 .i32) (harg10 : arg10.IsWhole) (arg11 : Memref sig .scVector .vmem S1024 .i32) (harg11 : arg11.IsWhole) (arg12 : Memref sig .scVector .vmem S1024 .i32) (harg12 : arg12.IsWhole) (arg13 : Memref sig .scVector .vmem S1024 .i32) (harg13 : arg13.IsWhole) (arg14 : Memref sig .scVector .vmem S1024 .i32) (harg14 : arg14.IsWhole) (arg15 : Memref sig .scVector .vmem S1024 .i32) (harg15 : arg15.IsWhole) (arg16 : Memref sig .scVector .vmem S1024 .i32) (harg16 : arg16.IsWhole) (arg17 : Memref sig .scVector .vmem S1024 .i32) (harg17 : arg17.IsWhole) (v31_r0 : DmaSems sig S_) (v31_r1 : DmaSems sig S_) (v31_r2 : DmaSems sig S_) (v1 : BitVec 32) (k0_h1 : k0_cond1 i = 1#1)

set_option maxRecDepth 65536 in
set_option maxHeartbeats 8000000 in
theorem t5_shape (k : Fin k0_t5_loop.trips) (acc : BitVec 32) :
    IsZero i ![arg10, arg11, arg12, arg13, arg14, arg15, arg16, arg17] k.val (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 v1 k0_h1 k acc) :=
  ⟨offs_t5 i k0_h1 k, rfl⟩

set_option maxRecDepth 65536 in
set_option maxHeartbeats 8000000 in
theorem t6_shape (k : Fin k0_t6_loop.trips) (acc : BitVec 32) :
    IsHist i k0_h1 arg6 (fun v => digit 10#32 v) ![arg10, arg11, arg12, arg13, arg14, arg15, arg16, arg17] k.val (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 v1 k0_h1 k acc) :=
  ⟨offs_t6 i k0_h1 k, rfl⟩

set_option maxRecDepth 65536 in
set_option maxHeartbeats 8000000 in
theorem t7_shape (k : Fin k0_t7_loop.trips) :
    IsPref i ![arg10, arg11, arg12, arg13, arg14, arg15, arg16, arg17] k.val (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 v1 k0_h1 k) :=
  ⟨offs_t7 i k0_h1 k, fun _ => rfl⟩

set_option maxRecDepth 65536 in
set_option maxHeartbeats 8000000 in
theorem t8_shape (k : Fin k0_t8_loop.trips) (acc : BitVec 32) :
    IsPermB i k0_h1 arg6 arg7 arg8 arg9 10#32 (fun k => k) rfl ![arg10, arg11, arg12, arg13, arg14, arg15, arg16, arg17] k.val (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 k0_h1 0#32 k acc) :=
  ⟨offs_t8 i k0_h1 k, rfl⟩

end Cert.Proof.Radix
-- ==== Proof.Pass2.lean ====
/- The printed loop bodies of pass 2, each shown to be its eight steps (Proof/Shape.lean). -/
module

public import proofs.«01_k».proof.Proof.Shape

@[expose] public section

noncomputable section

namespace Cert.Proof.Radix

open Cert.Sort Cert.Sort.Gen
open Idealize.ShloMosaic Idealize.SL.Sem

variable {F : FTy → Type} [BitOps F]

section
variable (i : grid0.Coords) (k0_h1 : k0_cond1 i = 1#1)

def offs_t9 (k : Fin k0_t9_loop.trips) : OffT k.val where
  off := k0_off38 k
  inb := k0_off38_inb i k k0_h1
  eq := fun a => by rw [Fin.eq_zero a, k0_off38_eq]; simp

def offs_t10 (k : Fin k0_t10_loop.trips) : Offs k.val where
  off := ![k0_off39 k, k0_off40 k, k0_off41 k, k0_off42 k, k0_off43 k, k0_off44 k, k0_off45 k, k0_off46 k]
  inb := fun g => by
    match g with
    | 0 => exact k0_off39_inb i k k0_h1
    | 1 => exact k0_off40_inb i k k0_h1
    | 2 => exact k0_off41_inb i k k0_h1
    | 3 => exact k0_off42_inb i k k0_h1
    | 4 => exact k0_off43_inb i k k0_h1
    | 5 => exact k0_off44_inb i k k0_h1
    | 6 => exact k0_off45_inb i k k0_h1
    | 7 => exact k0_off46_inb i k k0_h1
  eq := fun g a => by
    rw [Fin.eq_zero a]
    match g with
    | 0 => show k0_off39 k 0 = _; rw [k0_off39_eq]; show _ = 512 * 0 + 16 * k.val; simp; try omega
    | 1 => show k0_off40 k 0 = _; rw [k0_off40_eq]; show _ = 512 * 1 + 16 * k.val; simp; try omega
    | 2 => show k0_off41 k 0 = _; rw [k0_off41_eq]; show _ = 512 * 2 + 16 * k.val; simp; try omega
    | 3 => show k0_off42 k 0 = _; rw [k0_off42_eq]; show _ = 512 * 3 + 16 * k.val; simp; try omega
    | 4 => show k0_off43 k 0 = _; rw [k0_off43_eq]; show _ = 512 * 4 + 16 * k.val; simp; try omega
    | 5 => show k0_off44 k 0 = _; rw [k0_off44_eq]; show _ = 512 * 5 + 16 * k.val; simp; try omega
    | 6 => show k0_off45 k 0 = _; rw [k0_off45_eq]; show _ = 512 * 6 + 16 * k.val; simp; try omega
    | 7 => show k0_off46 k 0 = _; rw [k0_off46_eq]; show _ = 512 * 7 + 16 * k.val; simp; try omega

def offs_t11 (k : Fin k0_t11_loop.trips) : OffT k.val where
  off := k0_off47 k
  inb := k0_off47_inb i k k0_h1
  eq := fun a => by rw [Fin.eq_zero a, k0_off47_eq]; simp

def offs_t12 (k : Fin k0_t12_loop.trips) : Offs k.val where
  off := ![k0_off48 k, k0_off49 k, k0_off50 k, k0_off51 k, k0_off52 k, k0_off53 k, k0_off54 k, k0_off55 k]
  inb := fun g => by
    match g with
    | 0 => exact k0_off48_inb i k k0_h1
    | 1 => exact k0_off49_inb i k k0_h1
    | 2 => exact k0_off50_inb i k k0_h1
    | 3 => exact k0_off51_inb i k k0_h1
    | 4 => exact k0_off52_inb i k k0_h1
    | 5 => exact k0_off53_inb i k k0_h1
    | 6 => exact k0_off54_inb i k k0_h1
    | 7 => exact k0_off55_inb i k k0_h1
  eq := fun g a => by
    rw [Fin.eq_zero a]
    match g with
    | 0 => show k0_off48 k 0 = _; rw [k0_off48_eq]; show _ = 512 * 0 + 16 * k.val; simp; try omega
    | 1 => show k0_off49 k 0 = _; rw [k0_off49_eq]; show _ = 512 * 1 + 16 * k.val; simp; try omega
    | 2 => show k0_off50 k 0 = _; rw [k0_off50_eq]; show _ = 512 * 2 + 16 * k.val; simp; try omega
    | 3 => show k0_off51 k 0 = _; rw [k0_off51_eq]; show _ = 512 * 3 + 16 * k.val; simp; try omega
    | 4 => show k0_off52 k 0 = _; rw [k0_off52_eq]; show _ = 512 * 4 + 16 * k.val; simp; try omega
    | 5 => show k0_off53 k 0 = _; rw [k0_off53_eq]; show _ = 512 * 5 + 16 * k.val; simp; try omega
    | 6 => show k0_off54 k 0 = _; rw [k0_off54_eq]; show _ = 512 * 6 + 16 * k.val; simp; try omega
    | 7 => show k0_off55 k 0 = _; rw [k0_off55_eq]; show _ = 512 * 7 + 16 * k.val; simp; try omega

end

variable (i : grid0.Coords) (arg2 : Memref sig .scVector .hbm S16384 .f32) (harg2 : arg2.IsWhole) (arg3 : Memref sig .scVector .hbm S16384 .f32) (harg3 : arg3.IsWhole) (arg4 : Memref sig .scVector .hbm S16384 .i32) (harg4 : arg4.IsWhole) (arg5 : Memref sig .scVector .vmem S4096 .f32) (harg5 : arg5.IsWhole) (arg6 : Memref sig .scVector .vmem S4096 .i32) (harg6 : arg6.IsWhole) (arg7 : Memref sig .scVector .vmem S4096 .i32) (harg7 : arg7.IsWhole) (arg8 : Memref sig .scVector .vmem S4096 .i32) (harg8 : arg8.IsWhole) (arg9 : Memref sig .scVector .vmem S4096 .i32) (harg9 : arg9.IsWhole) (arg10 : Memref sig .scVector .vmem S1024 .i32) (harg10 : arg10.IsWhole) (arg11 : Memref sig .scVector .vmem S1024 .i32) (harg11 : arg11.IsWhole) (arg12 : Memref sig .scVector .vmem S1024 .i32) (harg12 : arg12.IsWhole) (arg13 : Memref sig .scVector .vmem S1024 .i32) (harg13 : arg13.IsWhole) (arg14 : Memref sig .scVector .vmem S1024 .i32) (harg14 : arg14.IsWhole) (arg15 : Memref sig .scVector .vmem S1024 .i32) (harg15 : arg15.IsWhole) (arg16 : Memref sig .scVector .vmem S1024 .i32) (harg16 : arg16.IsWhole) (arg17 : Memref sig .scVector .vmem S1024 .i32) (harg17 : arg17.IsWhole) (v31_r0 : DmaSems sig S_) (v31_r1 : DmaSems sig S_) (v31_r2 : DmaSems sig S_) (v1 : BitVec 32) (k0_h1 : k0_cond1 i = 1#1)

set_option maxRecDepth 65536 in
set_option maxHeartbeats 8000000 in
theorem t9_shape (k : Fin k0_t9_loop.trips) (acc : BitVec 32) :
    IsZero i ![arg10, arg11, arg12, arg13, arg14, arg15, arg16, arg17] k.val (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 k0_h1 k acc) :=
  ⟨offs_t9 i k0_h1 k, rfl⟩

set_option maxRecDepth 65536 in
set_option maxHeartbeats 8000000 in
theorem t10_shape (k : Fin k0_t10_loop.trips) (acc : BitVec 32) :
    IsHist i k0_h1 arg8 (fun v => digit 20#32 v) ![arg10, arg11, arg12, arg13, arg14, arg15, arg16, arg17] k.val (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 k0_h1 k acc) :=
  ⟨offs_t10 i k0_h1 k, rfl⟩

set_option maxRecDepth 65536 in
set_option maxHeartbeats 8000000 in
theorem t11_shape (k : Fin k0_t11_loop.trips) :
    IsPref i ![arg10, arg11, arg12, arg13, arg14, arg15, arg16, arg17] k.val (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 k0_h1 k) :=
  ⟨offs_t11 i k0_h1 k, fun _ => rfl⟩

set_option maxRecDepth 65536 in
set_option maxHeartbeats 8000000 in
theorem t12_shape (k : Fin k0_t12_loop.trips) (acc : BitVec 32) :
    IsPermB i k0_h1 arg8 arg9 arg5 arg7 20#32 unkeyF rfl ![arg10, arg11, arg12, arg13, arg14, arg15, arg16, arg17] k.val (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v31_r0 v31_r1 v31_r2 k0_h1 k acc) :=
  ⟨offs_t12 i k0_h1 k, rfl⟩

end Cert.Proof.Radix
-- ==== Proof.Body.lean ====
/-
  One tile's task: the row fetched, the twelve counted loops, the sorted row and its positions written out.
-/
module

public import proofs.«01_k».proof.Proof.Words
public import proofs.«01_k».proof.Proof.Pass0
public import proofs.«01_k».proof.Proof.Pass1
public import proofs.«01_k».proof.Proof.Pass2

@[expose] public section

noncomputable section

namespace Cert.Proof.Radix

open Cert.Sort Cert.Sort.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xW" => (Memref.whole Cert.Sort.main_arg0_scv : Memref Cert.Sort.sig Kind.scVector Space.hbm Cert.Sort.S16384 EltTy.f32)
local notation "vW" => (Memref.whole Cert.Sort.main_v0_0_scv : Memref Cert.Sort.sig Kind.scVector Space.hbm Cert.Sort.S16384 EltTy.f32)
local notation "iW" => (Memref.whole Cert.Sort.main_v0_1_scv : Memref Cert.Sort.sig Kind.scVector Space.hbm Cert.Sort.S16384 EltTy.i32)
local notation "w5" => (Memref.whole Cert.Sort.cc0_scratch0 : Memref Cert.Sort.sig Kind.scVector Space.vmem Cert.Sort.S4096 EltTy.f32)
local notation "w6" => (Memref.whole Cert.Sort.cc0_scratch1 : Memref Cert.Sort.sig Kind.scVector Space.vmem Cert.Sort.S4096 EltTy.i32)
local notation "w7" => (Memref.whole Cert.Sort.cc0_scratch2 : Memref Cert.Sort.sig Kind.scVector Space.vmem Cert.Sort.S4096 EltTy.i32)
local notation "w8" => (Memref.whole Cert.Sort.cc0_scratch3 : Memref Cert.Sort.sig Kind.scVector Space.vmem Cert.Sort.S4096 EltTy.i32)
local notation "w9" => (Memref.whole Cert.Sort.cc0_scratch4 : Memref Cert.Sort.sig Kind.scVector Space.vmem Cert.Sort.S4096 EltTy.i32)
local notation "w10" => (Memref.whole Cert.Sort.cc0_scratch5 : Memref Cert.Sort.sig Kind.scVector Space.vmem Cert.Sort.S1024 EltTy.i32)
local notation "w11" => (Memref.whole Cert.Sort.cc0_scratch6 : Memref Cert.Sort.sig Kind.scVector Space.vmem Cert.Sort.S1024 EltTy.i32)
local notation "w12" => (Memref.whole Cert.Sort.cc0_scratch7 : Memref Cert.Sort.sig Kind.scVector Space.vmem Cert.Sort.S1024 EltTy.i32)
local notation "w13" => (Memref.whole Cert.Sort.cc0_scratch8 : Memref Cert.Sort.sig Kind.scVector Space.vmem Cert.Sort.S1024 EltTy.i32)
local notation "w14" => (Memref.whole Cert.Sort.cc0_scratch9 : Memref Cert.Sort.sig Kind.scVector Space.vmem Cert.Sort.S1024 EltTy.i32)
local notation "w15" => (Memref.whole Cert.Sort.cc0_scratch10 : Memref Cert.Sort.sig Kind.scVector Space.vmem Cert.Sort.S1024 EltTy.i32)
local notation "w16" => (Memref.whole Cert.Sort.cc0_scratch11 : Memref Cert.Sort.sig Kind.scVector Space.vmem Cert.Sort.S1024 EltTy.i32)
local notation "w17" => (Memref.whole Cert.Sort.cc0_scratch12 : Memref Cert.Sort.sig Kind.scVector Space.vmem Cert.Sort.S1024 EltTy.i32)

variable (d : Dev nD) (i : grid0.Coords)

/-- A run at the head of another. -/
theorem head {α β : Type} {A : sProp 𝕄} {B : β → sProp 𝕄} {Q : α → sProp 𝕄} {p : TProg F i β} {k : β → TProg F i α}
    (h : A ⊢ run d i p B) : A ⊢ iprop((∀ b, B b -∗ run d i (k b) Q) -∗ run d i (p >>= k) Q) := by
  rw [show run d i (p >>= k) Q = run d i p (fun b => run d i (k b) Q) from wp_bind ..]
  iintro HA Hk
  ihave Hp := h $$ HA
  iapply wp_wand_r
  isplitl [Hp]
  · iexact Hp
  · iexact Hk

/-- The row of `x` (or of a result) the tile moves. -/
abbrev rowM {e : EltTy} (m : Memref sig .scVector .hbm S16384 e) (h1 : k0_cond1 i = 1#1) : Memref sig .scVector .hbm S4096 e :=
  m.slice (Rect.unit (s := S16384) (k0_off1 i) S4096.size (k0_off1_inb i h1)) (fun _ => rfl)

abbrev tabs8 : Fin 8 → TabRef := ![w10, w11, w12, w13, w14, w15, w16, w17]

local notation "body" => cc0_body (F := F) i xW (Memref.isWhole_whole _) vW (Memref.isWhole_whole _) iW (Memref.isWhole_whole _)
  w5 (Memref.isWhole_whole _) w6 (Memref.isWhole_whole _) w7 (Memref.isWhole_whole _) w8 (Memref.isWhole_whole _) w9 (Memref.isWhole_whole _)
  w10 (Memref.isWhole_whole _) w11 (Memref.isWhole_whole _) w12 (Memref.isWhole_whole _) w13 (Memref.isWhole_whole _)
  w14 (Memref.isWhole_whole _) w15 (Memref.isWhole_whole _) w16 (Memref.isWhole_whole _) w17 (Memref.isWhole_whole _) cc0_scoped0 cc0_scoped1 cc0_scoped2

/-- A copy within the tile's reach and its wait: what the source read is what the destination reads. -/
theorem run_copy {α : Type} {Q : α → sProp 𝕄} {s1 s2 : Space} {s : Shape} {e : EltTy} (k : PUnit → TProg F i α)
    (src : Memref sig .scVector s1 s e) (dst : Memref sig .scVector s2 s e) (sm : DmaSem sig) (hs) (hd) (ho) (hs') (hd') (hn : 0 < s.numel)
    (O : CellTallies nD τ sig (HIx 1)) (W : Waits sig (HIx 1))
    (X : Buf (Elt F) (src.view.loc (thr d i))) (g : Buf (Elt F) (dst.view.loc (thr d i))) :
    iprop(Transfers.MayWaits (thr d i) (none : HIx 1) O
        ∗ (src.view.loc (thr d i) ↦[src.view.set]{fullShare} X)
        ∗ (dst.view.loc (thr d i) ↦[dst.view.set]{fullShare} g)
        ∗ semVal (thr d i, SemLoc.dma sm) 0 ∗ owes (thr d i) O W)
      ⊢ iprop((iprop((src.view.loc (thr d i) ↦[src.view.set]{fullShare} X)
            ∗ (∃ g' : Buf (Elt F) (dst.view.loc (thr d i)), ⌜dst.view.read (Elt F) g' = src.view.read (Elt F) X⌝
                ∗ (dst.view.loc (thr d i) ↦[dst.view.set]{fullShare} g'))
            ∗ semVal (thr d i, SemLoc.dma sm) 0 ∗ owes (thr d i) O (insert (SemLoc.dma sm, (default : HIx 1)) W)) -∗ run d i (k ⟨⟩) Q) -∗
          run d i (Prog.lift (.enqueueDma src (.here dst) (.dma sm) hs hd ho)
            >>= fun _ => Prog.lift (.waitDma2 sm src dst hs' hd') >>= k) Q) := by
  unfold run
  iintro ⟨Hmw, Hx, H5, Hs, HO⟩ Hk
  sl_exec (disch := exact View.amount_pos _ _ hn)
  iapply Hk
  isplitl [Hx]; · iexact Hx
  isplitl [H5]
  · iexists _; isplitr
    swap
    · iexact H5
    · ipureintro
      funext x
      have h := View.read_slice_write_emb (v := dst.view) (Val := Elt F) (Rect.whole s) g (src.view.read (Elt F) X) (M := Finset.univ) (Finset.mem_univ x)
      rw [Rect.emb_whole_apply] at h
      exact h
  isplitl [Hs]; · iexact Hs
  iexact HO

/-- The buffers of the tile's memory, each at some contents. -/
def Some {s : Shape} {e : EltTy} (m : Memref sig .scVector .vmem s e) : sProp 𝕄 := iprop(∃ f, Pt d i m f)

theorem pts_Pt {s : Shape} {e : EltTy} (m : Memref sig .scVector .vmem s e) (hm : m.view.set = Finset.univ) {P : Vec F s e → Prop} :
    iprop(∃ f' : Buf (Elt F) (m.view.loc (thr d i)), ⌜P (m.view.read (Elt F) f')⌝ ∗ (m.view.loc (thr d i) ↦[m.view.set]{fullShare} f'))
      ⊢ iprop(∃ f, ⌜P f⌝ ∗ Pt d i m f) := by
  rw [hm]; unfold Pt
  iintro ⟨%f', %h, H⟩
  iexists (m.view.read (Elt F) f'); isplitr
  · ipureintro; exact h
  iexists f'; isplitr
  · ipureintro; rfl
  · iexact H

theorem Pt_pts {s : Shape} {e : EltTy} (m : Memref sig .scVector .vmem s e) (hm : m.view.set = Finset.univ) (f : Vec F s e) :
    Pt d i m f ⊢ iprop(∃ f' : Buf (Elt F) (m.view.loc (thr d i)), ⌜m.view.read (Elt F) f' = f⌝ ∗ (m.view.loc (thr d i) ↦[m.view.set]{fullShare} f')) := by
  rw [hm]; exact same _

theorem pts_Some {s : Shape} {e : EltTy} (m : Memref sig .scVector .vmem s e) (hm : m.view.set = Finset.univ) {f' : Buf (Elt F) (m.view.loc (thr d i))} :
    (m.view.loc (thr d i) ↦[m.view.set]{fullShare} f' : sProp 𝕄) ⊢ iprop(∃ f, Pt d i m f) := by
  rw [hm]; unfold Pt
  iintro H
  iexists (m.view.read (Elt F) f'), f'; isplitr
  · ipureintro; rfl
  · iexact H

/-- What a working tile leaves: its row of the values and of the positions, the sorted row of `x`. -/
def Out (h1 : k0_cond1 i = 1#1) (X : Buf (Elt F) ((xW).view.loc (thr d i))) : sProp 𝕄 :=
  iprop(((rowM i xW h1).view.loc (thr d i) ↦[(rowM i xW h1).view.set]{fullShare} X)
    ∗ ∃ (gv : Buf (Elt F) ((vW).view.loc (thr d i))) (gi : Buf (Elt F) ((iW).view.loc (thr d i))),
        ⌜Sorted (rowAt ((rowM i xW h1).view.read (Elt F) X)) (rowAt ((rowM i vW h1).view.read (Elt F) gv)) (rowAt ((rowM i iW h1).view.read (Elt F) gi))⌝
        ∗ ((rowM i vW h1).view.loc (thr d i) ↦[(rowM i vW h1).view.set]{fullShare} gv)
        ∗ ((rowM i iW h1).view.loc (thr d i) ↦[(rowM i iW h1).view.set]{fullShare} gi))

set_option maxHeartbeats 4000000 in
theorem body_run (h1 : k0_cond1 i = 1#1) (O : CellTallies nD τ sig (HIx 1)) (W : Waits sig (HIx 1)) (hO : ∀ g, O g none = 0)
    (X : Buf (Elt F) ((xW).view.loc (thr d i))) (fv : Buf (Elt F) ((vW).view.loc (thr d i))) (fi : Buf (Elt F) ((iW).view.loc (thr d i))) :
    iprop(levAts (K (F := F)).L (K (F := F)).lev
        ∗ ((rowM i xW h1).view.loc (thr d i) ↦[(rowM i xW h1).view.set]{fullShare} X)
        ∗ ((rowM i vW h1).view.loc (thr d i) ↦[(rowM i vW h1).view.set]{fullShare} fv)
        ∗ ((rowM i iW h1).view.loc (thr d i) ↦[(rowM i iW h1).view.set]{fullShare} fi)
        ∗ (Some d i w5 ∗ Some d i w6 ∗ Some d i w7 ∗ Some d i w8 ∗ Some d i w9 ∗ Tabs d i tabs8 (fun _ _ => True))
        ∗ (semVal (thr d i, SemLoc.dma cc0_scoped0.sem) 0 ∗ semVal (thr d i, SemLoc.dma cc0_scoped1.sem) 0 ∗ semVal (thr d i, SemLoc.dma cc0_scoped2.sem) 0)
        ∗ owes (thr d i) O W)
      ⊢ run d i body fun _ => iprop(Out d i h1 X
        ∗ (Some d i w5 ∗ Some d i w6 ∗ Some d i w7 ∗ Some d i w8 ∗ Some d i w9 ∗ Tabs d i tabs8 (fun _ _ => True))
        ∗ (semVal (thr d i, SemLoc.dma cc0_scoped0.sem) 0 ∗ semVal (thr d i, SemLoc.dma cc0_scoped1.sem) 0 ∗ semVal (thr d i, SemLoc.dma cc0_scoped2.sem) 0)
        ∗ ∃ W', ⌜∀ p ∈ W', p ∈ W ∨ p.2 = none⌝ ∗ owes (thr d i) O W') := by
  simp only [cc0_body_eq_skeleton]; unfold cc0_body_skel
  simp only [k0_part25_eq_skeleton]; unfold k0_part25_skel
  rw [dif_pos h1]
  simp only [bind_assoc, pure_bind]
  have s5 : (w5).view.set = Finset.univ := View.set_whole _
  have s7 : (w7).view.set = Finset.univ := View.set_whole _
  unfold Some
  iintro ⟨#Hlv, Hx, Hv, Hi, ⟨⟨%f5, H5⟩, ⟨%f6, H6⟩, ⟨%f7, H7⟩, ⟨%f8, H8⟩, ⟨%f9, H9⟩, Ht⟩, ⟨Hs0, Hs1, Hs2⟩, HO⟩
  ihave #Hmw := ((K (F := F)).mayWaits_none (thr := thr d i) hO) $$ Hlv
  ihave H5' := (Pt_pts d i w5 s5 f5) $$ H5
  icases H5' with ⟨%g5, %hg5, H5⟩
  iapply (run_copy d i _ (rowM i xW h1) w5 cc0_scoped0.sem _ _ _ _ _ (show 0 < S4096.numel by decide) O W X g5) $$ [Hx H5 Hs0 HO]
  · isplitr; · iexact Hmw
    isplitl [Hx]; · iexact Hx
    isplitl [H5]; · iexact H5
    isplitl [Hs0]; · iexact Hs0
    iexact HO
  iintro ⟨Hx, H5, Hs0, HO⟩
  ihave H5' := (pts_Pt d i w5 s5 (P := fun f => f = (rowM i xW h1).view.read (Elt F) X)) $$ H5
  icases H5' with ⟨%f0, %hf0, H5⟩
  iapply (head d i (zero_loop d i (iprop(emp) : sProp 𝕄) tabs8 k0_t1_loop (k0_t1_ok i h1) 0#32 _ rfl (t1_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 (Scalar.addi (Scalar.muli (BitVec.ofNat 32 (i 1).val) 2#32) (BitVec.ofNat 32 (i 0).val)) h1))) $$ [Ht]
  · isplitr
    · iempintro
    · iexact Ht
  iintro %_ ⟨-, Ht⟩
  iapply (head d i (hist_loop d i h1 w5 _ _ laneDig0 f0 tabs8 k0_t2_loop (k0_t2_ok i h1) 0#32 _ rfl (t2_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 (Scalar.addi (Scalar.muli (BitVec.ofNat 32 (i 1).val) 2#32) (BitVec.ofNat 32 (i 0).val)) h1))) $$ [H5 Ht]
  · isplitl [H5]
    · iexact H5
    · iexact Ht
  iintro %_ ⟨H5, Ht⟩
  iapply (head d i (pref_loop d i _ tabs8 k0_t3_loop (k0_t3_ok i h1) _ rfl (t3_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 (Scalar.addi (Scalar.muli (BitVec.ofNat 32 (i 1).val) 2#32) (BitVec.ofNat 32 (i 0).val)) h1))) $$ [Ht]
  · iexact Ht
  iintro %_ Ht
  iapply (head d i (permA_loop d i h1 w5 w6 w7 f0 _ laneDig0 keyW (fun _ _ => rfl) tabs8 k0_t4_loop (k0_t4_ok i h1) 0#32 _ rfl (t4_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 (Scalar.addi (Scalar.muli (BitVec.ofNat 32 (i 1).val) 2#32) (BitVec.ofNat 32 (i 0).val)) h1) f6 f7)) $$ [H5 H6 H7 Ht]
  · isplitl [H5 H6 H7]
    · isplitl [H5]; · iexact H5
      isplitl [H6]; · iexact H6
      iexact H7
    · iexact Ht
  unfold PtPut
  iintro %_ ⟨⟨H5, ⟨%k1, %hk1, H6⟩, ⟨%i1, %hi1, H7⟩⟩, Ht⟩
  iapply (head d i (zero_loop d i (iprop(emp) : sProp 𝕄) tabs8 k0_t5_loop (k0_t5_ok i h1) 0#32 _ rfl (t5_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 (Scalar.addi (Scalar.muli (BitVec.ofNat 32 (i 1).val) 2#32) (BitVec.ofNat 32 (i 0).val)) h1))) $$ [Ht]
  · isplitr
    · iempintro
    · iexact Ht
  iintro %_ ⟨-, Ht⟩
  iapply (head d i (hist_loop d i h1 w6 _ _ laneDig1 k1 tabs8 k0_t6_loop (k0_t6_ok i h1) 0#32 _ rfl (t6_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 (Scalar.addi (Scalar.muli (BitVec.ofNat 32 (i 1).val) 2#32) (BitVec.ofNat 32 (i 0).val)) h1))) $$ [H6 Ht]
  · isplitl [H6]
    · iexact H6
    · iexact Ht
  iintro %_ ⟨H6, Ht⟩
  iapply (head d i (pref_loop d i _ tabs8 k0_t7_loop (k0_t7_ok i h1) _ rfl (t7_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 (Scalar.addi (Scalar.muli (BitVec.ofNat 32 (i 1).val) 2#32) (BitVec.ofNat 32 (i 0).val)) h1))) $$ [Ht]
  · iexact Ht
  iintro %_ Ht
  iapply (head d i (permB_loop d i h1 w6 w7 w8 w9 10#32 (fun k => k) rfl k1 i1 _ laneDig1 (fun w => w) (fun _ _ => rfl) tabs8 k0_t8_loop (k0_t8_ok i h1) 0#32 _ rfl (t8_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 h1) f8 f9)) $$ [H6 H7 H8 H9 Ht]
  · isplitl [H6 H7 H8 H9]
    · isplitl [H6 H7]
      · isplitl [H6]; · iexact H6
        iexact H7
      isplitl [H8]; · iexact H8
      iexact H9
    · iexact Ht
  unfold PtPut
  iintro %_ ⟨⟨⟨H6, H7⟩, ⟨%k2, %hk2, H8⟩, ⟨%i2, %hi2, H9⟩⟩, Ht⟩
  iapply (head d i (zero_loop d i (iprop(emp) : sProp 𝕄) tabs8 k0_t9_loop (k0_t9_ok i h1) 0#32 _ rfl (t9_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 h1))) $$ [Ht]
  · isplitr
    · iempintro
    · iexact Ht
  iintro %_ ⟨-, Ht⟩
  iapply (head d i (hist_loop d i h1 w8 _ _ laneDig2 k2 tabs8 k0_t10_loop (k0_t10_ok i h1) 0#32 _ rfl (t10_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 h1))) $$ [H8 Ht]
  · isplitl [H8]
    · iexact H8
    · iexact Ht
  iintro %_ ⟨H8, Ht⟩
  iapply (head d i (pref_loop d i _ tabs8 k0_t11_loop (k0_t11_ok i h1) _ rfl (t11_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 h1))) $$ [Ht]
  · iexact Ht
  iintro %_ Ht
  iapply (head d i (permB_loop d i h1 w8 w9 w5 w7 20#32 unkeyF rfl k2 i2 _ laneDig2 unkeyW (fun _ _ => rfl) tabs8 k0_t12_loop (k0_t12_ok i h1) 0#32 _ rfl (t12_shape (F := F) i xW (Memref.isWhole_whole _) vW (Memref.isWhole_whole _) iW (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2 h1) f0 i1)) $$ [H8 H9 H5 H7 Ht]
  · isplitl [H8 H9 H5 H7]
    · isplitl [H8 H9]
      · isplitl [H8]; · iexact H8
        iexact H9
      isplitl [H5]; · iexact H5
      iexact H7
    · iexact Ht
  unfold PtPut
  iintro %_ ⟨⟨⟨H8, H9⟩, ⟨%f3, %hf3, H5⟩, ⟨%i3, %hi3, H7⟩⟩, Ht⟩
  have hsort : Sorted (rowAt f0) (rowAt f3) (rowAt i3) := sorted_of f0 f3 k1 k2 i1 i2 i3 hk1 hi1 hk2 hi2 hf3 hi3
  rw [hf0] at hsort
  ihave H5' := (Pt_pts d i w5 s5 f3) $$ H5
  icases H5' with ⟨%g5', %hg5', H5⟩
  iapply (run_copy d i _ w5 (rowM i vW h1) cc0_scoped1.sem _ _ _ _ _ (show 0 < S4096.numel by decide) O _ g5' fv) $$ [Hv H5 Hs1 HO]
  · isplitr; · iexact Hmw
    isplitl [H5]; · iexact H5
    isplitl [Hv]; · iexact Hv
    isplitl [Hs1]; · iexact Hs1
    iexact HO
  iintro ⟨H5, ⟨%gv, %hgv, Hv⟩, Hs1, HO⟩
  ihave H7' := (Pt_pts d i w7 s7 i3) $$ H7
  icases H7' with ⟨%g7', %hg7', H7⟩
  iapply (run_copy d i _ w7 (rowM i iW h1) cc0_scoped2.sem _ _ _ _ _ (show 0 < S4096.numel by decide) O _ g7' fi) $$ [Hi H7 Hs2 HO]
  · isplitr; · iexact Hmw
    isplitl [H7]; · iexact H7
    isplitl [Hi]; · iexact Hi
    isplitl [Hs2]; · iexact Hs2
    iexact HO
  iintro ⟨H7, ⟨%gi, %hgi, Hi⟩, Hs2, HO⟩
  iapply run_pure
  isplitl [Hx Hv Hi]
  · unfold Out
    isplitl [Hx]; · iexact Hx
    iexists gv, gi
    isplitr
    · ipureintro
      rw [hgv, hgi, hg5', hg7']; exact hsort
    isplitl [Hv]; · iexact Hv
    iexact Hi
  isplitl [H5 H6 H7 H8 H9 Ht]
  · isplitl [H5]
    · iapply (pts_Some d i w5 s5); iexact H5
    isplitl [H6]
    · iexists _; iexact H6
    isplitl [H7]
    · iapply (pts_Some d i w7 s7); iexact H7
    isplitl [H8]
    · iexists _; iexact H8
    isplitl [H9]
    · iexists _; iexact H9
    iexact Ht
  isplitl [Hs0 Hs1 Hs2]
  · isplitl [Hs0]; · iexact Hs0
    isplitl [Hs1]; · iexact Hs1
    iexact Hs2
  iexists _
  isplitr
  swap
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    exact .inl hp

end Cert.Proof.Radix
-- ==== Proof.Own.lean ====
/-
  A tile's own memory: its thirteen scratch buffers and three semaphores, taken out of what the launch deals it.
-/
module

public import proofs.«01_k».proof.Proof.Body

@[expose] public section

noncomputable section

namespace Cert.Proof.Radix

open Cert.Sort Cert.Sort.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xW" => (Memref.whole Cert.Sort.main_arg0_scv : Memref Cert.Sort.sig Kind.scVector Space.hbm Cert.Sort.S16384 EltTy.f32)
local notation "vW" => (Memref.whole Cert.Sort.main_v0_0_scv : Memref Cert.Sort.sig Kind.scVector Space.hbm Cert.Sort.S16384 EltTy.f32)
local notation "iW" => (Memref.whole Cert.Sort.main_v0_1_scv : Memref Cert.Sort.sig Kind.scVector Space.hbm Cert.Sort.S16384 EltTy.i32)
local notation "w5" => (Memref.whole Cert.Sort.cc0_scratch0 : Memref Cert.Sort.sig Kind.scVector Space.vmem Cert.Sort.S4096 EltTy.f32)
local notation "w6" => (Memref.whole Cert.Sort.cc0_scratch1 : Memref Cert.Sort.sig Kind.scVector Space.vmem Cert.Sort.S4096 EltTy.i32)
local notation "w7" => (Memref.whole Cert.Sort.cc0_scratch2 : Memref Cert.Sort.sig Kind.scVector Space.vmem Cert.Sort.S4096 EltTy.i32)
local notation "w8" => (Memref.whole Cert.Sort.cc0_scratch3 : Memref Cert.Sort.sig Kind.scVector Space.vmem Cert.Sort.S4096 EltTy.i32)
local notation "w9" => (Memref.whole Cert.Sort.cc0_scratch4 : Memref Cert.Sort.sig Kind.scVector Space.vmem Cert.Sort.S4096 EltTy.i32)
local notation "w10" => (Memref.whole Cert.Sort.cc0_scratch5 : Memref Cert.Sort.sig Kind.scVector Space.vmem Cert.Sort.S1024 EltTy.i32)
local notation "w11" => (Memref.whole Cert.Sort.cc0_scratch6 : Memref Cert.Sort.sig Kind.scVector Space.vmem Cert.Sort.S1024 EltTy.i32)
local notation "w12" => (Memref.whole Cert.Sort.cc0_scratch7 : Memref Cert.Sort.sig Kind.scVector Space.vmem Cert.Sort.S1024 EltTy.i32)
local notation "w13" => (Memref.whole Cert.Sort.cc0_scratch8 : Memref Cert.Sort.sig Kind.scVector Space.vmem Cert.Sort.S1024 EltTy.i32)
local notation "w14" => (Memref.whole Cert.Sort.cc0_scratch9 : Memref Cert.Sort.sig Kind.scVector Space.vmem Cert.Sort.S1024 EltTy.i32)
local notation "w15" => (Memref.whole Cert.Sort.cc0_scratch10 : Memref Cert.Sort.sig Kind.scVector Space.vmem Cert.Sort.S1024 EltTy.i32)
local notation "w16" => (Memref.whole Cert.Sort.cc0_scratch11 : Memref Cert.Sort.sig Kind.scVector Space.vmem Cert.Sort.S1024 EltTy.i32)
local notation "w17" => (Memref.whole Cert.Sort.cc0_scratch12 : Memref Cert.Sort.sig Kind.scVector Space.vmem Cert.Sort.S1024 EltTy.i32)

variable (d : Dev nD) (i : grid0.Coords)

/-- A separating conjunction over a set, the members of a list first. -/
theorem bigSep_list {I : Type} [DecidableEq I] (Φ : I → sProp 𝕄) : ∀ (l : List I) (S : Finset I), l.Nodup → (∀ b ∈ l, b ∈ S) →
    bigSep S Φ = l.foldr (fun b acc => iprop(Φ b ∗ acc)) (bigSep (S \ l.toFinset) Φ) := by
  intro l
  induction l with
  | nil => intro S _ _; simp
  | cons b l ih =>
    intro S hl hS
    have hb := hS b List.mem_cons_self
    rw [SparseCore.bigSep_erase' hb, List.foldr_cons, ih (S.erase b) (List.nodup_cons.mp hl).2 fun x hx =>
      Finset.mem_erase.mpr ⟨fun e => (List.nodup_cons.mp hl).1 (e ▸ hx), hS x (List.mem_cons_of_mem _ hx)⟩]
    congr 3
    rw [List.toFinset_cons, Finset.erase_sdiff_comm, Finset.sdiff_insert]

/-- The tile's scratch buffers, and its semaphores. -/
abbrev bufsL : List (DevRef τ sig) := [cc0_scratch0, cc0_scratch1, cc0_scratch2, cc0_scratch3, cc0_scratch4, cc0_scratch5, cc0_scratch6, cc0_scratch7, cc0_scratch8, cc0_scratch9, cc0_scratch10, cc0_scratch11, cc0_scratch12].map fun r => (tileP i).devRef r
abbrev cellsL : List (GSem nD τ sig) := [(thr d i, SemLoc.dma cc0_scoped0.sem), (thr d i, SemLoc.dma cc0_scoped1.sem), (thr d i, SemLoc.dma cc0_scoped2.sem)]

theorem refs_nodup : ([cc0_scratch0, cc0_scratch1, cc0_scratch2, cc0_scratch3, cc0_scratch4, cc0_scratch5, cc0_scratch6, cc0_scratch7, cc0_scratch8, cc0_scratch9, cc0_scratch10, cc0_scratch11, cc0_scratch12] : List (Ref sig .scVector)).Nodup := by decide
theorem bufsL_nodup : (bufsL i).Nodup := List.Nodup.map (Proc.devRef_injective _) refs_nodup
theorem bufsL_own : ∀ b ∈ bufsL i, b ∈ ownRefs (τ := τ) (sig := sig) (tileP i) := by
  intro b hb
  simp only [bufsL, List.map_cons, List.map_nil, List.mem_cons, List.not_mem_nil, or_false] at hb
  rcases hb with rfl | rfl | rfl | rfl | rfl | rfl | rfl | rfl | rfl | rfl | rfl | rfl | rfl <;> exact SparseCore.Cfg.mem_ownRefs_of_owner rfl
theorem cellsL_nodup : (cellsL d i).Nodup := by
  have h : ([SemLoc.dma cc0_scoped0.sem, SemLoc.dma cc0_scoped1.sem, SemLoc.dma cc0_scoped2.sem] : List (SemLoc sig)).Nodup := by decide
  exact List.Nodup.map (f := fun s => ((thr d i, s) : GSem nD τ sig)) (fun a b e => (Prod.mk.inj e).2) h
theorem cellsL_own : ∀ g ∈ cellsL d i, g ∈ ownCells (thr d i) := by
  intro g hg
  simp only [cellsL, List.mem_cons, List.not_mem_nil, or_false] at hg
  rcases hg with rfl | rfl | rfl
  · exact mem_ownCells.mpr ⟨rfl, show (SemLoc.dma cc0_scoped0.sem : SemLoc sig).isScoped .scVector = true by decide⟩
  · exact mem_ownCells.mpr ⟨rfl, show (SemLoc.dma cc0_scoped1.sem : SemLoc sig).isScoped .scVector = true by decide⟩
  · exact mem_ownCells.mpr ⟨rfl, show (SemLoc.dma cc0_scoped2.sem : SemLoc sig).isScoped .scVector = true by decide⟩

/-- What is left of the tile's buffers and semaphores beside the ones the kernel names. -/
def restBufs : sProp 𝕄 := bigSep (ownRefs (tileP i) \ (bufsL i).toFinset) fun b => iprop(∃ f, ((d, b) : Loc nD τ sig) ↦{fullShare} f)
def restSems : sProp 𝕄 := bigSep (ownCells (thr d i) \ (cellsL d i).toFinset) fun g => semVal g 0

theorem some_in {s : Shape} {e : EltTy} (m : Memref sig .scVector .vmem s e) :
    iprop(∃ f' : Buf (Elt F) (m.view.loc (thr d i)), (m.view.loc (thr d i) ↦[Finset.univ]{fullShare} f')) ⊢ (Some d i m : sProp 𝕄) := by
  unfold Some Pt
  iintro ⟨%f', H⟩
  iexists (m.view.read (Elt F) f'), f'; isplitr
  · ipureintro; rfl
  · iexact H
theorem some_out {s : Shape} {e : EltTy} (m : Memref sig .scVector .vmem s e) :
    (Some d i m : sProp 𝕄) ⊢ iprop(∃ f' : Buf (Elt F) (m.view.loc (thr d i)), (m.view.loc (thr d i) ↦[Finset.univ]{fullShare} f')) := by
  unfold Some Pt
  iintro ⟨%f, %f', -, H⟩
  iexists f'; iexact H

theorem tabs_eq : (Tabs d i tabs8 (fun _ _ => True) : sProp 𝕄)
    = iprop((∃ f, ⌜True⌝ ∗ Pt d i w10 f) ∗ (∃ f, ⌜True⌝ ∗ Pt d i w11 f) ∗ (∃ f, ⌜True⌝ ∗ Pt d i w12 f) ∗ (∃ f, ⌜True⌝ ∗ Pt d i w13 f) ∗ (∃ f, ⌜True⌝ ∗ Pt d i w14 f) ∗ (∃ f, ⌜True⌝ ∗ Pt d i w15 f) ∗ (∃ f, ⌜True⌝ ∗ Pt d i w16 f) ∗ (∃ f, ⌜True⌝ ∗ Pt d i w17 f) ∗ emp) := by
  unfold Tabs
  rw [bigSep_list _ [(0 : Fin 8), 1, 2, 3, 4, 5, 6, 7] Finset.univ (by decide) (fun _ _ => Finset.mem_univ _),
    show (Finset.univ : Finset (Fin 8)) \ [(0 : Fin 8), 1, 2, 3, 4, 5, 6, 7].toFinset = ∅ by decide, bigSep_empty]
  rfl

theorem tab_in (m : TabRef) : (Some d i m : sProp 𝕄) ⊢ iprop(∃ f, ⌜True⌝ ∗ Pt d i m f) := by
  unfold Some
  iintro ⟨%f, H⟩
  iexists f; isplitr
  · ipureintro; trivial
  · iexact H
theorem tab_out (m : TabRef) : iprop(∃ f, ⌜True⌝ ∗ Pt d i m f) ⊢ (Some d i m : sProp 𝕄) := by
  unfold Some
  iintro ⟨%f, -, H⟩
  iexists f; iexact H

theorem bufs_eq : (ownBufs (thr d i) : sProp 𝕄) = iprop((∃ f' : Buf (Elt F) ((w5).view.loc (thr d i)), ((w5).view.loc (thr d i) ↦[Finset.univ]{fullShare} f')) ∗ (∃ f' : Buf (Elt F) ((w6).view.loc (thr d i)), ((w6).view.loc (thr d i) ↦[Finset.univ]{fullShare} f')) ∗ (∃ f' : Buf (Elt F) ((w7).view.loc (thr d i)), ((w7).view.loc (thr d i) ↦[Finset.univ]{fullShare} f')) ∗ (∃ f' : Buf (Elt F) ((w8).view.loc (thr d i)), ((w8).view.loc (thr d i) ↦[Finset.univ]{fullShare} f')) ∗ (∃ f' : Buf (Elt F) ((w9).view.loc (thr d i)), ((w9).view.loc (thr d i) ↦[Finset.univ]{fullShare} f')) ∗ (∃ f' : Buf (Elt F) ((w10).view.loc (thr d i)), ((w10).view.loc (thr d i) ↦[Finset.univ]{fullShare} f')) ∗ (∃ f' : Buf (Elt F) ((w11).view.loc (thr d i)), ((w11).view.loc (thr d i) ↦[Finset.univ]{fullShare} f')) ∗ (∃ f' : Buf (Elt F) ((w12).view.loc (thr d i)), ((w12).view.loc (thr d i) ↦[Finset.univ]{fullShare} f')) ∗ (∃ f' : Buf (Elt F) ((w13).view.loc (thr d i)), ((w13).view.loc (thr d i) ↦[Finset.univ]{fullShare} f')) ∗ (∃ f' : Buf (Elt F) ((w14).view.loc (thr d i)), ((w14).view.loc (thr d i) ↦[Finset.univ]{fullShare} f')) ∗ (∃ f' : Buf (Elt F) ((w15).view.loc (thr d i)), ((w15).view.loc (thr d i) ↦[Finset.univ]{fullShare} f')) ∗ (∃ f' : Buf (Elt F) ((w16).view.loc (thr d i)), ((w16).view.loc (thr d i) ↦[Finset.univ]{fullShare} f')) ∗ (∃ f' : Buf (Elt F) ((w17).view.loc (thr d i)), ((w17).view.loc (thr d i) ↦[Finset.univ]{fullShare} f')) ∗ restBufs d i) := by
  unfold SparseCore.Cfg.ownBufs
  rw [show (thr d i).2 = tileP i from rfl, bigSep_list _ (bufsL i) (ownRefs (tileP i)) (bufsL_nodup i) (bufsL_own i)]
  unfold restBufs
  generalize (bigSep (ownRefs (tileP i) \ (bufsL i).toFinset) fun b => iprop(∃ f, ((d, b) : Loc nD τ sig) ↦{fullShare} f) : sProp 𝕄) = R
  simp only [bufsL, List.map_cons, List.map_nil, List.foldr_cons, List.foldr_nil]

theorem bufs_take : (ownBufs (thr d i) : sProp 𝕄)
    ⊢ iprop((Some d i w5 ∗ Some d i w6 ∗ Some d i w7 ∗ Some d i w8 ∗ Some d i w9 ∗ Tabs d i tabs8 (fun _ _ => True)) ∗ restBufs d i) := by
  rw [bufs_eq, tabs_eq]
  iintro ⟨H5, H6, H7, H8, H9, H10, H11, H12, H13, H14, H15, H16, H17, HR⟩
  isplitr [HR]
  swap
  · iexact HR
  isplitl [H5]
  · iapply (some_in d i w5); iexact H5
  isplitl [H6]
  · iapply (some_in d i w6); iexact H6
  isplitl [H7]
  · iapply (some_in d i w7); iexact H7
  isplitl [H8]
  · iapply (some_in d i w8); iexact H8
  isplitl [H9]
  · iapply (some_in d i w9); iexact H9
  isplitl [H10]
  · iapply (tab_in d i w10); iapply (some_in d i w10); iexact H10
  isplitl [H11]
  · iapply (tab_in d i w11); iapply (some_in d i w11); iexact H11
  isplitl [H12]
  · iapply (tab_in d i w12); iapply (some_in d i w12); iexact H12
  isplitl [H13]
  · iapply (tab_in d i w13); iapply (some_in d i w13); iexact H13
  isplitl [H14]
  · iapply (tab_in d i w14); iapply (some_in d i w14); iexact H14
  isplitl [H15]
  · iapply (tab_in d i w15); iapply (some_in d i w15); iexact H15
  isplitl [H16]
  · iapply (tab_in d i w16); iapply (some_in d i w16); iexact H16
  isplitl [H17]
  · iapply (tab_in d i w17); iapply (some_in d i w17); iexact H17
  iempintro

theorem bufs_give : iprop((Some d i w5 ∗ Some d i w6 ∗ Some d i w7 ∗ Some d i w8 ∗ Some d i w9 ∗ Tabs d i tabs8 (fun _ _ => True)) ∗ restBufs d i)
    ⊢ (ownBufs (thr d i) : sProp 𝕄) := by
  rw [bufs_eq, tabs_eq]
  iintro ⟨⟨H5, H6, H7, H8, H9, H10, H11, H12, H13, H14, H15, H16, H17, -⟩, HR⟩
  isplitl [H5]
  · iapply (some_out d i w5); iexact H5
  isplitl [H6]
  · iapply (some_out d i w6); iexact H6
  isplitl [H7]
  · iapply (some_out d i w7); iexact H7
  isplitl [H8]
  · iapply (some_out d i w8); iexact H8
  isplitl [H9]
  · iapply (some_out d i w9); iexact H9
  isplitl [H10]
  · iapply (some_out d i w10); iapply (tab_out d i w10); iexact H10
  isplitl [H11]
  · iapply (some_out d i w11); iapply (tab_out d i w11); iexact H11
  isplitl [H12]
  · iapply (some_out d i w12); iapply (tab_out d i w12); iexact H12
  isplitl [H13]
  · iapply (some_out d i w13); iapply (tab_out d i w13); iexact H13
  isplitl [H14]
  · iapply (some_out d i w14); iapply (tab_out d i w14); iexact H14
  isplitl [H15]
  · iapply (some_out d i w15); iapply (tab_out d i w15); iexact H15
  isplitl [H16]
  · iapply (some_out d i w16); iapply (tab_out d i w16); iexact H16
  isplitl [H17]
  · iapply (some_out d i w17); iapply (tab_out d i w17); iexact H17
  iexact HR

theorem sems_eq : (ownSems0 (thr d i) : sProp 𝕄)
    = iprop(semVal (thr d i, SemLoc.dma cc0_scoped0.sem) 0 ∗ semVal (thr d i, SemLoc.dma cc0_scoped1.sem) 0 ∗ semVal (thr d i, SemLoc.dma cc0_scoped2.sem) 0 ∗ restSems d i) := by
  unfold SparseCore.Cfg.ownSems0
  exact bigSep_list _ (cellsL d i) (ownCells (thr d i)) (cellsL_nodup d i) (cellsL_own d i)

end Cert.Proof.Radix
-- ==== Proof.Task.lean ====
/-
  One tile's task over the arrays' rows, and what the call's handshakes carry: tile (c, s) is handed row 2s + c of the
  argument and of the two results where there is such a row, and nothing otherwise.
-/
module

public import proofs.«01_k».proof.Proof.Own

@[expose] public section

noncomputable section

namespace Cert.Proof.Radix

open Cert.Sort Cert.Sort.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [BitOps F]

local notation "𝕄" => MT nD τ sig (HIx 1) (Elt F) ℕ UU ℕ

local notation "xW" => (Memref.whole Cert.Sort.main_arg0_scv : Memref Cert.Sort.sig Kind.scVector Space.hbm Cert.Sort.S16384 EltTy.f32)
local notation "vW" => (Memref.whole Cert.Sort.main_v0_0_scv : Memref Cert.Sort.sig Kind.scVector Space.hbm Cert.Sort.S16384 EltTy.f32)
local notation "iW" => (Memref.whole Cert.Sort.main_v0_1_scv : Memref Cert.Sort.sig Kind.scVector Space.hbm Cert.Sort.S16384 EltTy.i32)
local notation "w5" => (Memref.whole Cert.Sort.cc0_scratch0 : Memref Cert.Sort.sig Kind.scVector Space.vmem Cert.Sort.S4096 EltTy.f32)
local notation "w6" => (Memref.whole Cert.Sort.cc0_scratch1 : Memref Cert.Sort.sig Kind.scVector Space.vmem Cert.Sort.S4096 EltTy.i32)
local notation "w7" => (Memref.whole Cert.Sort.cc0_scratch2 : Memref Cert.Sort.sig Kind.scVector Space.vmem Cert.Sort.S4096 EltTy.i32)
local notation "w8" => (Memref.whole Cert.Sort.cc0_scratch3 : Memref Cert.Sort.sig Kind.scVector Space.vmem Cert.Sort.S4096 EltTy.i32)
local notation "w9" => (Memref.whole Cert.Sort.cc0_scratch4 : Memref Cert.Sort.sig Kind.scVector Space.vmem Cert.Sort.S4096 EltTy.i32)
local notation "w10" => (Memref.whole Cert.Sort.cc0_scratch5 : Memref Cert.Sort.sig Kind.scVector Space.vmem Cert.Sort.S1024 EltTy.i32)
local notation "w11" => (Memref.whole Cert.Sort.cc0_scratch6 : Memref Cert.Sort.sig Kind.scVector Space.vmem Cert.Sort.S1024 EltTy.i32)
local notation "w12" => (Memref.whole Cert.Sort.cc0_scratch7 : Memref Cert.Sort.sig Kind.scVector Space.vmem Cert.Sort.S1024 EltTy.i32)
local notation "w13" => (Memref.whole Cert.Sort.cc0_scratch8 : Memref Cert.Sort.sig Kind.scVector Space.vmem Cert.Sort.S1024 EltTy.i32)
local notation "w14" => (Memref.whole Cert.Sort.cc0_scratch9 : Memref Cert.Sort.sig Kind.scVector Space.vmem Cert.Sort.S1024 EltTy.i32)
local notation "w15" => (Memref.whole Cert.Sort.cc0_scratch10 : Memref Cert.Sort.sig Kind.scVector Space.vmem Cert.Sort.S1024 EltTy.i32)
local notation "w16" => (Memref.whole Cert.Sort.cc0_scratch11 : Memref Cert.Sort.sig Kind.scVector Space.vmem Cert.Sort.S1024 EltTy.i32)
local notation "w17" => (Memref.whole Cert.Sort.cc0_scratch12 : Memref Cert.Sort.sig Kind.scVector Space.vmem Cert.Sort.S1024 EltTy.i32)

/-! ## The rows -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A tile's row number: it works where the number is below four. -/
abbrev wid (i : grid0.Coords) : ℕ := 2 * (i 1).val + (i 0).val

theorem cond_iff : ∀ i : grid0.Coords, k0_cond1 i = 1#1 ↔ wid i < 4 := by decide +kernel
theorem off1_eq : ∀ i : grid0.Coords, k0_cond1 i = 1#1 → k0_off1 i 0 = 4096 * wid i := by decide +kernel

theorem hdiv : 4 ∣ S16384.size 0 := ⟨4096, rfl⟩
abbrev rowR (r : Fin 4) : Rect S16384 := Rect.part (s := S16384) (a₀ := 0) hdiv r
abbrev rowSet (r : Fin 4) : Finset S16384.Idx := (rowR r).set

def ix16 (n : ℕ) : S16384.Idx := fun a => ⟨n % 16384, by rw [Fin.eq_zero a]; exact Nat.mod_lt _ (by decide)⟩
/-- Row `r` of an array of four rows on end. -/
def rowOf {α : Type} (r : ℕ) (f : S16384.Idx → α) (j : ℕ) : α := f (ix16 (4096 * r + j % 4096))

theorem rowK_eq (i : grid0.Coords) (h1 : k0_cond1 i = 1#1) :
    Rect.unit (s := S16384) (k0_off1 i) S4096.size (k0_off1_inb i h1) = rowR ⟨wid i, (cond_iff i).mp h1⟩ := by
  unfold rowR Rect.part Rect.block
  congr 1 <;> funext a
  · match a with
    | 0 => rw [off1_eq i h1]; simp [Shape.partIx, Shape.partSize]; omega
  · match a with
    | 0 => simp [Shape.partSize]

theorem set_arg (i : grid0.Coords) (h1 : k0_cond1 i = 1#1) : (rowM i xW h1).view.set = rowSet ⟨wid i, (cond_iff i).mp h1⟩ := by
  show ((View.whole (main_arg0_scv : Ref sig .scVector)).slice (Rect.unit (s := S16384) (k0_off1 i) S4096.size (k0_off1_inb i h1))).set = _
  refine (View.set_slice _ _).trans ?_
  refine Finset.map_refl.trans ?_
  rw [rowK_eq i h1]
theorem set_val (i : grid0.Coords) (h1 : k0_cond1 i = 1#1) : (rowM i vW h1).view.set = rowSet ⟨wid i, (cond_iff i).mp h1⟩ := by
  show ((View.whole (main_v0_0_scv : Ref sig .scVector)).slice (Rect.unit (s := S16384) (k0_off1 i) S4096.size (k0_off1_inb i h1))).set = _
  refine (View.set_slice _ _).trans ?_
  refine Finset.map_refl.trans ?_
  rw [rowK_eq i h1]
theorem set_pos (i : grid0.Coords) (h1 : k0_cond1 i = 1#1) : (rowM i iW h1).view.set = rowSet ⟨wid i, (cond_iff i).mp h1⟩ := by
  show ((View.whole (main_v0_1_scv : Ref sig .scVector)).slice (Rect.unit (s := S16384) (k0_off1 i) S4096.size (k0_off1_inb i h1))).set = _
  refine (View.set_slice _ _).trans ?_
  refine Finset.map_refl.trans ?_
  rw [rowK_eq i h1]

theorem row_ix (i : grid0.Coords) (h1 : k0_cond1 i = 1#1) (j : ℕ) :
    (Rect.unit (s := S16384) (k0_off1 i) S4096.size (k0_off1_inb i h1)).emb (ixN j) = ix16 (4096 * wid i + j % 4096) := by
  have hw := (cond_iff i).mp h1
  funext a
  apply Fin.ext
  rw [Rect.emb_apply, Fin.eq_zero a]
  show k0_off1 i 0 + 1 * (j % 4096) = (4096 * wid i + j % 4096) % 16384
  rw [off1_eq i h1]
  have := Nat.mod_lt j (show 0 < 4096 by decide)
  omega

theorem read_arg (d : Dev nD) (i : grid0.Coords) (h1 : k0_cond1 i = 1#1) (X : Buf (Elt F) ((xW).view.loc (thr d i))) :
    rowAt ((rowM i xW h1).view.read (Elt F) X) = rowOf (wid i) (X : Vec F S16384 .f32) := by
  funext j
  show (X : Vec F S16384 .f32) ((Rect.unit (s := S16384) (k0_off1 i) S4096.size (k0_off1_inb i h1)).emb (ixN j)) = _
  rw [row_ix i h1]; rfl
theorem read_val (d : Dev nD) (i : grid0.Coords) (h1 : k0_cond1 i = 1#1) (X : Buf (Elt F) ((vW).view.loc (thr d i))) :
    rowAt ((rowM i vW h1).view.read (Elt F) X) = rowOf (wid i) (X : Vec F S16384 .f32) := by
  funext j
  show (X : Vec F S16384 .f32) ((Rect.unit (s := S16384) (k0_off1 i) S4096.size (k0_off1_inb i h1)).emb (ixN j)) = _
  rw [row_ix i h1]; rfl
theorem read_pos (d : Dev nD) (i : grid0.Coords) (h1 : k0_cond1 i = 1#1) (X : Buf (Elt F) ((iW).view.loc (thr d i))) :
    rowAt ((rowM i iW h1).view.read (Elt F) X) = rowOf (wid i) (X : Vec F S16384 .i32) := by
  funext j
  show (X : Vec F S16384 .i32) ((Rect.unit (s := S16384) (k0_off1 i) S4096.size (k0_off1_inb i h1)).emb (ixN j)) = _
  rw [row_ix i h1]; rfl

theorem row_mem (r : Fin 4) (j : ℕ) : ix16 (4096 * r.val + j % 4096) ∈ rowSet r := by
  have hj := Nat.mod_lt j (show 0 < 4096 by decide)
  have hr := r.isLt
  refine (LoadRect.mem_set _).mpr fun a => ⟨j % 4096, ?_, ?_⟩
  · rw [Fin.eq_zero a]; simpa [rowR, Rect.part, Rect.block, Shape.partSize] using hj
  · rw [Fin.eq_zero a]
    simp [rowR, Rect.part, Rect.block, Shape.partIx, Shape.partSize, ix16]
    omega

theorem rows_disjoint : ∀ i ∈ (Finset.univ : Finset (Fin 4)), ∀ j ∈ (Finset.univ : Finset (Fin 4)), i ≠ j → Disjoint (rowSet i) (rowSet j) :=
  fun i _ j _ h => Rect.part_disjoint hdiv h
theorem rows_cover : (Finset.univ : Finset (Fin 4)).biUnion rowSet = Finset.univ := Rect.biUnion_part hdiv

variable (m : (ℓ : Loc nD τ sig) → Buf (Elt F) ℓ) (ρ : Dev nD → PrngReg)

abbrev xLoc (d : Dev nD) : Loc nD τ sig := (SparseCore.T d).loc main_arg0
abbrev vLoc (d : Dev nD) : Loc nD τ sig := (SparseCore.T d).loc main_v0_0
abbrev pLoc (d : Dev nD) : Loc nD τ sig := (SparseCore.T d).loc main_v0_1

/-- The results' row `r` is the sorted row `r` of the argument. -/
def SortedRow (r : ℕ) (X : Vec F S16384 .f32) (gv : Vec F S16384 .f32) (gp : Vec F S16384 .i32) : Prop :=
  Sorted (rowOf r X) (rowOf r gv) (rowOf r gp)

def RowPre (d : Dev nD) (r : Fin 4) : sProp 𝕄 :=
  iprop((xLoc d ↦[rowSet r]{fullShare} m (xLoc d)) ∗ (vLoc d ↦[rowSet r]{fullShare} m (vLoc d)) ∗ (pLoc d ↦[rowSet r]{fullShare} m (pLoc d)))
def RowPost (d : Dev nD) (r : Fin 4) : sProp 𝕄 :=
  iprop((xLoc d ↦[rowSet r]{fullShare} m (xLoc d)) ∗ ∃ (gv : Buf (Elt F) (vLoc d)) (gp : Buf (Elt F) (pLoc d)),
    ⌜SortedRow r.val (m (xLoc d)) gv gp⌝ ∗ (vLoc d ↦[rowSet r]{fullShare} gv) ∗ (pLoc d ↦[rowSet r]{fullShare} gp))

def Go (d : Dev nD) (n : ℕ) : sProp 𝕄 := if h : n < 4 then RowPre m d ⟨n, h⟩ else iprop(emp)
def Done (d : Dev nD) (n : ℕ) : sProp 𝕄 := if h : n < 4 then RowPost m d ⟨n, h⟩ else iprop(emp)

instance Go_storable (d : Dev nD) (n : ℕ) : BI.Storable (upEmb : UEmb _ 𝕄) (Go m d n) := by
  unfold Go RowPre; split <;> infer_instance
instance Done_storable (d : Dev nD) (n : ℕ) : BI.Storable (upEmb : UEmb _ 𝕄) (Done m d n) := by
  unfold Done RowPost; split <;> infer_instance

/-! ## The task -/

section Tile
variable (d : Dev nD) (i : grid0.Coords)

theorem tile_body (O : CellTallies nD τ sig (HIx 1)) (W : Waits sig (HIx 1)) (hO : ∀ g, O g none = 0) :
    iprop(levAts (K (F := F)).L (K (F := F)).lev ∗ emp ∗ Go m d (wid i) ∗ ownBufs (thr d i) ∗ ownSems0 (thr d i) ∗ owes (thr d i) O W)
      ⊢ run d i (cc0_body (F := F) i xW (Memref.isWhole_whole _) vW (Memref.isWhole_whole _) iW (Memref.isWhole_whole _)
    w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2)
          fun _ => iprop(Done m d (wid i) ∗ ownBufs (thr d i) ∗ ownSems0 (thr d i) ∗ ∃ W', ⌜∀ p ∈ W', p ∈ W ∨ p.2 = none⌝ ∗ owes (thr d i) O W') := by
  by_cases h1 : k0_cond1 i = 1#1
  · have hw := (cond_iff i).mp h1
    unfold Go Done
    rw [dif_pos hw, dif_pos hw, sems_eq]
    unfold RowPre RowPost
    iintro ⟨#Hlv, -, ⟨Hx, Hv, Hp⟩, Hb, ⟨Hs0, Hs1, Hs2, Hsr⟩, HO⟩
    ihave Hb' := (bufs_take d i) $$ Hb
    icases Hb' with ⟨Hb, Hbr⟩
    have hrun := body_run d i h1 O W hO (m (xLoc d)) (m (vLoc d)) (m (pLoc d))
    rw [set_arg, set_val, set_pos] at hrun
    ihave Hr := hrun $$ [Hx Hv Hp Hb Hs0 Hs1 Hs2 HO]
    · isplitr; · iexact Hlv
      isplitl [Hx]; · iexact Hx
      isplitl [Hv]; · iexact Hv
      isplitl [Hp]; · iexact Hp
      isplitl [Hb]; · iexact Hb
      isplitl [Hs0 Hs1 Hs2]
      · isplitl [Hs0]; · iexact Hs0
        isplitl [Hs1]; · iexact Hs1
        iexact Hs2
      iexact HO
    iapply wp_wand_r
    isplitl [Hr]; · iexact Hr
    iintro %_ ⟨Hout, Hb, ⟨Hs0, Hs1, Hs2⟩, HW⟩
    unfold Out
    rw [set_arg, set_val, set_pos]
    icases Hout with ⟨Hx, %gv, %gp, %hs, Hv, Hp⟩
    rw [read_arg, read_val, read_pos] at hs
    isplitl [Hx Hv Hp]
    · isplitl [Hx]; · iexact Hx
      iexists gv, gp
      isplitr; · ipureintro; exact hs
      isplitl [Hv]; · iexact Hv
      iexact Hp
    isplitl [Hb Hbr]
    · iapply (bufs_give d i)
      isplitl [Hb]; · iexact Hb
      iexact Hbr
    isplitl [Hs0 Hs1 Hs2 Hsr]
    · isplitl [Hs0]; · iexact Hs0
      isplitl [Hs1]; · iexact Hs1
      isplitl [Hs2]; · iexact Hs2
      iexact Hsr
    iexact HW
  · have hw : ¬ wid i < 4 := fun h => h1 ((cond_iff i).mpr h)
    simp only [cc0_body_eq_skeleton]; unfold cc0_body_skel
    rw [dif_neg h1]
    unfold Go Done
    rw [dif_neg hw, dif_neg hw]
    iintro ⟨-, -, Hg, Hsb, Hss, HO⟩
    iapply run_pure
    isplitl [Hg]; · iexact Hg
    isplitl [Hsb]; · iexact Hsb
    isplitl [Hss]; · iexact Hss
    iexists W; isplitr
    · ipureintro; exact fun p hp => .inl hp
    · iexact HO

end Tile

end Cert.Proof.Radix
-- ==== Proof.Launch.lean ====
/-
  The launch: the call's handshakes carry the rows, every tile's task is `tile_body`, and the host's tail cuts the first
  3276 columns out of the two results.
-/
module

public import proofs.«01_k».proof.Proof.Task
public import Idealize.ShloMosaic.Lib.Pipeline.Kit
public import Idealize.ShloMosaic.Lib.SparseCore.Quiescent

@[expose] public section

noncomputable section

namespace Cert.Proof.Radix

open Cert.Sort Cert.Sort.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [BitOps F]

local notation "𝕄" => MT nD τ sig (HIx 1) (Elt F) ℕ UU ℕ

local notation "xW" => (Memref.whole Cert.Sort.main_arg0_scv : Memref Cert.Sort.sig Kind.scVector Space.hbm Cert.Sort.S16384 EltTy.f32)
local notation "vW" => (Memref.whole Cert.Sort.main_v0_0_scv : Memref Cert.Sort.sig Kind.scVector Space.hbm Cert.Sort.S16384 EltTy.f32)
local notation "iW" => (Memref.whole Cert.Sort.main_v0_1_scv : Memref Cert.Sort.sig Kind.scVector Space.hbm Cert.Sort.S16384 EltTy.i32)
local notation "w5" => (Memref.whole Cert.Sort.cc0_scratch0 : Memref Cert.Sort.sig Kind.scVector Space.vmem Cert.Sort.S4096 EltTy.f32)
local notation "w6" => (Memref.whole Cert.Sort.cc0_scratch1 : Memref Cert.Sort.sig Kind.scVector Space.vmem Cert.Sort.S4096 EltTy.i32)
local notation "w7" => (Memref.whole Cert.Sort.cc0_scratch2 : Memref Cert.Sort.sig Kind.scVector Space.vmem Cert.Sort.S4096 EltTy.i32)
local notation "w8" => (Memref.whole Cert.Sort.cc0_scratch3 : Memref Cert.Sort.sig Kind.scVector Space.vmem Cert.Sort.S4096 EltTy.i32)
local notation "w9" => (Memref.whole Cert.Sort.cc0_scratch4 : Memref Cert.Sort.sig Kind.scVector Space.vmem Cert.Sort.S4096 EltTy.i32)
local notation "w10" => (Memref.whole Cert.Sort.cc0_scratch5 : Memref Cert.Sort.sig Kind.scVector Space.vmem Cert.Sort.S1024 EltTy.i32)
local notation "w11" => (Memref.whole Cert.Sort.cc0_scratch6 : Memref Cert.Sort.sig Kind.scVector Space.vmem Cert.Sort.S1024 EltTy.i32)
local notation "w12" => (Memref.whole Cert.Sort.cc0_scratch7 : Memref Cert.Sort.sig Kind.scVector Space.vmem Cert.Sort.S1024 EltTy.i32)
local notation "w13" => (Memref.whole Cert.Sort.cc0_scratch8 : Memref Cert.Sort.sig Kind.scVector Space.vmem Cert.Sort.S1024 EltTy.i32)
local notation "w14" => (Memref.whole Cert.Sort.cc0_scratch9 : Memref Cert.Sort.sig Kind.scVector Space.vmem Cert.Sort.S1024 EltTy.i32)
local notation "w15" => (Memref.whole Cert.Sort.cc0_scratch10 : Memref Cert.Sort.sig Kind.scVector Space.vmem Cert.Sort.S1024 EltTy.i32)
local notation "w16" => (Memref.whole Cert.Sort.cc0_scratch11 : Memref Cert.Sort.sig Kind.scVector Space.vmem Cert.Sort.S1024 EltTy.i32)
local notation "w17" => (Memref.whole Cert.Sort.cc0_scratch12 : Memref Cert.Sort.sig Kind.scVector Space.vmem Cert.Sort.S1024 EltTy.i32)

abbrev EH : Emb UH (MT nD τ sig (HIx 1) (Elt F) ℕ UU ℕ) := embL

variable (m : (ℓ : Loc nD τ sig) → Buf (Elt F) ℓ) (ρ : Dev nD → PrngReg)

/-! ## The payload -/

def P : (K (F := F)).Pay (nD := nD) (Val := Elt F) (Name := ℕ) (U := UU) where
  st := fun _ d c => iprop(Go m d c.val ∗ Go m d (2 + c.val))
  dn := fun _ d c => iprop(Done m d c.val ∗ Done m d (2 + c.val))
  go := fun _ d c i => Go m d (2 * i.val + c.val)
  td := fun _ d c i => Done m d (2 * i.val + c.val)
  x := fun _ _ => iprop(emp)

instance P_storable : (P (F := F) m).IsStorable where
  st _ d c := by unfold P; infer_instance
  dn _ d c := by unfold P; infer_instance
  go _ d c i := by unfold P; infer_instance
  td _ d c i := by unfold P; infer_instance

theorem bigSep_emp' {I : Type} (s : Finset I) : (bigSep s fun _ => iprop(emp)) = (iprop(emp) : sProp 𝕄) := bigSep_emp_const s

theorem Go_emp (d : Dev nD) {n : ℕ} (h : ¬ n < 4) : Go m d n = iprop(emp) := dif_neg h
theorem Done_emp (d : Dev nD) {n : ℕ} (h : ¬ n < 4) : Done m d n = iprop(emp) := dif_neg h

theorem emp_right (A : sProp 𝕄) : A ⊢ iprop(A ∗ emp) := by
  iintro H; isplitl [H]
  · iexact H
  · iempintro
theorem emp_right' (A : sProp 𝕄) : iprop(A ∗ emp) ⊢ A := by
  iintro ⟨H, -⟩; iexact H

/-- Sixteen tiles of one SparseCore: the first two have a row. -/
theorem tiles_two (Φ : ℕ → sProp 𝕄) (hΦ : ∀ n, ¬ n < 4 → Φ n = iprop(emp)) (c : ℕ) (hc : c < 2) :
    (bigSep (Finset.univ : Finset (Fin 16)) fun i => Φ (2 * i.val + c)) = iprop(Φ c ∗ Φ (2 + c) ∗ emp) := by
  rw [bigSep_list _ [(0 : Fin 16), 1] Finset.univ (by decide) (fun _ _ => Finset.mem_univ _)]
  have h : (bigSep ((Finset.univ : Finset (Fin 16)) \ [(0 : Fin 16), 1].toFinset) fun i => Φ (2 * i.val + c)) = iprop(emp) := by
    rw [bigSep_congr (Ψ := fun _ => iprop(emp)) fun i hi => hΦ _ ?_, bigSep_emp']
    have : 2 ≤ i.val := (by decide : ∀ i ∈ (Finset.univ : Finset (Fin 16)) \ [(0 : Fin 16), 1].toFinset, 2 ≤ i.val) i hi
    omega
  rw [h]
  simp only [List.foldr_cons, List.foldr_nil]
  show iprop(Φ (2 * 0 + c) ∗ Φ (2 * 1 + c) ∗ emp) = _
  rw [show 2 * 0 + c = c by omega, show 2 * 1 + c = 2 + c by omega]

theorem vecSplit : (K (F := F)).VecSplit' (P m) 0 := by
  intro d c
  have hc : c.val < 2 := c.isLt
  show iprop(Go m d c.val ∗ Go m d (2 + c.val)) ⊢ |={Set.univ}=> iprop(
      (bigSep (Finset.univ : Finset (Fin 16)) fun i => Go m d (2 * i.val + c.val))
      ∗ ((bigSep (Finset.univ : Finset (Fin 16)) fun i => Done m d (2 * i.val + c.val)) -∗ iprop(Done m d c.val ∗ Done m d (2 + c.val))))
  rw [tiles_two (Go m d) (fun _ h => Go_emp m d h) c.val hc, tiles_two (Done m d) (fun _ h => Done_emp m d h) c.val hc]
  iintro ⟨Ha, Hb⟩; imodintro
  isplitl [Ha Hb]
  · isplitl [Ha]; · iexact Ha
    isplitl [Hb]; · iexact Hb
    iempintro
  iintro ⟨Ha, Hb, -⟩
  isplitl [Ha]; · iexact Ha
  iexact Hb

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s) xW (Memref.isWhole_whole _) vW (Memref.isWhole_whole _) iW (Memref.isWhole_whole _)
    w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) w17 (Memref.isWhole_whole _) cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [(K (F := F)).scopedBufs_V facts, SparseCore.Cfg.scopedSems0_V]
  exact (tile_body m d (coordsV ⟨_, hc.1⟩ ⟨_, hc.2⟩) O W hO).trans (wp_mono frame _ _ fun _ => obl_post)

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The rows and the whole arrays -/

theorem x_rows (d : Dev nD) (f : Buf (Elt F) (xLoc d)) :
    (xLoc d ↦{fullShare} f : sProp 𝕄) = bigSep (Finset.univ : Finset (Fin 4)) fun r => (xLoc d ↦[rowSet r]{fullShare} f) := by
  refine Eq.trans ?_ (pointsTo_biUnion (ℓ := xLoc d) Finset.univ rowSet rows_disjoint)
  exact congrArg (fun S : Finset S16384.Idx => (xLoc d ↦[S]{fullShare} f : sProp 𝕄)) rows_cover.symm
theorem v_rows (d : Dev nD) (f : Buf (Elt F) (vLoc d)) :
    (vLoc d ↦{fullShare} f : sProp 𝕄) = bigSep (Finset.univ : Finset (Fin 4)) fun r => (vLoc d ↦[rowSet r]{fullShare} f) := by
  refine Eq.trans ?_ (pointsTo_biUnion (ℓ := vLoc d) Finset.univ rowSet rows_disjoint)
  exact congrArg (fun S : Finset S16384.Idx => (vLoc d ↦[S]{fullShare} f : sProp 𝕄)) rows_cover.symm
theorem p_rows (d : Dev nD) (f : Buf (Elt F) (pLoc d)) :
    (pLoc d ↦{fullShare} f : sProp 𝕄) = bigSep (Finset.univ : Finset (Fin 4)) fun r => (pLoc d ↦[rowSet r]{fullShare} f) := by
  refine Eq.trans ?_ (pointsTo_biUnion (ℓ := pLoc d) Finset.univ rowSet rows_disjoint)
  exact congrArg (fun S : Finset S16384.Idx => (pLoc d ↦[S]{fullShare} f : sProp 𝕄)) rows_cover.symm

theorem v_join (d : Dev nD) (fs : Fin 4 → Buf (Elt F) (vLoc d)) :
    (bigSep (Finset.univ : Finset (Fin 4)) fun r => (vLoc d ↦[rowSet r]{fullShare} fs r) : sProp 𝕄)
      ⊢ iprop(∃ g : Buf (Elt F) (vLoc d), ⌜∀ r : Fin 4, rowOf r.val (g : Vec F S16384 .f32) = rowOf r.val (fs r : Vec F S16384 .f32)⌝ ∗ (vLoc d ↦{fullShare} g)) := by
  have h : (bigSep (Finset.univ : Finset (Fin 4)) fun r => (vLoc d ↦[rowSet r]{fullShare} fs r) : sProp 𝕄)
      ⊢ iprop(∃ g : Buf (Elt F) (vLoc d), ⌜∀ t ∈ (Finset.univ : Finset (Fin 4)), ∀ i ∈ rowSet t, g i = fs t i⌝ ∗ (vLoc d ↦[(Finset.univ : Finset (Fin 4)).biUnion rowSet]{fullShare} g)) :=
    pointsTo_biUnion_join (ℓ := vLoc d) Finset.univ rowSet fs (fs 0) rows_disjoint
  refine h.trans ?_
  iintro ⟨%g, %hg, H⟩
  iexists g; isplitr
  · ipureintro; exact fun r => funext fun j => hg r (Finset.mem_univ r) _ (row_mem r j)
  · iapply (Entails.of_eq (congrArg (fun S : Finset S16384.Idx => (vLoc d ↦[S]{fullShare} g : sProp 𝕄)) rows_cover)); iexact H
theorem p_join (d : Dev nD) (fs : Fin 4 → Buf (Elt F) (pLoc d)) :
    (bigSep (Finset.univ : Finset (Fin 4)) fun r => (pLoc d ↦[rowSet r]{fullShare} fs r) : sProp 𝕄)
      ⊢ iprop(∃ g : Buf (Elt F) (pLoc d), ⌜∀ r : Fin 4, rowOf r.val (g : Vec F S16384 .i32) = rowOf r.val (fs r : Vec F S16384 .i32)⌝ ∗ (pLoc d ↦{fullShare} g)) := by
  have h : (bigSep (Finset.univ : Finset (Fin 4)) fun r => (pLoc d ↦[rowSet r]{fullShare} fs r) : sProp 𝕄)
      ⊢ iprop(∃ g : Buf (Elt F) (pLoc d), ⌜∀ t ∈ (Finset.univ : Finset (Fin 4)), ∀ i ∈ rowSet t, g i = fs t i⌝ ∗ (pLoc d ↦[(Finset.univ : Finset (Fin 4)).biUnion rowSet]{fullShare} g)) :=
    pointsTo_biUnion_join (ℓ := pLoc d) Finset.univ rowSet fs (fs 0) rows_disjoint
  refine h.trans ?_
  iintro ⟨%g, %hg, H⟩
  iexists g; isplitr
  · ipureintro; exact fun r => funext fun j => hg r (Finset.mem_univ r) _ (row_mem r j)
  · iapply (Entails.of_eq (congrArg (fun S : Finset S16384.Idx => (pLoc d ↦[S]{fullShare} g : sProp 𝕄)) rows_cover)); iexact H

theorem four (Φ : Fin 4 → sProp 𝕄) : bigSep (Finset.univ : Finset (Fin 4)) Φ = iprop(Φ 0 ∗ Φ 1 ∗ Φ 2 ∗ Φ 3 ∗ emp) := by
  rw [bigSep_list Φ [(0 : Fin 4), 1, 2, 3] Finset.univ (by decide) (fun _ _ => Finset.mem_univ _),
    show (Finset.univ : Finset (Fin 4)) \ [(0 : Fin 4), 1, 2, 3].toFinset = ∅ by decide, bigSep_empty]
  rfl

theorem st0_eq (d : Dev nD) : (bigSep Finset.univ fun c : Fin ((K (F := F)).nCore 0) => (P m).st 0 d c)
    = iprop((RowPre m d 0 ∗ RowPre m d 2) ∗ (RowPre m d 1 ∗ RowPre m d 3)) := by
  show (bigSep (Finset.univ : Finset (Fin 2)) fun c => iprop(Go m d c.val ∗ Go m d (2 + c.val))) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c)
    = iprop((RowPost m d 0 ∗ RowPost m d 2) ∗ (RowPost m d 1 ∗ RowPost m d 3)) := by
  show (bigSep (Finset.univ : Finset (Fin 2)) fun c => iprop(Done m d c.val ∗ Done m d (2 + c.val))) = _
  rw [show (Finset.univ : Finset (Fin 2)) = {0, 1} by decide, SparseCore.bigSep_insert' (by decide), bigSep_singleton]
  rfl

theorem st0_of (d : Dev nD) :
    iprop((xLoc d ↦{fullShare} m (xLoc d)) ∗ (vLoc d ↦{fullShare} m (vLoc d)) ∗ (pLoc d ↦{fullShare} m (pLoc d)))
      ⊢ (bigSep Finset.univ fun c : Fin ((K (F := F)).nCore 0) => (P m).st 0 d c) := by
  rw [st0_eq, x_rows, v_rows, p_rows, four, four, four]
  unfold RowPre
  iintro ⟨⟨A0, A1, A2, A3, -⟩, ⟨B0, B1, B2, B3, -⟩, ⟨C0, C1, C2, C3, -⟩⟩
  isplitl [A0 A2 B0 B2 C0 C2]
  · isplitl [A0 B0 C0]
    · isplitl [A0]; · iexact A0
      isplitl [B0]; · iexact B0
      iexact C0
    · isplitl [A2]; · iexact A2
      isplitl [B2]; · iexact B2
      iexact C2
  · isplitl [A1 B1 C1]
    · isplitl [A1]; · iexact A1
      isplitl [B1]; · iexact B1
      iexact C1
    · isplitl [A3]; · iexact A3
      isplitl [B3]; · iexact B3
      iexact C3

/-- All four rows sorted. -/
def SortedAll (X : Vec F S16384 .f32) (gv : Vec F S16384 .f32) (gp : Vec F S16384 .i32) : Prop := ∀ r : Fin 4, SortedRow r.val X gv gp

theorem of_dn0 (d : Dev nD) :
    (bigSep Finset.univ fun c : Fin ((K (F := F)).nCore 0) => (P m).dn 0 d c)
      ⊢ iprop((xLoc d ↦{fullShare} m (xLoc d)) ∗ ∃ (gv : Buf (Elt F) (vLoc d)) (gp : Buf (Elt F) (pLoc d)),
          ⌜SortedAll (m (xLoc d)) gv gp⌝ ∗ (vLoc d ↦{fullShare} gv) ∗ (pLoc d ↦{fullShare} gp)) := by
  rw [dn0_eq, x_rows, four]
  unfold RowPost
  iintro ⟨⟨⟨A0, %v0, %p0, %s0, B0, C0⟩, ⟨A2, %v2, %p2, %s2, B2, C2⟩⟩, ⟨⟨A1, %v1, %p1, %s1, B1, C1⟩, ⟨A3, %v3, %p3, %s3, B3, C3⟩⟩⟩
  isplitl [A0 A1 A2 A3]
  · isplitl [A0]; · iexact A0
    isplitl [A1]; · iexact A1
    isplitl [A2]; · iexact A2
    isplitl [A3]; · iexact A3
    iempintro
  have hv := v_join d (![v0, v1, v2, v3] : Fin 4 → Buf (Elt F) (vLoc d))
  have hp := p_join d (![p0, p1, p2, p3] : Fin 4 → Buf (Elt F) (pLoc d))
  rw [four] at hv hp
  ihave HV := hv $$ [B0 B1 B2 B3]
  · isplitl [B0]; · iexact B0
    isplitl [B1]; · iexact B1
    isplitl [B2]; · iexact B2
    isplitl [B3]; · iexact B3
    iempintro
  ihave HP := hp $$ [C0 C1 C2 C3]
  · isplitl [C0]; · iexact C0
    isplitl [C1]; · iexact C1
    isplitl [C2]; · iexact C2
    isplitl [C3]; · iexact C3
    iempintro
  icases HV with ⟨%gv, %hgv, HV⟩
  icases HP with ⟨%gp, %hgp, HP⟩
  iexists gv, gp
  isplitr
  · ipureintro
    intro r
    unfold SortedRow
    rw [hgv r, hgp r]
    fin_cases r
    · exact s0
    · exact s1
    · exact s2
    · exact s3
  isplitl [HV]; · iexact HV
  iexact HP

/-! ## @main -/

abbrev bX : DevRef τ sig := Proc.devRef .tc (main_arg0 : Ref sig .tc)
abbrev bV : DevRef τ sig := Proc.devRef .tc (main_v0_0 : Ref sig .tc)
abbrev bP : DevRef τ sig := Proc.devRef .tc (main_v0_1 : Ref sig .tc)
abbrev b1 : DevRef τ sig := Proc.devRef .tc (main_v1 : Ref sig .tc)
abbrev b2 : DevRef τ sig := Proc.devRef .tc (main_v2 : Ref sig .tc)
abbrev b3 : DevRef τ sig := Proc.devRef .tc (main_v3 : Ref sig .tc)
abbrev b4 : DevRef τ sig := Proc.devRef .tc (main_v4 : Ref sig .tc)
abbrev bC : DevRef τ sig := Proc.devRef .tc (main_c : Ref sig .tc)
abbrev S8 : Finset (DevRef τ sig) := {bX, bV, bP, b1, b2, b3, b4, bC}

theorem held_S8 (d : Dev nD) (W : Valuation τ sig (Elt F)) :
    (held (SparseCore.T d) S8 W : sProp 𝕄) = iprop((xLoc d ↦{fullShare} W bX) ∗ (vLoc d ↦{fullShare} W bV) ∗ (pLoc d ↦{fullShare} W bP)
      ∗ ((SparseCore.T d).loc main_v1 ↦{fullShare} W b1) ∗ ((SparseCore.T d).loc main_v2 ↦{fullShare} W b2) ∗ ((SparseCore.T d).loc main_v3 ↦{fullShare} W b3)
      ∗ ((SparseCore.T d).loc main_v4 ↦{fullShare} W b4) ∗ ((SparseCore.T d).loc main_c ↦{fullShare} W bC)) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (vLoc d ↦{fullShare} W main_v0_0) ∗ (pLoc d ↦{fullShare} W main_v0_1)
      ∗ ((SparseCore.T d).loc main_v1 ↦{fullShare} W main_v1) ∗ ((SparseCore.T d).loc main_v2 ↦{fullShare} W main_v2) ∗ ((SparseCore.T d).loc main_v3 ↦{fullShare} W main_v3)
      ∗ ((SparseCore.T d).loc main_v4 ↦{fullShare} W main_v4) ∗ ((SparseCore.T d).loc main_c ↦{fullShare} W main_c)) := by
  unfold unscopedBufs
  rw [show (Finset.univ.filter fun b : Ref sig .tc => ¬ b.isScoped) = {main_arg0, main_v0_0, main_v0_1, main_v1, main_v2, main_v3, main_v4, main_c} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

def V0 (d : Dev nD) : Valuation τ sig (Elt F) := fun b => m (d, b)
/-- The valuation after the call. -/
def V1 (d : Dev nD) (gv : Buf (Elt F) (vLoc d)) (gp : Buf (Elt F) (pLoc d)) : Valuation τ sig (Elt F) :=
  Function.update (Function.update (V0 m d) bV gv) bP gp

theorem unscoped_held (d : Dev nD) : (unscopedBufs d (fun b => m ((SparseCore.T d).loc b)) : sProp 𝕄) = held (SparseCore.T d) S8 (V0 m d) := by
  rw [unscopedBufs_eq, held_S8]; rfl

section
variable (d : Dev nD) (gv : Buf (Elt F) (vLoc d)) (gp : Buf (Elt F) (pLoc d))
theorem V1_V : V1 m d gv gp bV = gv := (Function.update_of_ne (show bV ≠ bP by decide) _ _).trans (Function.update_self _ _ _)
theorem V1_P : V1 m d gv gp bP = gp := Function.update_self _ _ _
theorem V1_ne {b : DevRef τ sig} (h1 : b ≠ bV) (h2 : b ≠ bP) : V1 m d gv gp b = V0 m d b :=
  (Function.update_of_ne h2 _ _).trans (Function.update_of_ne h1 _ _)
end

abbrev opR1 : HloOp τ sig (Elt F) := StableHlo.reshape main_v0_0 main_v1 (rfl : (.f32 : EltTy) = .f32) shapeCasts_S16384_S4x4096
abbrev opS1 : HloOp τ sig (Elt F) := StableHlo.unary main_v1 main_v2 ((extractStridedSlice S4x3276 ![0, 0] · slices_S4x4096_S4x3276_0_0) : (⟨S4x4096, .f32⟩ : BufTy).Contents (Elt F) → (⟨S4x3276, .f32⟩ : BufTy).Contents (Elt F))
abbrev opR2 : HloOp τ sig (Elt F) := StableHlo.reshape main_v0_1 main_v3 (rfl : (.i32 : EltTy) = .i32) shapeCasts_S16384_S4x4096
abbrev opS2 : HloOp τ sig (Elt F) := StableHlo.unary main_v3 main_v4 ((extractStridedSlice S4x3276 ![0, 0] · slices_S4x4096_S4x3276_0_0) : (⟨S4x4096, .i32⟩ : BufTy).Contents (Elt F) → (⟨S4x3276, .i32⟩ : BufTy).Contents (Elt F))
abbrev opC : HloOp τ sig (Elt F) := StableHlo.nullary main_c (constantI S_ 32 3276#32)

theorem subopR1 : (opR1 (F := F)).bufs ⊆ S8 := show ({bV, b1} : Finset (DevRef τ sig)) ⊆ S8 by decide
theorem subopS1 : (opS1 (F := F)).bufs ⊆ S8 := show ({b1, b2} : Finset (DevRef τ sig)) ⊆ S8 by decide
theorem subopR2 : (opR2 (F := F)).bufs ⊆ S8 := show ({bP, b3} : Finset (DevRef τ sig)) ⊆ S8 by decide
theorem subopS2 : (opS2 (F := F)).bufs ⊆ S8 := show ({b3, b4} : Finset (DevRef τ sig)) ⊆ S8 by decide
theorem subopC : (opC (F := F)).bufs ⊆ S8 := show ({bC} : Finset (DevRef τ sig)) ⊆ S8 by decide

/-- The first 3276 columns of the four rows on end. -/
def cut {e : EltTy} (g : Vec F S16384 e) : Vec F S4x3276 e := extractStridedSlice S4x3276 ![0, 0] (shapeCast S4x4096 g shapeCasts_S16384_S4x4096) slices_S4x4096_S4x3276_0_0

/-- The valuation at the end of @main. -/
abbrev VE (V : Valuation τ sig (Elt F)) : Valuation τ sig (Elt F) := opC.result (opS2.result (opR2.result (opS1.result (opR1.result V))))

theorem VE_X (V : Valuation τ sig (Elt F)) : VE V bX = V bX := by
  unfold VE
  rw [StableHlo.nullary_result_ne' _ _ _ (by decide), StableHlo.unary_result_ne' _ _ _ _ (by decide), StableHlo.reshape_result_ne' _ _ _ _ _ (by decide),
    StableHlo.unary_result_ne' _ _ _ _ (by decide), StableHlo.reshape_result_ne' _ _ _ _ _ (by decide)]
theorem VE_2 (V : Valuation τ sig (Elt F)) : VE V b2 = cut (V bV : Vec F S16384 .f32) := by
  unfold VE
  rw [StableHlo.nullary_result_ne' _ _ _ (by decide), StableHlo.unary_result_ne' _ _ _ _ (by decide), StableHlo.reshape_result_ne' _ _ _ _ _ (by decide),
    StableHlo.unary_result', StableHlo.reshape_result']
  rfl
theorem VE_4 (V : Valuation τ sig (Elt F)) : VE V b4 = cut (V bP : Vec F S16384 .i32) := by
  unfold VE
  rw [StableHlo.nullary_result_ne' _ _ _ (by decide), StableHlo.unary_result', StableHlo.reshape_result',
    StableHlo.unary_result_ne' _ _ _ _ (by decide), StableHlo.reshape_result_ne' _ _ _ _ _ (by decide)]
  rfl
theorem VE_C (V : Valuation τ sig (Elt F)) : VE V bC = (constantI S_ 32 3276#32 : IVec S_ 32) := by
  unfold VE
  rw [StableHlo.nullary_result']

/-- What @main leaves the claim. -/
def FIN (d : Dev nD) : sProp 𝕄 :=
  iprop(∃ (gv : Vec F S16384 .f32) (gp : Vec F S16384 .i32), ⌜SortedAll (m (xLoc d)) gv gp⌝ ∗ (xLoc d ↦{fullShare} m (xLoc d))
    ∗ ((SparseCore.T d).loc main_v2 ↦{fullShare} (cut gv : Vec F S4x3276 .f32)) ∗ ((SparseCore.T d).loc main_v4 ↦{fullShare} (cut gp : Vec F S4x3276 .i32))
    ∗ ((SparseCore.T d).loc main_c ↦{fullShare} (constantI S_ 32 3276#32 : IVec S_ 32)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_S8 (F := F) d _)) $$ Hheld
  icases Hh with ⟨Hx, Hv, Hp, H1, H2, H3, H4, Hc⟩
  iapply ((K (F := F)).wp_run (D (F := F)) 𝒱 (EH := EH) (P := P m) κ d 0) $$ [Hst Hx Hv Hp H1 H2 H3 H4 Hc Hb Hts]
  isplitr; · iexact Hctx
  isplitl [Hst]; · iexact Hst
  isplitl [Hx Hv Hp]
  · iapply (st0_of m d)
    isplitl [Hx]; · iexact Hx
    isplitl [Hv]; · iexact Hv
    iexact Hp
  iintro ⟨Hst, Hdn⟩
  ihave Hdn' := (of_dn0 m d) $$ Hdn
  icases Hdn' with ⟨Hx, %gv, %gp, %hs, Hv, Hp⟩
  iapply (wp_hlo_within 𝒱 (SparseCore.T d) none Set.univ (op := opR1) (S := S8) subopR1 (V := V1 m d gv gp)) $$ [Hb Hx Hv Hp H1 H2 H3 H4 Hc]
  · isplitl [Hb]; · iexact Hb
    rw [held_S8, V1_V, V1_P, V1_ne m d gv gp (by decide) (by decide), V1_ne m d gv gp (by decide) (by decide), V1_ne m d gv gp (by decide) (by decide),
      V1_ne m d gv gp (by decide) (by decide), V1_ne m d gv gp (by decide) (by decide), V1_ne m d gv gp (by decide) (by decide)]
    isplitl [Hx]; · iexact Hx
    isplitl [Hv]; · iexact Hv
    isplitl [Hp]; · iexact Hp
    isplitl [H1]; · iexact H1
    isplitl [H2]; · iexact H2
    isplitl [H3]; · iexact H3
    isplitl [H4]; · iexact H4
    iexact Hc
  iintro ⟨Hb, Hheld⟩
  rw [wp_ret]; imodintro
  iapply (wp_hlo_within 𝒱 (SparseCore.T d) none Set.univ (op := opS1) (S := S8) subopS1) $$ [Hb Hheld]
  · isplitl [Hb]; · iexact Hb
    iexact Hheld
  iintro ⟨Hb, Hheld⟩
  rw [wp_ret]; imodintro
  iapply (wp_hlo_within 𝒱 (SparseCore.T d) none Set.univ (op := opR2) (S := S8) subopR2) $$ [Hb Hheld]
  · isplitl [Hb]; · iexact Hb
    iexact Hheld
  iintro ⟨Hb, Hheld⟩
  rw [wp_ret]; imodintro
  iapply (wp_hlo_within 𝒱 (SparseCore.T d) none Set.univ (op := opS2) (S := S8) subopS2) $$ [Hb Hheld]
  · isplitl [Hb]; · iexact Hb
    iexact Hheld
  iintro ⟨Hb, Hheld⟩
  rw [wp_ret]; imodintro
  iapply (wp_hlo_within 𝒱 (SparseCore.T d) none Set.univ (op := opC) (S := S8) subopC) $$ [Hb Hheld]
  · isplitl [Hb]; · iexact Hb
    iexact Hheld
  iintro ⟨Hb, Hheld⟩
  rw [wp_ret]; imodintro; imodintro
  ihave Hh := (Entails.of_eq ((held_S8 (F := F) d (VE (V1 m d gv gp))))) $$ [Hheld]
  · iexact Hheld
  rw [VE_X, VE_2, VE_4, VE_C, V1_V, V1_P, V1_ne m d gv gp (by decide) (by decide)]
  icases Hh with ⟨Hx, -, -, -, H2, -, H4, Hc⟩
  isplitl [Hst]; · iexact Hst
  isplitr [Hb Hts]
  · unfold FIN
    iexists gv, gp
    isplitr; · ipureintro; exact hs
    isplitl [Hx]; · iexact Hx
    isplitl [H2]; · iexact H2
    isplitl [H4]; · iexact H4
    iexact Hc
  isplitl [Hb] <;> iassumption

/-! ## The run -/

/-- What the final memory holds on device `d`. -/
def fq (d : Dev nD) (s' : Phys nD τ sig (Elt F)) : Prop :=
  s'.mem.mem (xLoc d) = m (xLoc d) ∧ ∃ (gv : Vec F S16384 .f32) (gp : Vec F S16384 .i32), SortedAll (m (xLoc d)) gv gp
    ∧ s'.mem.mem ((SparseCore.T d).loc main_v2) = (cut gv : Vec F S4x3276 .f32) ∧ s'.mem.mem ((SparseCore.T d).loc main_v4) = (cut gp : Vec F S4x3276 .i32)
    ∧ s'.mem.mem ((SparseCore.T d).loc main_c) = (constantI S_ 32 3276#32 : IVec S_ 32)

theorem agree (d : Dev nD) (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem agree_keep (d : Dev nD) (s' : Phys nD τ sig (Elt F)) (ℓ : Loc nD τ sig) (f : Buf (Elt F) ℓ) :
    iprop((ℓ ↦{fullShare} f) ∗ SI s') ⊢ iprop((⌜s'.mem.mem ℓ = f⌝ : sProp 𝕄) ∗ SI s') := by
  by_cases h : s'.mem.mem ℓ = f
  · iintro ⟨Hx, H⟩
    isplitr
    · ipureintro; exact h
    · iexact H
  · iintro H
    ihave H' := (agree d s' ℓ f) $$ H
    icases H' with %h'
    exact absurd h' h

theorem hfin (d : Dev nD) (s' : Phys nD τ sig (Elt F)) : iprop(FIN m d ∗ SI s') ⊢ (⌜fq m d s'⌝ : sProp 𝕄) := by
  unfold FIN
  iintro ⟨⟨%gv, %gp, %hs, Hx, H2, H4, Hc⟩, HSI⟩
  ihave H := (agree_keep d s' _ _) $$ [Hx HSI]
  · isplitl [Hx] <;> iassumption
  icases H with ⟨%hx, HSI⟩
  ihave H := (agree_keep d s' _ _) $$ [H2 HSI]
  · isplitl [H2] <;> iassumption
  icases H with ⟨%h2, HSI⟩
  ihave H := (agree_keep d s' _ _) $$ [H4 HSI]
  · isplitl [H4] <;> iassumption
  icases H with ⟨%h4, HSI⟩
  ihave H := (agree_keep d s' _ _) $$ [Hc HSI]
  · isplitl [Hc] <;> iassumption
  icases H with ⟨%hc, HSI⟩
  ipureintro
  exact ⟨hx, gv, gp, hs, h2, h4, hc⟩

def QC : PUnit × MemSt nD τ sig (Elt F) → Prop := fun r =>
  (∀ d : Dev nD, r.2.mem (xLoc d) = m (xLoc d) ∧ ∃ (gv : Vec F S16384 .f32) (gp : Vec F S16384 .i32), SortedAll (m (xLoc d)) gv gp
    ∧ r.2.mem ((SparseCore.T d).loc main_v2) = (cut gv : Vec F S4x3276 .f32) ∧ r.2.mem ((SparseCore.T d).loc main_v4) = (cut gp : Vec F S4x3276 .i32)
    ∧ r.2.mem ((SparseCore.T d).loc main_c) = (constantI S_ 32 3276#32 : IVec S_ 32)) ∧ r.2.sem = fun _ => 0

theorem run_main [∀ e, Nonempty (Elt F e)] : θ_run (Cert.Sort.defs (F := F)) (Cert.Sort.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Radix
-- ==== Proof.Value.lean ====
/-
  What the tiles leave is the reference's top k: on probabilities whose words are below 2^30 the place that the three
  passes give a position is where a stable sort, greatest first, puts it.
-/
module

public import proofs.«01_k».proof.Proof.Launch
public import proofs.«01_k».proof.Defs
public import Idealize.ShloMosaic.Lib.SortKey
public import proofs.«01_k».proof.Proof.Gen.SortRef
public import proofs.«01_k».proof.Proof.Gen.SortRef.Run

@[expose] public section

noncomputable section

namespace Cert.Proof.Radix

open Cert.Sort Cert.Sort.Gen
open Idealize.ShloMosaic

/-! ## One word -/

/-- A probability's word is below `2^30` and not negative. -/
def InRange (X : Vec Bits S16384 .f32) : Prop := ∀ j, (X j : BitVec 32).toNat < 2 ^ 30

theorem msb_of_lt (y : BitVec 32) (h : y.toNat < 2 ^ 30) : y.msb = false := by
  rw [BitVec.msb_eq_false_iff_two_mul_lt]
  omega

theorem slt_zero (y : BitVec 32) : y.slt 0#32 = y.msb := by
  rw [BitVec.slt_eq_decide, BitVec.toInt_eq_msb_cond]
  cases h : y.msb
  · simp
  · have := y.isLt
    simp
    omega

theorem keyW_bits (y : BitVec 32) (h : y.toNat < 2 ^ 30) : keyW (F := Bits) y = y ^^^ 2147483647#32 := by
  have e : keyW (F := Bits) y
      = (if BitVec.ofBool (y.slt 0#32) = 1#1 then y ^^^ 4294967295#32 else y ^^^ 2147483648#32) ^^^ 4294967295#32 := rfl
  rw [e, slt_zero, msb_of_lt y h, if_neg (by decide), BitVec.xor_assoc]
  rfl

theorem key_mod (y : BitVec 32) (h : y.toNat < 2 ^ 30) : (keyW (F := Bits) y).toNat % 2 ^ 30 = 2 ^ 30 - 1 - y.toNat := by
  rw [keyW_bits y h, ← BitVec.toNat_setWidth, BitVec.setWidth_xor,
    show BitVec.setWidth 30 2147483647#32 = BitVec.allOnes 30 from by decide, BitVec.xor_allOnes, BitVec.toNat_not,
    BitVec.toNat_setWidth, Nat.mod_eq_of_lt h]

theorem unkey_key (y : BitVec 32) (h : y.toNat < 2 ^ 30) : unkeyW (F := Bits) (keyW (F := Bits) y) = y := by
  rw [keyW_bits y h]
  have e : ∀ k : BitVec 32, unkeyW (F := Bits) k
      = (if BitVec.ofBool ((k ^^^ 4294967295#32).slt 0#32) = 1#1 then (k ^^^ 4294967295#32) ^^^ 2147483648#32
          else (k ^^^ 4294967295#32) ^^^ 4294967295#32) := fun _ => rfl
  have e1 : (y ^^^ 2147483647#32) ^^^ 4294967295#32 = y ^^^ 2147483648#32 := by
    rw [BitVec.xor_assoc]; rfl
  rw [e, e1, slt_zero, BitVec.msb_xor, msb_of_lt y h, if_pos (by decide), BitVec.xor_assoc, BitVec.xor_self, BitVec.xor_zero]

/-- The host's comparison, greatest first. -/
theorem gt_iff (x y : BitVec 32) (hx : x.toNat < 2 ^ 30) (hy : y.toNat < 2 ^ 30) :
    ((FloatOps.cmpfTotal (F := Bits) (φ := .f32) .gt x y) == 1#1) = decide (y.toNat < x.toNat) := by
  rw [cmpfTotal_f32_eq_cmpi_sortableKey]
  have e : ∀ u v : BitVec 32, IntOp.cmpi CmpDirection.gt.signed u v = BitVec.ofBool (v.slt u) := fun _ _ => rfl
  erw [sortableKey_of_msb_false x (msb_of_lt x hx), sortableKey_of_msb_false y (msb_of_lt y hy), e]
  rw [BitVec.slt_eq_decide, BitVec.toInt_eq_toNat_of_msb (msb_of_lt x hx), BitVec.toInt_eq_toNat_of_msb (msb_of_lt y hy)]
  by_cases hlt : y.toNat < x.toNat
  · rw [decide_eq_true hlt, decide_eq_true (by omega)]; rfl
  · rw [decide_eq_false hlt, decide_eq_false (by omega)]; rfl

/-! ## One row -/

/-- The same passes, of the numbers below `2^30`. -/
theorem Passes.mod {N D1 D2 D3 : ℕ → ℕ} (H : Passes N D1 D2 D3) : Passes (fun j => N j % 2 ^ 30) D1 D2 D3 where
  d1 j hj := by rw [H.d1 j hj]; unfold dig; omega
  d2 j hj := by rw [H.d2 j hj]; unfold dig; omega
  d3 j hj := by rw [H.d3 j hj]; unfold dig; omega

/-- A sorted row's element `k` is the row's element at the position that the stable sort puts at `k`. -/
theorem sorted_row (a v : ℕ → BitVec 32) (p : ℕ → BitVec 32) (ha : ∀ j, (a j).toNat < 2 ^ 30) (h : Sorted (F := Bits) a v p) (k : Fin 4096)
    (R : Fin 4096 → Fin 4096 → Bool) (hR : R = fun x y => (FloatOps.cmpfTotal (F := Bits) (φ := .f32) .gt (a x.val) (a y.val)) == 1#1) :
    v k.val = a (sortedFrom R k).val ∧ p k.val = BitVec.ofNat 32 (sortedFrom R k).val := by
  obtain ⟨D1, D2, D3, H, hv⟩ := h
  let f : Fin 4096 → Fin 4096 := fun j => ⟨place3 D1 D2 D3 j.val, place3_lt D1 D2 D3 j.isLt⟩
  have hf : Function.Injective f := fun x y e => Fin.ext (place3_inj D1 D2 D3 x.isLt y.isLt (congrArg Fin.val e))
  let e : Equiv.Perm (Fin 4096) := Equiv.ofBijective f (Finite.injective_iff_bijective.mp hf)
  obtain ⟨q, rfl⟩ := e.surjective k
  have hs : sortedFrom R (e q) = q := by
    refine sortedFrom_place R e (fun x y hxy => ?_) q
    rw [hR]
    dsimp only
    rw [gt_iff _ _ (ha _) (ha _)]
    apply decide_eq_decide.mpr
    have ht := place3_lt_iff H.mod y.isLt x.isLt (Nat.mod_lt _ (by decide)) (Nat.mod_lt _ (by decide))
    rw [key_mod _ (ha _), key_mod _ (ha _)] at ht
    have h1 := ha x.val
    have h2 := ha y.val
    have h3 : x.val < y.val := hxy
    show _ ↔ (place3 D1 D2 D3 y.val < place3 D1 D2 D3 x.val)
    rw [ht]
    omega
  rw [hs]
  obtain ⟨h1, h2⟩ := hv q.val q.isLt
  refine ⟨?_, h2⟩
  show v (place3 D1 D2 D3 q.val) = _
  rw [h1, unkey_key _ (ha _)]

/-! ## The four rows -/

abbrev ixR (r : Fin 4) (k : Fin 4096) : S4x4096.Idx := fun | 0 => r | 1 => k

theorem cast_apply {α : Type} (g : S16384.Idx → α) (r : Fin 4) (k : Fin 4096) :
    shapeCast S4x4096 g shapeCasts_S16384_S4x4096 (ixR r k) = rowOf r.val g k.val := by
  unfold shapeCast rowOf
  refine congrArg g (Shape.reshapeEquiv_eq_of_rowMajor _ ?_)
  rw [Shape.rowMajor_val_one, Shape.rowMajor_val_two]
  show (4096 * r.val + k.val % 4096) % 16384 = r.val * 4096 + k.val
  have := r.isLt; have := k.isLt
  omega

/-- A column of the cut array, among all the columns. -/
abbrev colR (i : S4x3276.Idx) : Fin 4096 := ⟨(i 1).val, by have h : (i 1).val < 3276 := (i 1).isLt; omega⟩

theorem cut_apply {e : EltTy} (g : Vec Bits S16384 e) (i : S4x3276.Idx) : cut g i = rowOf (i 0).val g (i 1).val := by
  refine Eq.trans ?_ (cast_apply g (i 0) (colR i))
  show shapeCast S4x4096 g shapeCasts_S16384_S4x4096 _ = _
  refine congrArg (shapeCast S4x4096 g shapeCasts_S16384_S4x4096) ?_
  funext a
  match a with
  | 0 => exact Fin.ext (Nat.zero_add _)
  | 1 => exact Fin.ext (Nat.zero_add _)

theorem along_eq (r : Fin 4) (k k' : Fin 4096) : (ixR r k).along 1 k' = ixR r k' := by
  funext a
  match a with
  | 0 => rfl
  | 1 => rfl

abbrev refTop (X : Vec Bits S16384 .f32) :=
  Host.topK Cert.SortRef.S4x3276 1 (FloatOps.cmpfTotal (F := Bits) (φ := .f32) .gt)
    (shapeCast Cert.SortRef.S4x4096 X Cert.SortRef.Gen.shapeCasts_S16384_S4x4096) Cert.SortRef.Gen.sliceFits_S4x4096_S4x3276

abbrev relR (X : Vec Bits S16384 .f32) (r : Fin 4) : Fin 4096 → Fin 4096 → Bool := fun x y =>
  (FloatOps.cmpfTotal (F := Bits) (φ := .f32) .gt (rowOf r.val X x.val) (rowOf r.val X y.val)) == 1#1

theorem sort2_apply (gt : BitVec 32 → BitVec 32 → BitVec 1) (x idx : S4x4096.Idx → BitVec 32) (r : Fin 4) (c : Fin 4096) :
    (Host.sort2 S4x4096 1 (fun l r => gt l.1 r.1) x idx).1 (ixR r c)
      = x (ixR r (sortedFrom (fun k k' => gt (x (ixR r k)) (x (ixR r k')) == 1#1) c))
    ∧ (Host.sort2 S4x4096 1 (fun l r => gt l.1 r.1) x idx).2 (ixR r c)
      = idx (ixR r (sortedFrom (fun k k' => gt (x (ixR r k)) (x (ixR r k')) == 1#1) c)) := by
  have hR : (fun k k' : Fin 4096 => gt (x ((ixR r c).along 1 k)) (x ((ixR r c).along 1 k')) == 1#1)
      = fun k k' => gt (x (ixR r k)) (x (ixR r k')) == 1#1 := by
    funext k k'
    rw [along_eq r c k, along_eq r c k']
  constructor
  · refine Eq.trans (b := x ((ixR r c).along 1 (sortedFrom (fun k k' : Fin 4096 => gt (x ((ixR r c).along 1 k)) (x ((ixR r c).along 1 k')) == 1#1) c))) rfl ?_
    rw [hR]
    exact congrArg x (along_eq r c _)
  · refine Eq.trans (b := idx ((ixR r c).along 1 (sortedFrom (fun k k' : Fin 4096 => gt (x ((ixR r c).along 1 k)) (x ((ixR r c).along 1 k')) == 1#1) c))) rfl ?_
    rw [hR]
    exact congrArg idx (along_eq r c _)

theorem topK_apply (gt : BitVec 32 → BitVec 32 → BitVec 1) (x : S4x4096.Idx → BitVec 32) (h : S4x4096.Slices (fun _ => 0) S4x3276) (i : S4x3276.Idx) :
    (Host.topK S4x3276 1 gt x h).1 i
      = x (ixR (i 0) (sortedFrom (fun k k' => gt (x (ixR (i 0) k)) (x (ixR (i 0) k')) == 1#1) (colR i)))
    ∧ (Host.topK S4x3276 1 gt x h).2 i
      = BitVec.ofNat 32 (sortedFrom (fun k k' => gt (x (ixR (i 0) k)) (x (ixR (i 0) k')) == 1#1) (colR i)).val := by
  have hj : ∀ (q : Fin 2 → Prop) (w : ∀ a : Fin 2, 0 + (i a).val < S4x4096.size a),
      (fun a : Fin 2 => (⟨0 + (i a).val, w a⟩ : Fin (S4x4096.size a))) = ixR (i 0) (colR i) := by
    intro _ w
    funext a
    match a with
    | 0 => exact Fin.ext (Nat.zero_add _)
    | 1 => exact Fin.ext (Nat.zero_add _)
  have w : ∀ a : Fin 2, 0 + (i a).val < S4x4096.size a := fun a =>
    Nat.lt_of_lt_of_le (Nat.add_lt_add_left (i a).isLt _) (h.2 a)
  let idx : S4x4096.Idx → BitVec 32 := fun j => BitVec.ofNat 32 (j 1).val
  have e1 : (Host.topK S4x3276 1 gt x h).1 i
      = (Host.sort2 S4x4096 1 (fun l r => gt l.1 r.1) x idx).1 (fun a : Fin 2 => (⟨0 + (i a).val, w a⟩ : Fin (S4x4096.size a))) := rfl
  have e2 : (Host.topK S4x3276 1 gt x h).2 i
      = (Host.sort2 S4x4096 1 (fun l r => gt l.1 r.1) x idx).2 (fun a : Fin 2 => (⟨0 + (i a).val, w a⟩ : Fin (S4x4096.size a))) := rfl
  rw [e1, e2, hj (fun _ => True) w]
  have e3 := sort2_apply gt x idx (i 0) (colR i)
  exact ⟨e3.1, e3.2⟩

theorem ref_apply (X : Vec Bits S16384 .f32) (i : S4x3276.Idx) :
    (refTop X).1 i = rowOf (i 0).val X (sortedFrom (relR X (i 0)) (colR i)).val
    ∧ (refTop X).2 i = BitVec.ofNat 32 (sortedFrom (relR X (i 0)) (colR i)).val := by
  have h := topK_apply (FloatOps.cmpfTotal (F := Bits) (φ := .f32) .gt)
    (shapeCast S4x4096 X shapeCasts_S16384_S4x4096) Cert.SortRef.Gen.sliceFits_S4x4096_S4x3276 i
  have e : (fun k k' : Fin 4096 => FloatOps.cmpfTotal (F := Bits) (φ := .f32) .gt
        (shapeCast S4x4096 X shapeCasts_S16384_S4x4096 (ixR (i 0) k))
        (shapeCast S4x4096 X shapeCasts_S16384_S4x4096 (ixR (i 0) k')) == 1#1) = relR X (i 0) := by
    funext k k'
    rw [cast_apply X (i 0) k, cast_apply X (i 0) k']
  rw [e] at h
  exact ⟨h.1.trans (cast_apply X (i 0) _), h.2⟩

/-- What the tiles leave, cut, is the reference's top k. -/
theorem cut_eq (X : Vec Bits S16384 .f32) (gv : Vec Bits S16384 .f32) (gp : Vec Bits S16384 .i32) (hX : InRange X) (h : SortedAll X gv gp) :
    cut gv = (refTop X).1 ∧ cut gp = (refTop X).2 := by
  have hr : ∀ i : S4x3276.Idx, cut gv i = (refTop X).1 i ∧ cut gp i = (refTop X).2 i := fun i => by
    obtain ⟨h1, h2⟩ := sorted_row (rowOf (i 0).val X) (rowOf (i 0).val gv) (rowOf (i 0).val gp) (fun j => hX _) (h (i 0)) (colR i)
      (relR X (i 0)) rfl
    rw [cut_apply, cut_apply, (ref_apply X i).1, (ref_apply X i).2]
    exact ⟨h1, h2⟩
  exact ⟨funext fun i => (hr i).1, funext fun i => (hr i).2⟩

theorem range_word (y : BitVec 32) (e : BitVec.ofBool ((0#32 : BitVec 32).sle y) &&& BitVec.ofBool (y.slt 1073741824#32) = 1#1) :
    y.toNat < 2 ^ 30 := by
  have h2 : y.slt 1073741824#32 = true := by
    cases hc : y.slt 1073741824#32
    · rw [hc] at e; revert e; cases (0#32 : BitVec 32).sle y <;> decide
    · rfl
  have h1 : (0#32 : BitVec 32).sle y = true := by
    cases hc : (0#32 : BitVec 32).sle y
    · rw [hc, h2] at e; revert e; decide
    · rfl
  rw [BitVec.slt_eq_decide, decide_eq_true_eq] at h2
  rw [BitVec.sle_eq_decide, decide_eq_true_eq] at h1
  have e0 : (0#32 : BitVec 32).toInt = 0 := by decide
  have e1 : (1073741824#32 : BitVec 32).toInt = 1073741824 := by decide
  rw [e1] at h2
  rw [e0] at h1
  rw [BitVec.toInt_eq_toNat_cond] at h1 h2
  have := y.isLt
  split at h1 <;> omega

/-- The precondition, read word by word. -/
theorem inRange_of_pre [Cert.Pre_probs_range.Facts] (X : Vec Bits S16384 .f32)
    (h : Cert.Pre_probs_range.fn (F := Bits) X = fun _ => 1#1) : InRange X := fun j => range_word (X j) (congrFun h j)

end Cert.Proof.Radix
-- ==== Proof.Score.lean ====
/-
  The TensorCore call: block by block it leaves the sigmoid of each token's score, over the extended reals the same
  function as the reference's product and sigmoid.
-/
module

public import proofs.«01_k».proof.Defs
public import proofs.«01_k».proof.Proof.Gen.ScoreIdeal.Value
public import proofs.«01_k».proof.Proof.Gen.ScoreRefIdeal.Run
public import Idealize.ShloMosaic.Lib.Pipeline.Value
public import Idealize.ShloMosaic.Lib.Pointwise
public import Idealize.ShloMosaic.Lib.Quiescent

@[expose] public section

noncomputable section

namespace Cert.Proof.Score

open Cert.ScoreIdeal Cert.ScoreIdeal.Gen Idealize.ShloMosaic Idealize.ShloMosaic.TcCoe Idealize.SL.Sem
open Idealize.ShloMosaic.Pipeline (Dat)

/-- A score's sigmoid. -/
def sig (s : EReal) : EReal := Ideal.div 1 (1 + Ideal.exp (-s))

/-- A row's product with the weights. -/
def score (X : FVec Ideal S16384x2048 .f32) (W : FVec Ideal S1x2048 .f32) (j : Fin 16384) : EReal :=
  ∑ k : Fin 2048, X (ix2 j k) * W (ix2 0 k)

/-- The probabilities of all the rows. -/
def probs (X : FVec Ideal S16384x2048 .f32) (W : FVec Ideal S1x2048 .f32) : FVec Ideal S1x16384 .f32 :=
  fun i => sig (score X W (i 1))

theorem hz : (![0, 0] : Fin 2 → Nat) = fun _ => 0 := funext fun a => by fin_cases a <;> rfl

/-- What one block computes, at a column. -/
theorem pay_apply (w : FVec Ideal S1x2048 .f32) (x : FVec Ideal S2048x2048 .f32) (b : Fin 2048) :
    k0_pay1 (F := Ideal) w x (ix2 (0 : Fin 1) b) = sig (∑ k : Fin 2048, x (ix2 b k) * w (ix2 (0 : Fin 1) k)) := by
  unfold k0_pay1 sig
  pointwise
  rw [sub_eq_add_neg, zero_add, add_comm]
  congr 5
  funext k
  exact mul_comm _ _

/-- One point's block of results. -/
theorem out_eq (x : Vec Ideal S2048x2048 .f32) (w : Vec Ideal S1x2048 .f32) : out0_2 (F := Ideal) x w = k0_pay1 w x := by
  unfold out0_2
  rw [View.canon_unit_zero hz, View.ld_unit_zero hz, View.ld_unit_zero hz]

variable (m : (ℓ : Loc nD τ Cert.ScoreIdeal.sig) → Buf (Elt Ideal) ℓ) (ρ : Dev nD → PrngReg)

abbrev rowsX (c : Dev nD) : FVec Ideal S16384x2048 .f32 :=
  shapeCast S16384x2048 (m ((c : Thread nD τ).loc main_arg0)) shapeCasts_S4x4096x2048_S16384x2048

abbrev wts (c : Dev nD) : FVec Ideal S1x2048 .f32 := m ((c : Thread nD τ).loc main_arg1)

theorem V_x (c : Dev nD) : V m c main_v0 = rowsX m c := by
  unfold V hostOps0
  rfl

theorem idx_facts : ∀ t : Fin cfg0.N, win0_0.index t 0 = t.val ∧ win0_0.index t 1 = 0 ∧ win0_1.index t 0 = 0 ∧ win0_1.index t 1 = 0
    ∧ win0_2.index t 0 = 0 ∧ win0_2.index t 1 = t.val :=
  (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = t.val)

theorem xsize_facts : ∀ t : Fin cfg0.N, win0_2.xsize (grid0.coords t) 0 = 1 ∧ win0_2.xsize (grid0.coords t) 1 = 2048 :=
  (by decide +kernel : ∀ t : Fin grid0.N, win0_2.xsize (grid0.coords t) 0 = 1 ∧ win0_2.xsize (grid0.coords t) 1 = 2048)

theorem row_lt (t : Fin cfg0.N) (b : Fin 2048) : t.val * 2048 + b.val < 16384 := by
  have hN : cfg0.N = 8 := N_0
  have := t.isLt; have := b.isLt
  omega

/-- A point's block of tokens is its 2048 rows of the tokens. -/
theorem iblk_x (c : Dev nD) (t : Fin cfg0.N) (b k : Fin 2048) :
    (iblk m c 0 t : Vec Ideal S2048x2048 .f32) (ix2 b k) = rowsX m c (ix2 ⟨t.val * 2048 + b.val, row_lt t b⟩ k) := by
  unfold iblk
  rw [View.read_apply]
  refine (congrFun (V_x m c) _).trans (congrArg (rowsX m c) ?_)
  obtain ⟨h0, h1, -⟩ := idx_facts t
  funext a
  apply Fin.ext
  match a with
  | ⟨0, _⟩ => show win0_0.index t 0 * 2048 + 1 * b.val = t.val * 2048 + b.val; rw [h0]; omega
  | ⟨1, _⟩ => show win0_0.index t 1 * 2048 + 1 * k.val = k.val; rw [h1]; omega

/-- Every point has all the weights. -/
theorem iblk_w (c : Dev nD) (t : Fin cfg0.N) (k : Fin 2048) :
    (iblk m c 1 t : Vec Ideal S1x2048 .f32) (ix2 (0 : Fin 1) k) = wts m c (ix2 (0 : Fin 1) k) := by
  unfold iblk
  rw [View.read_apply]
  refine (congrFun (V_main_arg1 m c) _).trans (congrArg (wts m c) ?_)
  obtain ⟨-, -, h0, h1, -⟩ := idx_facts t
  funext a
  apply Fin.ext
  match a with
  | ⟨0, _⟩ => show win0_1.index t 0 * 1 + 1 * 0 = 0; rw [h0]
  | ⟨1, _⟩ => show win0_1.index t 1 * 2048 + 1 * k.val = k.val; rw [h1]; omega

/-- What a point writes back is its block of the probabilities. -/
theorem flushed_eq (c : Dev nD) (t : Fin cfg0.N) (hf : (cfg0.win 2).flush t = true) :
    (dats m 0 c).flushed 2 t = ((cfg0.win 2).blk t).view.read (Elt Ideal) (probs (rowsX m c) (wts m c)) := by
  rw [Cert.ScoreIdeal.Value.flushed2, out_eq]
  obtain ⟨-, -, -, -, h0, h1⟩ := idx_facts t
  have key : ∀ b : Fin 2048, k0_pay1 (F := Ideal) (iblk m c 1 t) (iblk m c 0 t) (ix2 (0 : Fin 1) b)
      = probs (rowsX m c) (wts m c) (ix2 (0 : Fin 1) ⟨t.val * 2048 + b.val, row_lt t b⟩) := fun b => by
    rw [pay_apply]
    unfold probs score
    simp only [iblk_x, iblk_w]
    rfl
  funext j
  rw [View.read_apply]
  have hb : (j 1).val < 2048 := lt_of_lt_of_le (j 1).isLt (xsize_facts t).2.le
  have ha : (j 0).val < 1 := lt_of_lt_of_le (j 0).isLt (xsize_facts t).1.le
  refine Eq.trans (congrArg (k0_pay1 (F := Ideal) (iblk m c 1 t) (iblk m c 0 t)) (a₂ := ix2 (0 : Fin 1) ⟨(j 1).val, hb⟩) ?_)
    ((key ⟨(j 1).val, hb⟩).trans (congrArg (probs (rowsX m c) (wts m c)) ?_))
  · funext a
    apply Fin.ext
    match a with
    | ⟨0, _⟩ => show (j 0).val = 0; omega
    | ⟨1, _⟩ => rfl
  · funext a
    apply Fin.ext
    match a with
    | ⟨0, _⟩ => show 0 = win0_2.index t 0 * 1 + 1 * (j 0).val; rw [h0]; omega
    | ⟨1, _⟩ => show t.val * 2048 + (j 1).val = win0_2.index t 1 * 2048 + 1 * (j 1).val; rw [h1]; omega

/-- The run leaves the probabilities of all the rows. -/
theorem final (c : Dev nD) : (dats m 0 c).arrAt 2 cfg0.N = probs (rowsX m c) (wts m c) :=
  (dats m 0 c).arrAt_eq_of_cover 2 (probs (rowsX m c) (wts m c)) (flushed_eq m c) fun i => by
    have hN : cfg0.N = 8 := N_0
    have h0 : (i 0 : Nat) < 1 := (i 0).isLt
    have h1 : (i 1 : Nat) < 16384 := (i 1).isLt
    refine ⟨⟨(i 1).val / 2048, by omega⟩, flush0_2 _, ?_⟩
    obtain ⟨-, -, -, -, e0, e1⟩ := idx_facts ⟨(i 1).val / 2048, by omega⟩
    obtain ⟨z0, z1⟩ := xsize_facts ⟨(i 1).val / 2048, by omega⟩
    generalize ht : (⟨(i 1).val / 2048, by omega⟩ : Fin cfg0.N) = t at *
    have hv : t.val = (i 1).val / 2048 := by rw [← ht]
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + win0_2.xsize (grid0.coords t) 0
                rw [e0, z0]; omega
    | ⟨1, _⟩ => show win0_2.index t 1 * 2048 ≤ (i 1 : Nat) ∧ (i 1 : Nat) < win0_2.index t 1 * 2048 + win0_2.xsize (grid0.coords t) 1
                rw [e1, z1, hv]; omega

abbrev refProbs (x : FVec Ideal Cert.ScoreRefIdeal.S4x4096x2048 .f32) (w : FVec Ideal Cert.ScoreRefIdeal.S1x2048 .f32) :
    FVec Ideal Cert.ScoreRefIdeal.S1x16384 .f32 :=
  shapeCast _ (Host.divf (broadcastInDim Cert.ScoreRefIdeal.S4x4096 ![] Cert.ScoreRefIdeal.Gen.bcast_S_S4x4096 (constant Cert.ScoreRefIdeal.S_ .f32 0x3F800000#32)) (addf (broadcastInDim Cert.ScoreRefIdeal.S4x4096 ![] Cert.ScoreRefIdeal.Gen.bcast_S_S4x4096 (constant Cert.ScoreRefIdeal.S_ .f32 0x3F800000#32)) (Host.exp (Host.negf (shapeCast _ (Host.dotGeneral Cert.ScoreRefIdeal.dot_S4x4096x2048_S1x2048_S4x4096x1_2_1_01_0_n_n none x w) Cert.ScoreRefIdeal.Gen.shapeCasts_S4x4096x1_S4x4096))))) Cert.ScoreRefIdeal.Gen.shapeCasts_S4x4096_S1x16384

/-- The reference's probabilities are the same. -/
theorem ref_eq (x : FVec Ideal S4x4096x2048 .f32) (w : FVec Ideal S1x2048 .f32) :
    refProbs x w = probs (shapeCast S16384x2048 x shapeCasts_S4x4096x2048_S16384x2048) w := by
  funext i
  have hi : i = ix2 (0 : Fin 1) (i 1 : Fin 16384) := by
    funext a
    match a with
    | 0 => exact Subsingleton.elim (α := Fin 1) _ _
    | 1 => rfl
  rw [hi]
  generalize (i 1 : Fin 16384) = n
  unfold refProbs probs sig score
  pointwise

end Cert.Proof.Score
-- ==== Proof.lean ====
/-
  The proof of the certificate's claims. The sorting tiles' run is Proof/Launch.lean's `run_main`, over any float model;
  Proof/Value.lean reads what it leaves, on probabilities in range, as the reference's top k.
-/
module

public import proofs.«01_k».proof.Defs
public import proofs.«01_k».proof.Proof.Gen.Sort
public import proofs.«01_k».proof.Proof.Gen.Sort.Skeleton
public import proofs.«01_k».proof.Proof.Gen.SortRef
public import proofs.«01_k».proof.Proof.Gen.SortRef.Run
public import proofs.«01_k».proof.Proof.Gen.Score
public import proofs.«01_k».proof.Proof.Gen.Score.Frame
public import proofs.«01_k».proof.Proof.Gen.ScoreIdeal.Value
public import proofs.«01_k».proof.Proof.Gen.ScoreRefIdeal.Run
public import proofs.«01_k».proof.Proof.Launch
public import proofs.«01_k».proof.Proof.Value
public import proofs.«01_k».proof.Proof.Score
public import Idealize.ShloMosaic.Adequacy
public import Idealize.ShloMosaic.Init

@[expose] public section

noncomputable section

namespace Cert.Proof

open Idealize.ShloMosaic Idealize.SL.Sem Cert.Sort

theorem sort_run (m : (ℓ : Loc Cert.Sort.nD Cert.Sort.τ Cert.Sort.sig) → Buf (Elt Bits) ℓ) (g : Dev Cert.Sort.nD → PrngReg) :
    θ_run (Cert.Sort.defs (F := Bits)) (Cert.Sort.threads (F := Bits)) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0))
      ∧ r.2.sem = fun _ => 0) :=
  (θ_run _ _ _).mono (fun _ h => ⟨fun c => (h.1 c).1, h.2⟩) (Radix.run_main (F := Bits) m g)

theorem preFacts : Cert.Pre_probs_range.Facts := ⟨by decide⟩

theorem ref_quiet [Cert.Pre_probs_range.Facts] : Cert.quiescent_SortRef (hSortRef := Cert.SortRef.Gen.facts) := fun m g _ =>
  (θ_run _ _ _).mono (fun r h => ⟨fun c => (h c).2.2.2, Idealize.ShloMosaic.sem_eq_zero_of_no_sems (by decide) r.2⟩)
    (Cert.SortRef.Value.run (F := Bits) m g)

theorem sort_bitexact [Cert.Pre_probs_range.Facts] :
    Cert.bitexact_Sort_SortRef_pre_probs_range (hSort := Cert.Sort.Gen.facts) (hSortRef := Cert.SortRef.Gen.facts) := by
  intro m g m' g' hpre hm
  refine ⟨fun c => (Radix.refTop (m (Radix.xLoc c))).1, fun c => (Radix.refTop (m (Radix.xLoc c))).2,
    fun c => constantI S_ 32 3276#32, ?_, ?_⟩
  · refine (θ_run _ _ _).mono (fun r h c => ?_) (Radix.run_main (F := Bits) m g)
    obtain ⟨hx, gv, gp, hs, h2, h4, hc⟩ := h.1 c
    obtain ⟨e1, e2⟩ := Radix.cut_eq (m (Radix.xLoc c)) gv gp (Radix.inRange_of_pre _ (hpre c)) hs
    exact ⟨h2.trans e1, h4.trans e2, hc, hx⟩
  · refine (θ_run _ _ _).mono (fun r h c => ?_) (Cert.SortRef.Value.run (F := Bits) m' g')
    obtain ⟨h1, h2, h3, h4⟩ := h c
    rw [hm c] at h1 h2
    exact ⟨h1, h2, h3, h4⟩

theorem score_ref_quiet : Cert.quiescent_ScoreRefIdeal (hScoreRefIdeal := Cert.ScoreRefIdeal.Gen.facts) := fun m g _ =>
  (θ_run _ _ _).mono (fun r h => ⟨fun c => (h c).2, Idealize.ShloMosaic.sem_eq_zero_of_no_sems (by decide) r.2⟩)
    (Cert.ScoreRefIdeal.Value.run (F := Ideal) m g)

theorem score_algebraic :
    Cert.algebraic_ScoreIdeal_ScoreRefIdeal (hScoreIdeal := Cert.ScoreIdeal.Gen.facts) (hScoreRefIdeal := Cert.ScoreRefIdeal.Gen.facts) := by
  intro m g m' g' _ hm
  refine ⟨fun c => Score.probs (Score.rowsX m c) (Score.wts m c), ?_, ?_⟩
  · refine (θ_run _ _ _).mono (fun r h c => ?_) (Cert.ScoreIdeal.Value.run_blocks (F := Ideal) m g)
    obtain ⟨h1, h2, h3⟩ := h c
    exact ⟨h1.trans (Score.final m c), h2, h3⟩
  · refine (θ_run _ _ _).mono (fun r h c => ?_) (Cert.ScoreRefIdeal.Value.run (F := Ideal) m' g')
    obtain ⟨h1, h2, h3⟩ := h c
    rw [(hm c).1, (hm c).2] at h1
    exact ⟨h1.trans (Score.ref_eq _ _), h2, h3⟩

theorem claim : Cert.Claim :=
  ⟨Cert.Sort.Gen.facts, Cert.SortRef.Gen.facts, Cert.Score.Gen.facts, Cert.ScoreIdeal.Gen.facts, Cert.ScoreRefIdeal.Gen.facts, preFacts,
    fun m g _ => sort_run m g, fun m g _ => sort_run m g, @ref_quiet preFacts,
    fun m g _ => Cert.Score.Gen.frame m g, fun m g _ => Cert.ScoreIdeal.Gen.frame m g, score_ref_quiet,
    @sort_bitexact preFacts, trivial, score_algebraic⟩

end Cert.Proof

end
